-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_labels_in_range_bank_finite [hPre_labels_in_range_bank_finite : Cert.Pre_labels_in_range_bank_finite.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_bank_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_labels_in_range_bank_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_bank_finite [hPre_labels_in_range_bank_finite : Cert.Pre_labels_in_range_bank_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_bank_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_labels_in_range_bank_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_in_range_bank_finite [hKernelIdeal : Cert.KernelIdeal.Facts] [hPre_labels_in_range_bank_finite : Cert.Pre_labels_in_range_bank_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_bank_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range_bank_finite [hReferenceIdeal : Cert.ReferenceIdeal.Facts] [hPre_labels_in_range_bank_finite : Cert.Pre_labels_in_range_bank_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_bank_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_t" .f32 0x41649249#32 ((134217728 / 9395241 : ℝ) : EReal)

def algebraic_KernelIdeal_ReferenceIdeal_pre_labels_in_range_bank_finite [hKernelIdeal : Cert.KernelIdeal.Facts] [hReferenceIdeal : Cert.ReferenceIdeal.Facts] [hPre_labels_in_range_bank_finite : Cert.Pre_labels_in_range_bank_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_bank_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_labels_in_range_bank_finite : Cert.Pre_labels_in_range_bank_finite.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_labels_in_range_bank_finite (hKernelIdeal := hKernelIdeal) (hPre_labels_in_range_bank_finite := hPre_labels_in_range_bank_finite)
    ∧ quiescent_ReferenceIdeal (hReferenceIdeal := hReferenceIdeal)
    ∧ quiescent_ReferenceIdeal_pre_labels_in_range_bank_finite (hReferenceIdeal := hReferenceIdeal) (hPre_labels_in_range_bank_finite := hPre_labels_in_range_bank_finite)
    ∧ preserves_Kernel_KernelIdeal
    ∧ algebraic_KernelIdeal_ReferenceIdeal_pre_labels_in_range_bank_finite (hKernelIdeal := hKernelIdeal) (hReferenceIdeal := hReferenceIdeal) (hPre_labels_in_range_bank_finite := hPre_labels_in_range_bank_finite)
-- ==== Pre_labels_in_range.lean ====
abbrev S1024x512 : Shape := ⟨2, ![1024, 512]⟩
abbrev S1024 : Shape := ⟨1, ![1024]⟩
abbrev S1000x200x512 : Shape := ⟨3, ![1000, 200, 512]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1024x512 .f32) (main_arg1 : IVec S1024 32) (main_arg2 : FVec F S1000x200x512 .f32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 1000#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Pre_labels_in_range_bank_finite.lean ====
abbrev S1024x512 : Shape := ⟨2, ![1024, 512]⟩
abbrev S1024 : Shape := ⟨1, ![1024]⟩
abbrev S1000x200x512 : Shape := ⟨3, ![1000, 200, 512]⟩
abbrev S_ : Shape := ⟨0, ![]⟩

class Facts : Prop where
  bcast_S_S1024 : S_.BroadcastsInDim S1024 (![] : Fin 0 → Fin S1024.rank)
  bcast_S_S1000x200x512 : S_.BroadcastsInDim S1000x200x512 (![] : Fin 0 → Fin S1000x200x512.rank)
  reducesTo_S1000x200x512_S_d0_1_2 : S1000x200x512.ReducesTo [0, 1, 2] S_
  h_S_ : 0 < S_.numel

variable [Facts]

def fn {F : FTy → Type} [FloatOps F] (main_arg0 : FVec F S1024x512 .f32) (main_arg1 : IVec S1024 32) (main_arg2 : FVec F S1000x200x512 .f32) : IVec S1024 1 × IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 1000#32
  let main_v2 : IVec S1024 32 := broadcastInDim S1024 ![] bcast_S_S1024 main_c_0
  let main_v3 : IVec S1024 1 := cmpi .slt main_arg1 main_v2
  let main_v4 : IVec S1024 1 := andi main_v1 main_v3
  let main_v5 : FVec F S1000x200x512 .f32 := Host.absf main_arg2
  let main_cst : FVec F S_ .f32 := constant S_ .f32 0x7F800000#32
  let main_v6 : FVec F S1000x200x512 .f32 := broadcastInDim S1000x200x512 ![] bcast_S_S1000x200x512 main_cst
  let main_v7 : IVec S1000x200x512 1 := cmpf .olt main_v5 main_v6
  let main_c_1 : IVec S_ 1 := constantI S_ 1 1#1
  let main_v8 : IVec S_ 1 := (fun x v => Host.reduce IntOp.andi x v reducesTo_S1000x200x512_S_d0_1_2 h_S_) main_v7 main_c_1
  (main_v4, main_v8)
-- ==== Kernel.lean ====
abbrev S1024x512 : Shape := ⟨2, ![1024, 512]⟩
abbrev S1024 : Shape := ⟨1, ![1024]⟩
abbrev S1000x200x512 : Shape := ⟨3, ![1000, 200, 512]⟩
abbrev S1024x1 : Shape := ⟨2, ![1024, 1]⟩
abbrev S1x1024 : Shape := ⟨2, ![1, 1024]⟩
abbrev S1024x1024 : Shape := ⟨2, ![1024, 1024]⟩
abbrev S800000x128 : Shape := ⟨2, ![800000, 128]⟩
abbrev S_ : Shape := ⟨0, ![]⟩
abbrev S4 : Shape := ⟨1, ![4]⟩
abbrev S1x4 : Shape := ⟨2, ![1, 4]⟩
abbrev S1024x4 : Shape := ⟨2, ![1024, 4]⟩
abbrev S4096 : Shape := ⟨1, ![4096]⟩
abbrev S4096x128 : Shape := ⟨2, ![4096, 128]⟩
abbrev S128 : Shape := ⟨1, ![128]⟩
abbrev S128x128 : Shape := ⟨2, ![128, 128]⟩
abbrev S800 : Shape := ⟨1, ![800]⟩
abbrev S1x800 : Shape := ⟨2, ![1, 800]⟩
abbrev S40x56x512 : Shape := ⟨3, ![40, 56, 512]⟩
abbrev S40x20x512 : Shape := ⟨3, ![40, 20, 512]⟩
abbrev S800x512 : Shape := ⟨2, ![800, 512]⟩
abbrev S1024x800 : Shape := ⟨2, ![1024, 800]⟩
abbrev S40x50x512 : Shape := ⟨3, ![40, 50, 512]⟩
abbrev S40x512 : Shape := ⟨2, ![40, 512]⟩
abbrev S1024x40 : Shape := ⟨2, ![1024, 40]⟩
abbrev S1x1 : Shape := ⟨2, ![1, 1]⟩
abbrev S256x512 : Shape := ⟨2, ![256, 512]⟩
abbrev S256x1 : Shape := ⟨2, ![256, 1]⟩
abbrev S256x1024 : Shape := ⟨2, ![256, 1024]⟩
abbrev S256 : Shape := ⟨1, ![256]⟩
abbrev S1 : Shape := ⟨1, ![1]⟩

abbrev nBuf : Table → Nat
  | .hbm => 54
  | .local .tc .vmem => 41
  | .local .scVector .vmem => 2
  | _ => 0

abbrev bufTy : (tb : Table) → Fin (nBuf tb) → BufTy
  | .hbm, ⟨0, _⟩ => ⟨S1024x512, .f32⟩
  | .hbm, ⟨1, _⟩ => ⟨S1024, .i32⟩
  | .hbm, ⟨2, _⟩ => ⟨S1000x200x512, .f32⟩
  | .hbm, ⟨3, _⟩ => ⟨S1024x1, .i32⟩
  | .hbm, ⟨4, _⟩ => ⟨S1x1024, .i32⟩
  | .hbm, ⟨5, _⟩ => ⟨S1024x512, .f32⟩
  | .hbm, ⟨6, _⟩ => ⟨S1024x512, .bf16⟩
  | .hbm, ⟨7, _⟩ => ⟨S1024x1, .i32⟩
  | .hbm, ⟨8, _⟩ => ⟨S1024x1, .i32⟩
  | .hbm, ⟨9, _⟩ => ⟨S1024x1, .i32⟩
  | .hbm, ⟨10, _⟩ => ⟨S1024x1, .i32⟩
  | .hbm, ⟨11, _⟩ => ⟨S800000x128, .f32⟩
  | .hbm, ⟨12, _⟩ => ⟨S_, .i32⟩
  | .hbm, ⟨13, _⟩ => ⟨S1024x1, .i32⟩
  | .hbm, ⟨14, _⟩ => ⟨S1024x1, .i32⟩
  | .hbm, ⟨15, _⟩ => ⟨S4, .i32⟩
  | .hbm, ⟨16, _⟩ => ⟨S1x4, .i32⟩
  | .hbm, ⟨17, _⟩ => ⟨S1024x4, .i32⟩
  | .hbm, ⟨18, _⟩ => ⟨S1024x4, .i32⟩
  | .hbm, ⟨19, _⟩ => ⟨S1024x4, .i32⟩
  | .hbm, ⟨20, _⟩ => ⟨S4096, .i32⟩
  | .hbm, ⟨21, _⟩ => ⟨S4096x128, .f32⟩
  | .hbm, ⟨22, _⟩ => ⟨S1024x512, .f32⟩
  | .hbm, ⟨23, _⟩ => ⟨S1024x1, .i32⟩
  | .hbm, ⟨24, _⟩ => ⟨S800, .i32⟩
  | .hbm, ⟨25, _⟩ => ⟨S_, .i32⟩
  | .hbm, ⟨26, _⟩ => ⟨S_, .i32⟩
  | .hbm, ⟨27, _⟩ => ⟨S800, .i32⟩
  | .hbm, ⟨28, _⟩ => ⟨S800, .i32⟩
  | .hbm, ⟨29, _⟩ => ⟨S800, .i32⟩
  | .hbm, ⟨30, _⟩ => ⟨S_, .i32⟩
  | .hbm, ⟨31, _⟩ => ⟨S800, .i32⟩
  | .hbm, ⟨32, _⟩ => ⟨S800, .i1⟩
  | .hbm, ⟨33, _⟩ => ⟨S800, .i32⟩
  | .hbm, ⟨34, _⟩ => ⟨S800, .i32⟩
  | .hbm, ⟨35, _⟩ => ⟨S_, .i32⟩
  | .hbm, ⟨36, _⟩ => ⟨S800, .i32⟩
  | .hbm, ⟨37, _⟩ => ⟨S800, .i1⟩
  | .hbm, ⟨38, _⟩ => ⟨S800, .i1⟩
  | .hbm, ⟨39, _⟩ => ⟨S_, .i32⟩
  | .hbm, ⟨40, _⟩ => ⟨S800, .i32⟩
  | .hbm, ⟨41, _⟩ => ⟨S800, .i32⟩
  | .hbm, ⟨42, _⟩ => ⟨S800, .i32⟩
  | .hbm, ⟨43, _⟩ => ⟨S1x800, .i32⟩
  | .hbm, ⟨44, _⟩ => ⟨S1024x1, .f32⟩
  | .hbm, ⟨45, _⟩ => ⟨S1024x1, .f32⟩
  | .hbm, ⟨46, _⟩ => ⟨S1024x1, .f32⟩
  | .hbm, ⟨47, _⟩ => ⟨S1024x1, .f32⟩
  | .hbm, ⟨48, _⟩ => ⟨S1x1024, .i32⟩
  | .hbm, ⟨49, _⟩ => ⟨S1x1024, .i32⟩
  | .hbm, ⟨50, _⟩ => ⟨S1x1024, .i32⟩
  | .hbm, ⟨51, _⟩ => ⟨S1024x1, .i32⟩
  | .hbm, ⟨52, _⟩ => ⟨S1x1, .f32⟩
  | .hbm, ⟨53, _⟩ => ⟨S_, .f32⟩
  | .local .tc .vmem, ⟨0, _⟩ => ⟨S1024x512, .f32⟩
  | .local .tc .vmem, ⟨1, _⟩ => ⟨S1024x1, .i32⟩
  | .local .tc .vmem, ⟨2, _⟩ => ⟨S1x1024, .i32⟩
  | .local .tc .vmem, ⟨3, _⟩ => ⟨S1024x512, .f32⟩
  | .local .tc .vmem, ⟨4, _⟩ => ⟨S1024x512, .bf16⟩
  | .local .tc .vmem, ⟨5, _⟩ => ⟨S1024x1, .i32⟩
  | .local .tc .vmem, ⟨6, _⟩ => ⟨S1024x1, .i32⟩
  | .local .tc .vmem, ⟨7, _⟩ => ⟨S1024x1, .i32⟩
  | .local .tc .vmem, ⟨8, _⟩ => ⟨S1024x1, .i32⟩
  | .local .tc .vmem, ⟨9, _⟩ => ⟨S1x800, .i32⟩
  | .local .tc .vmem, ⟨10, _⟩ => ⟨S40x56x512, .f32⟩
  | .local .tc .vmem, ⟨11, _⟩ => ⟨S40x56x512, .f32⟩
  | .local .tc .vmem, ⟨12, _⟩ => ⟨S1024x512, .f32⟩
  | .local .tc .vmem, ⟨13, _⟩ => ⟨S1024x512, .bf16⟩
  | .local .tc .vmem, ⟨14, _⟩ => ⟨S1024x1, .i32⟩
  | .local .tc .vmem, ⟨15, _⟩ => ⟨S1024x1, .f32⟩
  | .local .tc .vmem, ⟨16, _⟩ => ⟨S1024x1, .f32⟩
  | .local .tc .vmem, ⟨17, _⟩ => ⟨S1024x1, .f32⟩
  | .local .tc .vmem, ⟨18, _⟩ => ⟨S1024x1, .f32⟩
  | .local .tc .vmem, ⟨19, _⟩ => ⟨S256x512, .f32⟩
  | .local .tc .vmem, ⟨20, _⟩ => ⟨S256x512, .f32⟩
  | .local .tc .vmem, ⟨21, _⟩ => ⟨S1024x512, .f32⟩
  | .local .tc .vmem, ⟨22, _⟩ => ⟨S1024x512, .f32⟩
  | .local .tc .vmem, ⟨23, _⟩ => ⟨S256x1, .i32⟩
  | .local .tc .vmem, ⟨24, _⟩ => ⟨S256x1, .i32⟩
  | .local .tc .vmem, ⟨25, _⟩ => ⟨S1x1024, .i32⟩
  | .local .tc .vmem, ⟨26, _⟩ => ⟨S1x1024, .i32⟩
  | .local .tc .vmem, ⟨27, _⟩ => ⟨S1x1024, .i32⟩
  | .local .tc .vmem, ⟨28, _⟩ => ⟨S256x1, .i32⟩
  | .local .tc .vmem, ⟨29, _⟩ => ⟨S256x1, .i32⟩
  | .local .tc .vmem, ⟨30, _⟩ => ⟨S256x1, .i32⟩
  | .local .tc .vmem, ⟨31, _⟩ => ⟨S256x1, .i32⟩
  | .local .tc .vmem, ⟨32, _⟩ => ⟨S256x1, .f32⟩
  | .local .tc .vmem, ⟨33, _⟩ => ⟨S256x1, .f32⟩
  | .local .tc .vmem, ⟨34, _⟩ => ⟨S256x1, .f32⟩
  | .local .tc .vmem, ⟨35, _⟩ => ⟨S256x1, .f32⟩
  | .local .tc .vmem, ⟨36, _⟩ => ⟨S256x1, .f32⟩
  | .local .tc .vmem, ⟨37, _⟩ => ⟨S256x1, .f32⟩
  | .local .tc .vmem, ⟨38, _⟩ => ⟨S256x1, .f32⟩
  | .local .tc .vmem, ⟨39, _⟩ => ⟨S256x1, .f32⟩
  | .local .tc .vmem, ⟨40, _⟩ => ⟨S1x1, .f32⟩
  | .local .scVector .vmem, ⟨0, _⟩ => ⟨S128, .i32⟩
  | .local .scVector .vmem, ⟨1, _⟩ => ⟨S128x128, .f32⟩
  | _, _ => ⟨S1024x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v16 : Ref sig .tc := ⟨.hbm, 42, rfl⟩
abbrev main_v17 : Ref sig .tc := ⟨.hbm, 43, rfl⟩
abbrev main_v18_0 : Ref sig .tc := ⟨.hbm, 44, rfl⟩
abbrev main_v18_1 : Ref sig .tc := ⟨.hbm, 45, rfl⟩
abbrev main_v18_2 : Ref sig .tc := ⟨.hbm, 46, rfl⟩
abbrev main_v18_3 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v3_scv : Ref sig .scVector := ⟨.hbm, 11, rfl⟩
abbrev main_v11_scv : Ref sig .scVector := ⟨.hbm, 20, rfl⟩
abbrev main_v12_scv : Ref sig .scVector := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc3_stg8_0 : Ref sig .tc := ⟨.vmem, 30, rfl⟩
abbrev cc3_stg8_1 : Ref sig .tc := ⟨.vmem, 31, rfl⟩
abbrev cc3_stg9_0 : Ref sig .tc := ⟨.vmem, 32, rfl⟩
abbrev cc3_stg9_1 : Ref sig .tc := ⟨.vmem, 33, rfl⟩
abbrev cc3_stg10_0 : Ref sig .tc := ⟨.vmem, 34, rfl⟩
abbrev cc3_stg10_1 : Ref sig .tc := ⟨.vmem, 35, rfl⟩
abbrev cc3_stg11_0 : Ref sig .tc := ⟨.vmem, 36, rfl⟩
abbrev cc3_stg11_1 : Ref sig .tc := ⟨.vmem, 37, rfl⟩
abbrev cc3_stg12_0 : Ref sig .tc := ⟨.vmem, 38, rfl⟩
abbrev cc3_stg12_1 : Ref sig .tc := ⟨.vmem, 39, rfl⟩
abbrev cc3_stg13_0 : Ref sig .tc := ⟨.vmem, 40, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc2_sem0_0 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem7_1 : DmaSem sig := 32
abbrev cc3_sem8_0 : DmaSem sig := 33
abbrev cc3_sem8_1 : DmaSem sig := 34
abbrev cc3_sem9_0 : DmaSem sig := 35
abbrev cc3_sem9_1 : DmaSem sig := 36
abbrev cc3_sem10_0 : DmaSem sig := 37
abbrev cc3_sem10_1 : DmaSem sig := 38
abbrev cc3_sem11_0 : DmaSem sig := 39
abbrev cc3_sem11_1 : DmaSem sig := 40
abbrev cc3_sem12_0 : DmaSem sig := 41
abbrev cc3_sem12_1 : DmaSem sig := 42
abbrev cc3_sem13_0 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid2 : Pipeline.Grid := ⟨1, ![25], ![false]⟩

def k2_cond1 (i : grid2.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_21 : BitVec 32 := 0#32
  let v49 : BitVec 1 := Scalar.cmpi .ne v48 c0_i32_21
  v49

def k2_cond2 (i : grid2.Coords) : BitVec 1 :=
  let arg0 : BitVec 32 := BitVec.ofNat 32 (i 0).val
  let c0_i32_22 : BitVec 32 := 0#32
  let v50 : BitVec 1 := Scalar.cmpi .sgt arg0 c0_i32_22
  let v51 : BitVec 32 := Scalar.extui v50
  let c0_i32_23 : BitVec 32 := 0#32
  let v52 : BitVec 1 := Scalar.cmpi .ne v51 c0_i32_23
  v52

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x800 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S40x56x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![4], ![false]⟩

def k3_cond1 (i : grid3.Coords) : BitVec 1 :=
  let arg0 : BitVec 32 := BitVec.ofNat 32 (i 0).val
  let c0_i32_57 : BitVec 32 := 0#32
  let v138 : BitVec 1 := Scalar.cmpi .eq arg0 c0_i32_57
  let v139 : BitVec 32 := Scalar.extui v138
  let c0_i32_58 : BitVec 32 := 0#32
  let v140 : BitVec 1 := Scalar.cmpi .ne v139 c0_i32_58
  v140

def k3_cond2 (i : grid3.Coords) : BitVec 1 :=
  let arg0 : BitVec 32 := BitVec.ofNat 32 (i 0).val
  let c0_i32_59 : BitVec 32 := 0#32
  let v141 : BitVec 1 := Scalar.cmpi .sgt arg0 c0_i32_59
  let v142 : BitVec 32 := Scalar.extui v141
  let c0_i32_60 : BitVec 32 := 0#32
  let v143 : BitVec 1 := Scalar.cmpi .ne v142 c0_i32_60
  v143

def k3_cond3 (i : grid3.Coords) : BitVec 1 :=
  let arg0 : BitVec 32 := BitVec.ofNat 32 (i 0).val
  let c3_i32 : BitVec 32 := 3#32
  let v144 : BitVec 1 := Scalar.cmpi .eq arg0 c3_i32
  let v145 : BitVec 32 := Scalar.extui v144
  let c0_i32_61 : BitVec 32 := 0#32
  let v146 : BitVec 1 := Scalar.cmpi .ne v145 c0_i32_61
  v146

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1024 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .i32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024 .i32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S256x1 .i32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x1 .i32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S256x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S256x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S256x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S256x1 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 1 → Memref sig .tc .vmem S1x1 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_t" => some ((134217728 / 9395241 : ℝ) : EReal)
  | _ => none
-- ==== ReferenceIdeal.lean ====
abbrev S1024x512 : Shape := ⟨2, ![1024, 512]⟩
abbrev S1024 : Shape := ⟨1, ![1024]⟩
abbrev S1000x200x512 : Shape := ⟨3, ![1000, 200, 512]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1024x2 : Shape := ⟨2, ![1024, 2]⟩
abbrev S512x1024 : Shape := ⟨2, ![512, 1024]⟩
abbrev S1024x50x512 : Shape := ⟨3, ![1024, 50, 512]⟩
abbrev S1024x50 : Shape := ⟨2, ![1024, 50]⟩
abbrev S1000x20x512 : Shape := ⟨3, ![1000, 20, 512]⟩
abbrev S20000x512 : Shape := ⟨2, ![20000, 512]⟩
abbrev S512x20000 : Shape := ⟨2, ![512, 20000]⟩
abbrev S1024x20000 : Shape := ⟨2, ![1024, 20000]⟩
abbrev S1000 : Shape := ⟨1, ![1000]⟩
abbrev S1000x20 : Shape := ⟨2, ![1000, 20]⟩
abbrev S20000 : Shape := ⟨1, ![20000]⟩
abbrev S1x20000 : Shape := ⟨2, ![1, 20000]⟩

abbrev nBuf : Space → Nat
  | .hbm => 184
  | .vmem => 0
  | .smem => 0
  | _ => 0

abbrev hbmTy0_0 (i : Nat) : BufTy := match i % 128 with
  | 0 => ⟨S1024x512, .f32⟩
  | 1 => ⟨S1024, .i32⟩
  | 2 => ⟨S1000x200x512, .f32⟩
  | 3 => ⟨S1024x512, .f32⟩
  | 4 => ⟨S_, .f32⟩
  | 5 => ⟨S1024, .f32⟩
  | 6 => ⟨S1024x1, .f32⟩
  | 7 => ⟨S1024x1, .f32⟩
  | 8 => ⟨S_, .f32⟩
  | 9 => ⟨S1024x1, .f32⟩
  | 10 => ⟨S1024x1, .f32⟩
  | 11 => ⟨S1024x512, .f32⟩
  | 12 => ⟨S1024x512, .f32⟩
  | 13 => ⟨S1024x1, .i32⟩
  | 14 => ⟨S1x1024, .i32⟩
  | 15 => ⟨S1024x1024, .i32⟩
  | 16 => ⟨S1024x1024, .i32⟩
  | 17 => ⟨S1024x1024, .i1⟩
  | 18 => ⟨S1024x1024, .i32⟩
  | 19 => ⟨S_, .i32⟩
  | 20 => ⟨S1024x1024, .i32⟩
  | 21 => ⟨S1024x1024, .i32⟩
  | 22 => ⟨S1024x1024, .i32⟩
  | 23 => ⟨S1024x1024, .i1⟩
  | 24 => ⟨S_, .i1⟩
  | 25 => ⟨S1024x1024, .i1⟩
  | 26 => ⟨S1024x1024, .i1⟩
  | 27 => ⟨S1024x1024, .i32⟩
  | 28 => ⟨S_, .i32⟩
  | 29 => ⟨S1024, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S1024, .i32⟩
  | 37 => ⟨S1024, .i32⟩
  | 38 => ⟨S_, .i32⟩
  | 39 => ⟨S1024, .i32⟩
  | 40 => ⟨S1024, .i1⟩
  | 41 => ⟨S_, .i32⟩
  | 42 => ⟨S1024, .i32⟩
  | 43 => ⟨S1024, .i1⟩
  | 44 => ⟨S_, .i32⟩
  | 45 => ⟨S_, .i1⟩
  | 46 => ⟨S1024, .i1⟩
  | 47 => ⟨S1024, .i1⟩
  | 48 => ⟨S1024, .i1⟩
  | 49 => ⟨S1024, .i32⟩
  | 50 => ⟨S1024, .i32⟩
  | 51 => ⟨S1024, .i32⟩
  | 52 => ⟨S_, .i32⟩
  | 53 => ⟨S1024, .i32⟩
  | 54 => ⟨S1024, .i1⟩
  | 55 => ⟨S_, .i32⟩
  | 56 => ⟨S1024, .i32⟩
  | 57 => ⟨S1024, .i32⟩
  | 58 => ⟨S1024, .i32⟩
  | 59 => ⟨S_, .i32⟩
  | 60 => ⟨S1024, .i32⟩
  | 61 => ⟨S1024, .i1⟩
  | 62 => ⟨S_, .i32⟩
  | 63 => ⟨S1024, .i32⟩
  | 64 => ⟨S1024, .i32⟩
  | 65 => ⟨S1024, .i32⟩
  | 66 => ⟨S1024x1, .i32⟩
  | 67 => ⟨S1024x1, .i32⟩
  | 68 => ⟨S1024x2, .i32⟩
  | 69 => ⟨S1000x200x512, .f32⟩
  | 70 => ⟨S1024x1024, .i32⟩
  | 71 => ⟨S_, .i32⟩
  | 72 => ⟨S1024, .i32⟩
  | 73 => ⟨S1024, .i32⟩
  | 74 => ⟨S1x1024, .i32⟩
  | 75 => ⟨S_, .i32⟩
  | 76 => ⟨S_, .i32⟩
  | 77 => ⟨S1024x1024, .i32⟩
  | 78 => ⟨S1024x1024, .i32⟩
  | 79 => ⟨S1024x1024, .i32⟩
  | 80 => ⟨S_, .i32⟩
  | 81 => ⟨S1024, .i32⟩
  | 82 => ⟨S1024x1, .i32⟩
  | 83 => ⟨S_, .i32⟩
  | 84 => ⟨S1024x1, .i32⟩
  | 85 => ⟨S1024x1, .i1⟩
  | 86 => ⟨S1024x1024, .i1⟩
  | 87 => ⟨S1024x1024, .i1⟩
  | 88 => ⟨S1x1024, .i32⟩
  | 89 => ⟨S1024x1, .i32⟩
  | 90 => ⟨S1024x1024, .i32⟩
  | 91 => ⟨S1024x1024, .i32⟩
  | 92 => ⟨S1024x1024, .i1⟩
  | 93 => ⟨S1024x1024, .i1⟩
  | 94 => ⟨S512x1024, .f32⟩
  | 95 => ⟨S1024x1024, .f32⟩
  | 96 => ⟨S_, .f32⟩
  | 97 => ⟨S1024x1024, .f32⟩
  | 98 => ⟨S1024x1024, .f32⟩
  | 99 => ⟨S_, .f32⟩
  | 100 => ⟨S_, .f32⟩
  | 101 => ⟨S1024x1024, .f32⟩
  | 102 => ⟨S1024x1024, .f32⟩
  | 103 => ⟨S_, .f32⟩
  | 104 => ⟨S1024, .f32⟩
  | 105 => ⟨S1024x1024, .i32⟩
  | 106 => ⟨S_, .i32⟩
  | 107 => ⟨S1024, .i32⟩
  | 108 => ⟨S_, .i32⟩
  | 109 => ⟨S1024, .i32⟩
  | 110 => ⟨S1024, .i1⟩
  | 111 => ⟨S_, .i32⟩
  | 112 => ⟨S1024, .i32⟩
  | 113 => ⟨S1024, .i32⟩
  | 114 => ⟨S1024, .i32⟩
  | 115 => ⟨S1024x1, .i32⟩
  | 116 => ⟨S_, .i32⟩
  | 117 => ⟨S1024x1, .i32⟩
  | 118 => ⟨S1024x2, .i32⟩
  | 119 => ⟨S1024x50x512, .f32⟩
  | 120 => ⟨S1024x50, .f32⟩
  | 121 => ⟨S_, .f32⟩
  | 122 => ⟨S1024x50, .f32⟩
  | 123 => ⟨S1024x50, .f32⟩
  | 124 => ⟨S_, .f32⟩
  | 125 => ⟨S1024, .f32⟩
  | 126 => ⟨S1024, .f32⟩
  | 127 => ⟨S1024, .f32⟩
  | _ => ⟨S1024x512, .f32⟩

abbrev hbmTy0_1 (i : Nat) : BufTy := match i % 128 with
  | 0 => ⟨S_, .i32⟩
  | 1 => ⟨S1024, .i32⟩
  | 2 => ⟨S1024, .i32⟩
  | 3 => ⟨S1024, .f32⟩
  | 4 => ⟨S1024, .f32⟩
  | 5 => ⟨S1000x20x512, .f32⟩
  | 6 => ⟨S20000x512, .f32⟩
  | 7 => ⟨S512x20000, .f32⟩
  | 8 => ⟨S1024x20000, .f32⟩
  | 9 => ⟨S_, .f32⟩
  | 10 => ⟨S1024x20000, .f32⟩
  | 11 => ⟨S1024x20000, .f32⟩
  | 12 => ⟨S1000, .i32⟩
  | 13 => ⟨S1000x20, .i32⟩
  | 14 => ⟨S20000, .i32⟩
  | 15 => ⟨S1x20000, .i32⟩
  | 16 => ⟨S1024x1, .i32⟩
  | 17 => ⟨S1024x20000, .i32⟩
  | 18 => ⟨S1024x20000, .i32⟩
  | 19 => ⟨S1024x20000, .i1⟩
  | 20 => ⟨S_, .f32⟩
  | 21 => ⟨S1024x20000, .f32⟩
  | 22 => ⟨S1024x20000, .i1⟩
  | 23 => ⟨S1024x20000, .i1⟩
  | 24 => ⟨S1024x20000, .i32⟩
  | 25 => ⟨S_, .i32⟩
  | 26 => ⟨S1024, .i32⟩
  | 27 => ⟨S_, .f32⟩
  | 28 => ⟨S_, .f32⟩
  | 29 => ⟨S1024x20000, .f32⟩
  | 30 => ⟨S1024x20000, .f32⟩
  | 31 => ⟨S_, .f32⟩
  | 32 => ⟨S1024, .f32⟩
  | 33 => ⟨S_, .f32⟩
  | 34 => ⟨S_, .f32⟩
  | 35 => ⟨S1024x20000, .f32⟩
  | 36 => ⟨S1024x20000, .f32⟩
  | 37 => ⟨S_, .f32⟩
  | 38 => ⟨S1024, .f32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S1024, .f32⟩
  | 52 => ⟨S_, .f32⟩
  | 53 => ⟨S_, .f32⟩
  | 54 => ⟨S_, .f32⟩
  | 55 => ⟨S_, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_c_0 : Ref sig .tc := ⟨.hbm, 24, rfl⟩
abbrev main_call1_v5 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_c_0 : Ref sig .tc := ⟨.hbm, 30, rfl⟩
abbrev main_call2_v0 : Ref sig .tc := ⟨.hbm, 31, rfl⟩
abbrev main_call2_c : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_c_1 : Ref sig .tc := ⟨.hbm, 38, rfl⟩
abbrev main_call2_v5 : Ref sig .tc := ⟨.hbm, 39, rfl⟩
abbrev main_call2_v6 : Ref sig .tc := ⟨.hbm, 40, rfl⟩
abbrev main_call2_c_2 : Ref sig .tc := ⟨.hbm, 41, rfl⟩
abbrev main_call2_v7 : Ref sig .tc := ⟨.hbm, 42, rfl⟩
abbrev main_call2_v8 : Ref sig .tc := ⟨.hbm, 43, rfl⟩
abbrev main_call2_c_3 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_v13 : Ref sig .tc := ⟨.hbm, 51, rfl⟩
abbrev main_c_1 : Ref sig .tc := ⟨.hbm, 52, rfl⟩
abbrev main_v14 : Ref sig .tc := ⟨.hbm, 53, rfl⟩
abbrev main_v15 : Ref sig .tc := ⟨.hbm, 54, rfl⟩
abbrev main_c_2 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_3 : Ref sig .tc := ⟨.hbm, 59, rfl⟩
abbrev main_v19 : Ref sig .tc := ⟨.hbm, 60, rfl⟩
abbrev main_v20 : Ref sig .tc := ⟨.hbm, 61, rfl⟩
abbrev main_c_4 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_c_5 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_c_6 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v32 : Ref sig .tc := ⟨.hbm, 79, rfl⟩
abbrev main_c_7 : Ref sig .tc := ⟨.hbm, 80, rfl⟩
abbrev main_v33 : Ref sig .tc := ⟨.hbm, 81, rfl⟩
abbrev main_v34 : Ref sig .tc := ⟨.hbm, 82, rfl⟩
abbrev main_c_8 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_9 : Ref sig .tc := ⟨.hbm, 96, rfl⟩
abbrev main_v47 : Ref sig .tc := ⟨.hbm, 97, rfl⟩
abbrev main_v48 : Ref sig .tc := ⟨.hbm, 98, rfl⟩
abbrev main_cst_10 : Ref sig .tc := ⟨.hbm, 99, rfl⟩
abbrev main_call4_v0 : Ref sig .tc := ⟨.hbm, 100, rfl⟩
abbrev main_call4_v1 : Ref sig .tc := ⟨.hbm, 101, rfl⟩
abbrev main_v49 : Ref sig .tc := ⟨.hbm, 102, rfl⟩
abbrev main_cst_11 : Ref sig .tc := ⟨.hbm, 103, rfl⟩
abbrev main_v50 : Ref sig .tc := ⟨.hbm, 104, rfl⟩
abbrev main_v51 : Ref sig .tc := ⟨.hbm, 105, rfl⟩
abbrev main_c_12 : Ref sig .tc := ⟨.hbm, 106, rfl⟩
abbrev main_v52 : Ref sig .tc := ⟨.hbm, 107, rfl⟩
abbrev main_c_13 : Ref sig .tc := ⟨.hbm, 108, rfl⟩
abbrev main_v53 : Ref sig .tc := ⟨.hbm, 109, rfl⟩
abbrev main_v54 : Ref sig .tc := ⟨.hbm, 110, rfl⟩
abbrev main_c_14 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_c_15 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_16 : Ref sig .tc := ⟨.hbm, 121, rfl⟩
abbrev main_v63 : Ref sig .tc := ⟨.hbm, 122, rfl⟩
abbrev main_v64 : Ref sig .tc := ⟨.hbm, 123, rfl⟩
abbrev main_cst_17 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_c_18 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_19 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_cst_20 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_c_21 : Ref sig .tc := ⟨.hbm, 153, rfl⟩
abbrev main_v90 : Ref sig .tc := ⟨.hbm, 154, rfl⟩
abbrev main_cst_22 : Ref sig .tc := ⟨.hbm, 155, rfl⟩
abbrev main_call5_v0 : Ref sig .tc := ⟨.hbm, 156, rfl⟩
abbrev main_call5_v1 : Ref sig .tc := ⟨.hbm, 157, rfl⟩
abbrev main_v91 : Ref sig .tc := ⟨.hbm, 158, rfl⟩
abbrev main_cst_23 : Ref sig .tc := ⟨.hbm, 159, rfl⟩
abbrev main_v92 : Ref sig .tc := ⟨.hbm, 160, rfl⟩
abbrev main_cst_24 : Ref sig .tc := ⟨.hbm, 161, rfl⟩
abbrev main_call6_v0 : Ref sig .tc := ⟨.hbm, 162, rfl⟩
abbrev main_call6_v1 : Ref sig .tc := ⟨.hbm, 163, rfl⟩
abbrev main_v93 : Ref sig .tc := ⟨.hbm, 164, rfl⟩
abbrev main_cst_25 : Ref sig .tc := ⟨.hbm, 165, rfl⟩
abbrev main_v94 : Ref sig .tc := ⟨.hbm, 166, rfl⟩
abbrev main_c_26 : Ref sig .tc := ⟨.hbm, 167, rfl⟩
abbrev main_v95 : Ref sig .tc := ⟨.hbm, 168, rfl⟩
abbrev main_v96 : Ref sig .tc := ⟨.hbm, 169, rfl⟩
abbrev main_c_27 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_28 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_cst_29 : Ref sig .tc := ⟨.hbm, 180, rfl⟩
abbrev main_v105 : Ref sig .tc := ⟨.hbm, 181, rfl⟩
abbrev main_cst_30 : Ref sig .tc := ⟨.hbm, 182, rfl⟩
abbrev main_v106 : Ref sig .tc := ⟨.hbm, 183, rfl⟩

abbrev nD : Nat := 1
abbrev τ : Topo := Topo.v7x

variable {F : FTy → Type} [FloatOps F]
-- ==== Proof.BitsNamed.lean ====
/-
  The named constant read on machine floats: `KernelIdeal`'s text at `Bits` is `Kernel`'s.
-/
module

public import proofs.«01_k».proof.Defs
public import proofs.«01_k».proof.Proof.Gen.Kernel
public import proofs.«01_k».proof.Proof.Gen.KernelIdeal

@[expose] public section

noncomputable section

namespace Cert.Proof

open Idealize.ShloMosaic

/-- On machine floats a named constant is the literal that it replaced. -/
instance bitsNamed : Named Bits where
  named _ _ {φ} bits := Scalar.ofBits φ bits

set_option maxRecDepth 65536 in
set_option maxHeartbeats 40000000 in
/-- The two programs' bodies, row by row. -/
theorem defs₀_eq : Cert.Kernel.defs₀ (F := Bits) = Cert.KernelIdeal.defs₀ (F := Bits) := by
  funext p ℓ a
  match p, ℓ, a with
  | .tc, 0, (t, s) => rfl
  | .tc, 2, (t, s) => rfl
  | .tc, 3, (t, s) => rfl
  | .tc, 1, _ => rfl
  | .scVector c s, 0, _ => rfl
  | .scVector c s, 1, _ => rfl
  | .scVector c s, 2, _ => rfl
  | .scVector c s, 3, _ => rfl
  | .scScalar c, 0, _ => rfl
  | .scScalar c, 1, _ => rfl
  | .scScalar c, 2, _ => rfl
  | .scScalar c, 3, _ => rfl

set_option maxRecDepth 65536 in
set_option maxHeartbeats 4000000 in
/-- The two programs' body tables are one on machine floats. -/
theorem defs_eq : Cert.Kernel.defs (F := Bits) = Cert.KernelIdeal.defs (F := Bits) := by
  unfold Cert.Kernel.defs Cert.KernelIdeal.defs
  exact congrArg (fun x => Cert.KernelIdeal.sc.defs (Pipeline.defs Cert.KernelIdeal.pcfgs x)) defs₀_eq

set_option maxRecDepth 65536 in
set_option maxHeartbeats 4000000 in
/-- The two programs' threads are one on machine floats. -/
theorem threads_eq : Cert.Kernel.threads (F := Bits) = Cert.KernelIdeal.threads (F := Bits) := rfl

end Cert.Proof

end
-- ==== Proof.Gather.lean ====
/-
  The SparseCore call of `KernelIdeal`: thirty-two tasks, sixteen on each SparseCore's tiles. Task `w` fetches words
  128·w … 128·w + 127 of the index list, has the indirect stream gather those rows of the table, and copies the 128 rows to
  rows 128·w … of the result. Here: what the call is handed and what it brings back, VALUES included (row `r` of the result is row
  `ix r` of the table), each task's run, and how the operands split over the tasks.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v3
abbrev iLoc (d : Dev nD) : Loc nD τ sig := (SparseCore.T d).loc main_v11
abbrev oLoc (d : Dev nD) : Loc nD τ sig := (SparseCore.T d).loc main_v12

abbrev tV : Memref sig .scVector .hbm S800000x128 .f32 := Memref.whole main_v3_scv
abbrev iV : Memref sig .scVector .hbm S4096 .i32 := Memref.whole main_v11_scv
abbrev oV : Memref sig .scVector .hbm S4096x128 .f32 := Memref.whole main_v12_scv
abbrev sV : Memref sig .scVector .vmem S128 .i32 := Memref.whole cc1_scratch0
abbrev rV : Memref sig .scVector .vmem S128x128 .f32 := Memref.whole cc1_scratch1

theorem idiv : 32 ∣ S4096.size 0 := ⟨128, rfl⟩
theorem odiv : 32 ∣ S4096x128.size 0 := ⟨128, rfl⟩
/-- Task `w`'s words of the index list and rows of the result. -/
abbrev irow (w : Fin 32) : Rect S4096 := Rect.part (s := S4096) (a₀ := 0) idiv w
abbrev orow (w : Fin 32) : Rect S4096x128 := Rect.part (s := S4096x128) (a₀ := 0) odiv w
abbrev iRowSet (w : Fin 32) : Finset S4096.Idx := ((iV).view.slice (irow w)).set
abbrev oRowSet (w : Fin 32) : Finset S4096x128.Idx := ((oV).view.slice (orow w)).set

/-- Task `w`'s share of the table: the full share halved five times. -/
abbrev tq (w : Fin 32) : PosShare TreeShare := ShareLeaves.leaf 5 fullShare w

/-- The task of tile `i` of SparseCore `c`. -/
def wid (c : Fin 2) (i : Fin 16) : Fin 32 := ⟨2 * i.val + c.val, by omega⟩

/-! ## What the call works on, and what it leaves -/

/-- The row of the table that a word names. -/
def trow (w : BitVec 32) : Fin 800000 := ⟨w.toNat % 800000, Nat.mod_lt _ (by decide)⟩

/-- Entry `(r, l)` of the table. -/
def tIdx (r : Fin 800000) (l : Fin 128) : S800000x128.Idx := fun a => match a with | ⟨0, _⟩ => r | ⟨1, _⟩ => l
/-- Word `j` of the index list. -/
def iIdx (j : Fin 4096) : S4096.Idx := fun a => match a with | ⟨0, _⟩ => j

/-- The gathered rows: row `r` of the result is row `ix r` of the table. -/
def gRows (tb : S800000x128.Idx → Elt F .f32) (ix : S4096.Idx → Elt F .i32) : S4096x128.Idx → Elt F .f32 :=
  fun j => tb (tIdx (trow (ix (iIdx (j 0)))) (j 1))

variable (tb : (d : Dev nD) → Buf (Elt F) (tLoc d)) (ix : (d : Dev nD) → Buf (Elt F) (iLoc d)) (o0 : (d : Dev nD) → Buf (Elt F) (oLoc d))

/-- The result of the call on device `d`. -/
def gOut (d : Dev nD) : Buf (Elt F) (oLoc d) := gRows (F := F) (tb d) (ix d)

abbrev iRowPts (d : Dev nD) (w : Fin 32) : sProp 𝕄 := iLoc d ↦[iRowSet w]{fullShare} ix d
abbrev tShPts (d : Dev nD) (w : Fin 32) : sProp 𝕄 := tLoc d ↦{tq w} tb d
abbrev oRowPts (d : Dev nD) (w : Fin 32) (f : Buf (Elt F) (oLoc d)) : sProp 𝕄 := oLoc d ↦[oRowSet w]{fullShare} f

/-- What task `w` takes: its words of the index list, its share of the table, its rows of the result. -/
abbrev goR (d : Dev nD) (w : Fin 32) : sProp 𝕄 := iprop(iRowPts ix d w ∗ tShPts tb d w ∗ oRowPts d w (o0 d))
/-- What task `w` brings back: the same, its rows of the result at the gathered rows. -/
abbrev tdR (d : Dev nD) (w : Fin 32) : sProp 𝕄 := iprop(iRowPts ix d w ∗ tShPts tb d w ∗ oRowPts d w (gOut tb ix d))

/-- Each SparseCore takes its sixteen tasks' operands and brings them back. -/
def P : (K (F := F)).Pay (nD := nD) (Val := Elt F) (Name := ℕ) (U := UU) where
  st := fun q d c => match q with | 0 => bigSep Finset.univ fun i : Fin 16 => goR tb ix o0 d (wid (Fin.cast nCore_zero c) i)
  dn := fun q d c => match q with | 0 => bigSep Finset.univ fun i : Fin 16 => tdR tb ix d (wid (Fin.cast nCore_zero c) i)
  go := fun q d c i => match q with | 0 => goR tb ix o0 d (wid (Fin.cast nCore_zero c) (Fin.cast nSub_zero i))
  td := fun q d c i => match q with | 0 => tdR tb ix d (wid (Fin.cast nCore_zero c) (Fin.cast nSub_zero i))
  x := fun _ _ => iprop(emp)

instance P_storable : (P (F := F) tb ix o0).IsStorable where
  st q d c := match q with
    | 0 => (inferInstance : BI.Storable (upEmb : UEmb _ 𝕄) (bigSep Finset.univ fun i : Fin 16 => goR tb ix o0 d (wid (Fin.cast nCore_zero c) i)))
  dn q d c := match q with
    | 0 => (inferInstance : BI.Storable (upEmb : UEmb _ 𝕄) (bigSep Finset.univ fun i : Fin 16 => tdR tb ix d (wid (Fin.cast nCore_zero c) i)))
  go q d c i := match q with
    | 0 => (inferInstance : BI.Storable (upEmb : UEmb _ 𝕄) (goR tb ix o0 d (wid (Fin.cast nCore_zero c) (Fin.cast nSub_zero i))))
  td q d c i := match q with
    | 0 => (inferInstance : BI.Storable (upEmb : UEmb _ 𝕄) (tdR tb ix d (wid (Fin.cast nCore_zero c) (Fin.cast nSub_zero i))))

/-- What the call asks of the index list: every word names a row of the table. -/
def IxOK : Prop := ∀ (d : Dev nD) (j : S4096.Idx), (ix d j).toNat < 800000

/-! ## The task -/

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev wL (L : grid1.Coords) : Fin 32 := wid (Fin.cast bound_zero (L 0)) (Fin.cast bound_one (L 1))

abbrev irowK (L : grid1.Coords) : Rect S4096 := Rect.unit (s := S4096) (k1_off1 L) S128.size (k1_off1_inb L)
abbrev orowK (L : grid1.Coords) : Rect S4096x128 := Rect.unit (s := S4096x128) (k1_off2 L) S128x128.size (k1_off2_inb L)
abbrev iRowK (L : grid1.Coords) : Memref sig .scVector .hbm S128 .i32 := (iV).slice (irowK L) (fun _ => rfl)
abbrev oRowK (L : grid1.Coords) : Memref sig .scVector .hbm S128x128 .f32 := (oV).slice (orowK L) (fun _ => rfl)
abbrev tAllK : Memref sig .scVector .hbm S800000x128 .f32 :=
  (tV).slice (Rect.unit (s := S800000x128) ![0, 0] S800000x128.size inb_S800000x128_S800000x128_0_0) (fun _ => rfl)

theorem off_eq (L : grid1.Coords) : 256 * (L 1).val + 128 * (L 0).val = 128 * (wL L).val := by
  show 256 * (L 1).val + 128 * (L 0).val = 128 * (2 * (L 1).val + (L 0).val)
  omega

theorem irowK_eq : irowK L = irow (wL L) := by
  unfold irowK irow Rect.part Rect.block
  congr 1 <;> funext a
  · rw [k1_off1_eq]
    match a with
    | 0 => simpa [Shape.partIx, Shape.partSize, Nat.mul_comm] using off_eq L
  · match a with
    | 0 => simp [Shape.partSize]
theorem orowK_eq : orowK L = orow (wL L) := by
  unfold orowK orow Rect.part Rect.block
  congr 1 <;> funext a
  · rw [k1_off2_eq]
    match a with
    | 0 => simpa [Shape.partIx, Shape.partSize, Nat.mul_comm] using off_eq L
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

theorem semAB : (SemLoc.dma cc1_scratch2.sem : SemLoc sig) ≠ .dma cc1_scoped0.sem := by decide
theorem semAC : (SemLoc.dma cc1_scoped1.sem : SemLoc sig) ≠ .dma cc1_scoped0.sem := by decide
theorem semBC : (SemLoc.dma cc1_scoped1.sem : SemLoc sig) ≠ .dma cc1_scratch2.sem := by decide

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨fun e => semAB (congrArg Prod.snd e), (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨fun e => semBC (congrArg Prod.snd e), Finset.mem_erase.mpr ⟨fun e => semAC (congrArg Prod.snd e),
      (mem_ownCells (g := cCcell d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Word `x` of the task's piece of the index list, as the index fetch lands it. -/
theorem fetched_apply (fs : Buf (Elt F) ((V d (cV L) (jV L)).loc cc1_scratch0)) (pay : S128.Idx → Elt F .i32)
    (hpay : pay = (iRowK L).view.read (Elt F) (ix d)) (x : S128.Idx) :
    (sV).view.read (Elt F) (View.write (Elt F) (sV).view fs pay Finset.univ) x = ix d ((iRowK L).view.emb x) := by
  subst hpay
  rw [View.write_whole_univ]
  simp only [Memref.view_whole, View.read_whole]
  exact (View.read_apply _ _).trans (cast_eq _ _)

/-- The offsets that the stream reads name rows of the table. -/
theorem inb_of_ok (hok : IxOK ix) (fs : Buf (Elt F) ((V d (cV L) (jV L)).loc cc1_scratch0)) (pay : S128.Idx → Elt F .i32)
    (hpay : pay = (iRowK L).view.read (Elt F) (ix d)) :
    ∀ x, ((sV).view.read (Elt F) (View.write (Elt F) (sV).view fs pay Finset.univ) x).toNat < S800000x128.size gathers_S800000x128_S128x128.axis := by
  intro x
  rw [fetched_apply ix d L fs pay hpay]
  exact hok d _

/-- In one dimension the row-major position is the index. -/
theorem rowMajor_one (k : Fin 128) : S128.rowMajor.symm (k.cast (rfl : 128 = S128.numel)) 0 = k := by
  have h := Shape.rowMajor_val_one (S128.rowMajor.symm (k.cast (rfl : 128 = S128.numel)))
  rw [Equiv.apply_symm_apply] at h
  exact Fin.ext h.symm

/-- The rows that the task writes out are the gathered rows, on its rows of the result. -/
theorem written_eq (hok : IxOK ix) (fo : Buf (Elt F) (oLoc d)) (fr : Buf (Elt F) ((V d (cV L) (jV L)).loc cc1_scratch1))
    (w : S128.Idx → Elt F .i32) (hw : ∀ x, w x = ix d ((iRowK L).view.emb x))
    (hn : S128.numel = S128x128.size gathers_S800000x128_S128x128.axis')
    (hin : ∀ x, (w x).toNat < S800000x128.size gathers_S800000x128_S128x128.axis)
    (pay : S128x128.Idx → Elt F .f32)
    (hpay : pay = (rV).view.read (Elt F) (View.write (Elt F) (rV).view fr
      (SparseCore.gatherPayload gathers_S800000x128_S128x128 ((tAllK).view.read (Elt F) (tb d)) (SparseCore.rows w hn hin)) Finset.univ)) :
    ∀ j ∈ oRowSet (wL L), (oRowK L).view.writes (Elt F) fo [⟨Rect.whole S128x128, pay⟩] j = gOut tb ix d j := by
  intro j hj
  rw [← set_oRowK] at hj
  obtain ⟨x, -, rfl⟩ := Finset.mem_map.mp hj
  rw [View.writes_singleton]
  have hx : (oRowK L).view.emb x = ((oRowK L).view.slice (Rect.whole S128x128)).emb x := by
    rw [View.emb_slice]; exact congrArg (oRowK L).view.emb (show x = (Rect.whole S128x128).emb x from (Rect.emb_whole_apply S128x128 x).symm)
  rw [hx]
  refine (View.write_emb_of_mem (v := (oRowK L).view.slice (Rect.whole S128x128)) fo pay (Finset.mem_univ x)).trans ?_
  rw [← hx, hpay]
  refine (cast_eq _ _).trans ?_
  rw [View.write_whole_univ]
  show (tAllK).view.read (Elt F) (tb d) (gathers_S800000x128_S128x128.idx (SparseCore.rows w hn hin) x) = gRows (F := F) (tb d) (ix d) ((oRowK L).view.emb x)
  refine ((View.read_apply _ _).trans (cast_eq _ _)).trans ?_
  unfold gRows
  refine congrArg (tb d) (funext fun a => ?_)
  match a with
  | ⟨0, _⟩ =>
    refine Fin.ext ?_
    show 0 + 1 * (gathers_S800000x128_S128x128.idx (SparseCore.rows w hn hin) x 0).val = (ix d (iIdx ((oRowK L).view.emb x 0))).toNat % 800000
    rw [show gathers_S800000x128_S128x128.idx (SparseCore.rows w hn hin) x 0 = SparseCore.rows w hn hin (x 0) from
      Shape.Gathers.idx_axis gathers_S800000x128_S128x128 (SparseCore.rows w hn hin) x]
    show 0 + 1 * (w (S128.rowMajor.symm ((x 0).cast hn.symm))).toNat = _
    rw [hw, Nat.mod_eq_of_lt (hok d _), Nat.zero_add, Nat.one_mul]
    refine congrArg (fun i => (ix d i).toNat) (funext fun a => ?_)
    match a with
    | ⟨0, _⟩ =>
      refine Fin.ext ?_
      show (k1_off1 L 0) + 1 * (S128.rowMajor.symm ((x 0).cast hn.symm) 0).val = (k1_off2 L 0) + 1 * (x 0).val
      rw [k1_off1_eq, k1_off2_eq, show S128.rowMajor.symm ((x 0).cast hn.symm) 0 = x 0 from rowMajor_one _]; rfl
  | ⟨1, _⟩ =>
    refine Fin.ext ?_
    show 0 + 1 * (gathers_S800000x128_S128x128.idx (SparseCore.rows w hn hin) x 1).val = ((oRowK L).view.emb x 1).val
    rw [Shape.Gathers.idx_of_ne gathers_S800000x128_S128x128 (SparseCore.rows w hn hin) x 1 (by decide)]
    show 0 + 1 * (x 1).val = (k1_off2 L 1) + 1 * (x 1).val
    rw [k1_off2_eq]; rfl

set_option maxHeartbeats 4000000 in
/-- Task `(L 0, L 1)` of the call on device `d`: it fetches its words of the index list, has the stream gather the rows
    that they name, and leaves them in its rows of the result. -/
theorem tile_body (hF : (K (F := F)).Facts) (hok : IxOK ix) (O : CellTallies nD τ sig (HIx 1)) (W : Waits sig (HIx 1)) (hO : ∀ g, O g none = 0) :
    iprop(levAts (K (F := F)).L (K (F := F)).lev ∗ emp
        ∗ goR tb ix o0 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_kernel L tV (Memref.isWhole_whole _) iV (Memref.isWhole_whole _) oV (Memref.isWhole_whole _)
            sV (Memref.isWhole_whole _) rV (Memref.isWhole_whole _) cc1_scratch2 cc1_scoped0 cc1_scoped1)
          fun _ => iprop(tdR tb ix d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_tV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := tq (wL L)) (f := tb d) (S := Finset.univ) (Finset.subset_univ (tAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 ix d L) Finset.univ : sProp 𝕄)
      = (sV).view.loc (V d (cV L) (jV L)) ↦[(sV).view.set]{fullShare} View.write (Elt F) (sV).view fs (tile_body.sl.dma0 ix d L) Finset.univ
      by rw [hss])) $$ Hs'
  have hN : ∀ h : S800000x128.Gathers 0 S128x128, ∑ j, ((rV).slice (S128x128.rowRect h.axis' j) (S128x128.stride_rowRect h.axis' j)).view.dmaCredit
      = (rV).view.dmaCredit := by decide
  iapply (SparseCore.wp_indirectGatherLocal countersEmb 𝒱₀ (V d (cV L) (jV L)) none (hg := gathers_S800000x128_S128x128) (default : HIx 1)
      (rV).view.dmaCredit (hN _) (by decide) (inb_of_ok ix d L hok fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hx' := (pointsTo_split_subset (q := tq (wL L)) (f := tb d) (S := Finset.univ) (Finset.subset_univ (tAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    ihave Ho2 := (Entails.of_eq (pts_oRowK (F := F) d L _)) $$ Ho'
    iapply (Entails.of_eq (pointsTo_congr (written_eq tb ix d L hok (o0 d) fr _ (fetched_apply ix d L fs _ rfl) rfl (inb_of_ok ix d L hok fs _ rfl) _ rfl)))
    iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The grid point of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hok : IxOK ix) : (K (F := F)).TileObl (D (F := F)) 𝒱 (P tb ix o0) v₀ 0 := by
  intro d c i O W hO _ _
  simp only [show (P (F := F) tb ix o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix o0 d (coordsV ⟨_, hci.1⟩ ⟨_, hci.2⟩) hF hok O W hO).trans (wp_mono frame _ _ fun _ => obl_post)

end Tile

/-! ## The operands split over the tasks, and join -/

theorem iRowSet_eq (w : Fin 32) : iRowSet w = (irow w).set := by
  show ((View.whole (main_v11_scv : Ref sig .scVector)).slice (irow w)).set = _
  rw [View.set_slice]; exact Finset.map_refl
theorem oRowSet_eq (w : Fin 32) : oRowSet w = (orow w).set := by
  show ((View.whole (main_v12_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
theorem tPts_shares (d : Dev nD) (f : Buf (Elt F) (tLoc d)) :
    (tLoc d ↦{fullShare} f : sProp 𝕄) = bigSep Finset.univ fun w : Fin 32 => tLoc d ↦{tq w} f :=
  ShareLeaves.pointsTo_leaves Finset.univ f 5 fullShare

/-- A task, by its SparseCore and its tile. -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

theorem bigSep_wid (Φ : Fin 32 → sProp 𝕄) :
    bigSep Finset.univ Φ = bigSep Finset.univ fun c : Fin 2 => bigSep Finset.univ fun i : Fin 16 => Φ (wid c i) := by
  rw [bigSep_univ_equiv widEquiv, bigSep_univ_prod]; rfl

/-- What the call takes, over the tasks, is the three operands whole. -/
theorem st_eq (d : Dev nD) : (bigSep Finset.univ fun c : Fin ((K (F := F)).nCore 0) => (P (F := F) tb ix o0).st 0 d c)
    = iprop((iLoc d ↦{fullShare} ix d) ∗ (tLoc d ↦{fullShare} tb d) ∗ (oLoc d ↦{fullShare} o0 d)) := by
  rw [iPts_rows, tPts_shares, oPts_rows, ← bigSep_sep', ← bigSep_sep', bigSep_wid]; rfl
/-- What it brings back, over the tasks, is the three operands whole, the result at the gathered rows. -/
theorem dn_eq (d : Dev nD) : (bigSep Finset.univ fun c : Fin ((K (F := F)).nCore 0) => (P (F := F) tb ix o0).dn 0 d c)
    = iprop((iLoc d ↦{fullShare} ix d) ∗ (tLoc d ↦{fullShare} tb d) ∗ (oLoc d ↦{fullShare} gOut tb ix d)) := by
  rw [iPts_rows, tPts_shares, oPts_rows, ← bigSep_sep', ← bigSep_sep', bigSep_wid]; rfl

theorem vecSplit : (K (F := F)).VecSplit' (P tb ix o0) 0 := by
  intro d c
  show (bigSep Finset.univ fun i : Fin 16 => goR tb ix o0 d (wid (Fin.cast nCore_zero c) i))
    ⊢ |={Set.univ}=> iprop((bigSep Finset.univ fun i : Fin 16 => goR tb ix o0 d (wid (Fin.cast nCore_zero c) i))
      ∗ ((bigSep Finset.univ fun i : Fin 16 => tdR tb ix d (wid (Fin.cast nCore_zero c) i))
        -∗ bigSep Finset.univ fun i : Fin 16 => tdR tb ix d (wid (Fin.cast nCore_zero c) i)))
  iintro H; imodintro
  isplitl [H]; · iexact H
  iintro H; iexact H

end Cert.Proof

end
-- ==== Proof.Region.lean ====
/-
  A TensorCore call of @main as a segment of the run. Between two segments the TensorCore of device `d` holds every unscoped buffer at a
  valuation, and owes what the launch protocol makes it owe: `tcAt`. A call takes `tcAt` at one valuation to `tcAt` at the valuation that
  has the call's arrays at what its pipeline leaves in them.
-/
module

public import proofs.«01_k».proof.Proof.Gather
public import Idealize.ShloMosaic.Lib.Pipeline.RegionsLoop
public import Idealize.ShloMosaic.Lib.Pipeline.FrameBody

@[expose] public section

noncomputable section

namespace Cert.Proof

open Cert.KernelIdeal Cert.KernelIdeal.Gen

open Idealize.ShloMosaic Idealize.ShloMosaic.TcCoe
open Idealize.ShloMosaic.SparseCore.Cfg (HIx Pay)
open Idealize.ShloMosaic.Pipeline (Dat RegionSeg pin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The proof data of one pipeline on one core. -/
abbrev RD (p : Fin 3) (c : Dev nD) : Type := Dat τ (Elt F) (HIx 1) ℕ UU ℕ (cfgs p) c

/-- No prefetched table. -/
abbrev adm : (p : Fin 3) → (pcfgs (F := F) p).Adm := fun p => (cfgs p).toPCfg_adm

/-- The pairs that the thread may have waited at before call `n` of the launch protocol. -/
def recd (n : ℕ) (c : Dev nD) : Set (SemLoc sig × HIx 1) := {x | (K (F := F)).lev ((SparseCore.T c : Thread nD τ), x.1) x.2 ≤ 8 * n}

/-- What the TensorCore of `c` owes before call `n`, with the bound on what it waited at. -/
def owedAt (n : ℕ) (c : Dev nD) : sProp 𝕄 :=
  iprop(∃ W, ⌜(K (F := F)).WBelow (SparseCore.T c : Thread nD τ) W (8 * n)⌝ ∗ owes (SparseCore.T c : Thread nD τ) ((K (F := F)).Otc c n) W)

/-- The thread state between two segments: the unscoped buffers at `V`, and the debts. -/
def tcAt (n : ℕ) (V : Dev nD → Valuation τ sig (Elt F)) (c : Dev nD) : sProp 𝕄 :=
  iprop(StableHlo.held (c.tc : Thread nD τ) (Pipeline.ucRefs τ sig) (V c) ∗ owedAt (F := F) n c)

/-- The launch protocol owes nothing at the pipelines' index. -/
theorem Otc_none (c : Dev nD) (n : ℕ) (g : GSem nD τ sig) : (K (F := F)).Otc c n g none = 0 := by
  refine Nat.eq_zero_of_not_pos fun h => ?_
  have h' := (K (F := F)).lev_of_Otc_pos h
  rw [SparseCore.Cfg.lev_none] at h'
  omega

set_option backward.isDefEq.respectTransparency.types false in
/-- THE SEGMENT of a TensorCore call whose pipeline carries nothing between points but its scoped buffers: from `tcAt` at `V` to
    `tcAt` at `V'`, where `V'` has the arrays at what the pipeline leaves (`hV'`) and everything else as it was (`hrest`). -/
def seg (p : Fin 3) (kit : Pipeline.LaunchFacts₀ (nD := nD) (τ := τ) cfgs p) (pdats : (p : Fin 3) → (c : Dev nD) → RD (F := F) p c) (n : ℕ)
    (V V' : Dev nD → Valuation τ sig (Elt F))
    (hbody : ∀ c, Pipeline.BodyObligationLoose (pdats p c) (defs₀ (F := F)) 𝒱₀ none Set.univ)
    (howed : ∀ c t, (pdats p c).owed t = (K (F := F)).Otc c n) (hrec : ∀ c t, (pdats p c).recorded t = recd (F := F) n c)
    (hΦ : ∀ c t, (pdats p c).Φ t = Pipeline.scopedRest (cfgs p).spec c)
    (hq : ∀ c w, ((cfgs p).spec w).isOut = false → (pdats p c).q w = Pipeline.shareOf (cfgs p).spec w)
    (hA : ∀ c w, (pdats p c).A w = V c (Proc.devRef .tc (Pipeline.arrRef (cfgs p).spec w)))
    (hV' : ∀ c w, (pdats p c).arrAt w (cfgs p).N = V' c (Proc.devRef .tc (Pipeline.arrRef (cfgs p).spec w)))
    (hrest : ∀ c (b : Ref sig .tc), b ∉ Finset.univ.image (Pipeline.arrRef (cfgs p).spec) → V' c (Proc.devRef .tc b) = V c (Proc.devRef .tc b)) :
    RegionSeg (pcfgs (F := F)) adm pdats none defs₀ 𝒱₀ (K (F := F)).L (K (F := F)).lev p where
  win := kit.win
  block_pos := kit.block_pos
  stage_whole := kit.stage_whole
  K := PEmpty
  osem k := k.elim
  ho := Pipeline.OwnSemFacts.none _
  hbody := hbody
  hwaits c := Pipeline.cellsWaits_intro _ _ _ p c fun w s t => by
    rw [howed c t]; exact (K (F := F)).mayWait_none _ (Otc_none c n)
  pre := tcAt n V
  post := tcAt n V'
  X _ := iprop(emp)
  Y _ := iprop(emp)
  Z c := Pipeline.unscopedRest (cfgs p).spec c (fun b => V c (Proc.devRef .tc b))
  hentry c := by
    unfold tcAt owedAt
    rw [Pipeline.ownSems0_none, ← Pipeline.unscopedBufs_held (Ix := HIx 1) (Name := ℕ) (U := UU) (Lvl := ℕ) c (V c)]
    have hsplit := Pipeline.arrays_of_unscopedBufs_shared (p := p) (pcfgs (F := F)) adm pdats kit.win kit.sharedIn kit.arr_whole c (hq c)
      (fun b => V c (Proc.devRef .tc b)) (hA c)
    iintro ⟨⟨Hub, ⟨%W, %hW, HO⟩⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin Dat.bound
      rw [howed c 0, hrec c]
      iexists W; isplitr; · ipureintro; exact fun x hx => Or.inl (hW x hx)
      iexact HO
    isplitr; · iempintro
    iexact Hrest
  hin c := by
    rw [hΦ c]
    iintro ⟨-, -, Hr⟩
    iexact Hr
  hout c := by
    rw [hΦ c, Pipeline.ownSems0_none]
    iintro Hr
    isplitr; · iempintro
    isplitr; · iempintro
    iexact Hr
  hexit c := by
    have hjoin := Pipeline.unscopedBufs_of_arrays_shared (p := p) (pcfgs (F := F)) adm (Ix := HIx 1) (Name := ℕ) (U := UU) (Lvl := ℕ)
      kit.win kit.sharedIn kit.arr_whole c pdats (hq c)
      (fun b => V c (Proc.devRef .tc b)) (fun b => V' c (Proc.devRef .tc b)) ((pdats p c).arrAt · (cfgs p).N) (hV' c) (hrest c)
    unfold tcAt owedAt
    rw [← Pipeline.unscopedBufs_held (Ix := HIx 1) (Name := ℕ) (U := UU) (Lvl := ℕ) c (V' c)]
    iintro ⟨Ha, HO, -, Hrest⟩
    imodintro
    isplitl [Ha Hrest]
    · iapply hjoin; isplitl [Ha] <;> iassumption
    unfold Dat.owesAt Pipeline.owesWithin Dat.bound
    rw [howed c (Fin.last _), hrec c]
    icases HO with ⟨%W, %hW, HO⟩; iexists W; isplitr
    · ipureintro
      intro x hx
      rcases hW hx with h | ⟨w, s, h⟩
      · exact h
      · rw [h]; exact Nat.zero_le _
    iexact HO

end Cert.Proof

end
-- ==== Proof.Body.lean ====
/-
  Loads and stores over a whole staging buffer, read by what they hold.
-/
module

public import proofs.«01_k».proof.Proof.Region
public import proofs.«01_k».proof.Proof.Gen.KernelIdeal.Points
public import Idealize.ShloMosaic.Lib.Pipeline.Value
public import Idealize.ShloMosaic.Lib.Claim
public import Idealize.ShloMosaic.Lib.Ring
public import Idealize.ShloMosaic.Lib.UnfoldOut
public import Idealize.ShloMosaic.Lib.WordCmp

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- A store over a whole buffer leaves its payload, whatever was stored before it. -/
theorem read_store_whole {S : Shape} {e : EltTy} (m : Memref sig .tc .vmem S e) {off : Fin S.rank → Nat} (h : off = fun _ => 0)
    (inb : ∀ a, off a + S.size a ≤ S.size a) (w : S.Idx → Elt F e) (L : List (View.Piece (Elt F) S e)) (f : m.view.ty.Contents (Elt F)) :
    m.view.read (Elt F) (m.view.writes (Elt F) f (⟨Rect.unit off S.size inb, w⟩ :: L)) = w :=
  (View.read_writes_eq_canon _ _ _ fun y => ⟨_, List.mem_cons_self, View.mem_set_unit_zero h inb y⟩).trans (View.canon_cons_unit_zero h inb w L)

/-- A load of a whole buffer reads it. -/
theorem readAt_zero {S : Shape} {e : EltTy} (m : Memref sig .tc .vmem S e) {off : Fin S.rank → Nat} (h : off = fun _ => 0)
    (inb : ∀ a, off a + S.size a ≤ S.size a) (f : m.view.ty.Contents (Elt F)) :
    m.view.readAt (Elt F) (Rect.unit off S.size inb).toLoadRect f = m.view.read (Elt F) f :=
  (View.readAt_eq_ld m.view f (Rect.unit off S.size inb)).trans (View.ld_unit_zero h inb _)

theorem zeros2 : (![0, 0] : Fin 2 → Nat) = fun _ => 0 := by decide
theorem zeros3 : (![0, 0, 0] : Fin 3 → Nat) = fun _ => 0 := by decide

end Cert.Proof

end
-- ==== Proof.Stats.lean ====
/-
  The first TensorCore call of @main: one point, the normalised features, their bf16 copy, and the four integer columns (occurrence,
  count, first, and the bank row each anchor reads). The body's run with what every output ends at, and the call's proof data.
-/
module

public import proofs.«01_k».proof.Proof.Body
public import proofs.«01_k».proof.Proof.Gen.KernelIdeal.Points
public import Idealize.ShloMosaic.Lib.Pipeline.Value
public import Idealize.ShloMosaic.Lib.Claim
public import Idealize.ShloMosaic.Lib.Ring
public import Idealize.ShloMosaic.Lib.UnfoldOut
public import Idealize.ShloMosaic.Lib.WordCmp

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The bank row that each anchor reads: `label · 200 + occurrence mod 200`. -/
def gidxOf (x1 : Vec F S1024x1 .i32) (x2 : Vec F S1x1024 .i32) : IVec S1024x1 32 :=
  k0_pay1 (k0_pay4 x1) (k0_pay6 x1 x2) (Scalar.select (Scalar.cmpi .eq 200#32 0#32) 1#32 200#32)

set_option maxHeartbeats 1000000 in
/-- The body on whole staging buffers: the inputs stay, each output ends at its payload of the inputs. -/
theorem stats_run (c : Dev nD) (E : Set ℕ) (a0 : Memref sig .tc .vmem S1024x512 .f32) (ha0 : a0.IsWhole) (a1 : Memref sig .tc .vmem S1024x1 .i32) (ha1 : a1.IsWhole) (a2 : Memref sig .tc .vmem S1x1024 .i32) (ha2 : a2.IsWhole) (a3 : Memref sig .tc .vmem S1024x512 .f32) (ha3 : a3.IsWhole) (a4 : Memref sig .tc .vmem S1024x512 .bf16) (ha4 : a4.IsWhole) (a5 : Memref sig .tc .vmem S1024x1 .i32) (ha5 : a5.IsWhole) (a6 : Memref sig .tc .vmem S1024x1 .i32) (ha6 : a6.IsWhole) (a7 : Memref sig .tc .vmem S1024x1 .i32) (ha7 : a7.IsWhole) (a8 : Memref sig .tc .vmem S1024x1 .i32) (ha8 : a8.IsWhole)
     (x0 : Vec F S1024x512 .f32) (x1 : Vec F S1024x1 .i32) (x2 : Vec F S1x1024 .i32)  (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare (k0_pay2 x0) ∗ owns (c : Thread nD τ) a4 fullShare (k0_pay3 x0) ∗ owns (c : Thread nD τ) a5 fullShare (k0_pay6 x1 x2) ∗ owns (c : Thread nD τ) a6 fullShare (k0_pay7 x1 x2) ∗ owns (c : Thread nD τ) a7 fullShare (k0_pay8 x1 x2) ∗ owns (c : Thread nD τ) a8 fullShare (gidxOf x1 x2)) -∗ Q ⟨⟩))
      ⊢ wp frame (wpE (defs₀ (F := F)) Variants.none c none) E (cc0__stats_body a0 ha0 a1 ha1 a2 ha2 a3 ha3 a4 ha4 a5 ha5 a6 ha6 a7 ha7 a8 ha8) Q := by
  simp only [cc0__stats_body_eq_skeleton]; unfold cc0__stats_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro
    refine (read_store_whole _ zeros2 _ _ _ _).trans ?_
    rw [readAt_zero _ zeros2]
  isplitl [H4]
  · iexists _; isplitr; swap; · iexact H4
    ipureintro
    refine (read_store_whole _ zeros2 _ _ _ _).trans ?_
    rw [readAt_zero _ zeros2]
  isplitl [H5]
  · iexists _; isplitr; swap; · iexact H5
    ipureintro
    refine (read_store_whole _ zeros2 _ _ _ _).trans ?_
    unfold stats_run.sl.r_1; rw [readAt_zero _ zeros2, readAt_zero _ zeros2]
  isplitl [H6]
  · iexists _; isplitr; swap; · iexact H6
    ipureintro
    refine (read_store_whole _ zeros2 _ _ _ _).trans ?_
    unfold stats_run.sl.r_2; rw [readAt_zero _ zeros2, readAt_zero _ zeros2]
  isplitl [H7]
  · iexists _; isplitr; swap; · iexact H7
    ipureintro
    refine (read_store_whole _ zeros2 _ _ _ _).trans ?_
    unfold stats_run.sl.r_3; rw [readAt_zero _ zeros2, readAt_zero _ zeros2]
  iexists _; isplitr; swap; · iexact H8
  ipureintro
  refine (read_store_whole _ zeros2 _ _ _ _).trans ?_
  unfold stats_run.sl.r stats_run.sl.r_1 gidxOf; rw [readAt_zero _ zeros2, readAt_zero _ zeros2]; rfl

section
variable (V : Dev nD → Valuation τ sig (Elt F))

/-- The block of window `w` that the pipeline stages at point `t`, read off the array as the call finds it. -/
def sBlk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The staging buffer of input 0 holds its block when the body runs. -/
theorem sBefore_0_of {c : Dev nD} (dat : Dat τ (Elt F) (HIx 1) ℕ UU ℕ cfg0 c) (hA : dat.A 0 = V c (Proc.devRef .tc (Pipeline.arrRef spec0 0)))
    (hafter : ∀ t, dat.after 0 t = sBlk V c 0 t) (t : Fin cfg0.N) (d) : dat.before 0 t d = sBlk V c 0 t :=
  (dat.before_in_eq_fetched 0 rfl (fun _ => rfl) (fun _ _ _ => rfl) (fun t => by rw [hafter]; unfold Dat.blockOf sBlk; rw [hA]; try rfl) t d).trans
    (by unfold Dat.fetched Dat.blockOf sBlk; rw [hA]; try rfl)
/-- The staging buffer of input 1 holds its block when the body runs. -/
theorem sBefore_1_of {c : Dev nD} (dat : Dat τ (Elt F) (HIx 1) ℕ UU ℕ cfg0 c) (hA : dat.A 1 = V c (Proc.devRef .tc (Pipeline.arrRef spec0 1)))
    (hafter : ∀ t, dat.after 1 t = sBlk V c 1 t) (t : Fin cfg0.N) (d) : dat.before 1 t d = sBlk V c 1 t :=
  (dat.before_in_eq_fetched 1 rfl (fun _ => rfl) (fun _ _ _ => rfl) (fun t => by rw [hafter]; unfold Dat.blockOf sBlk; rw [hA]; try rfl) t d).trans
    (by unfold Dat.fetched Dat.blockOf sBlk; rw [hA]; try rfl)
/-- The staging buffer of input 2 holds its block when the body runs. -/
theorem sBefore_2_of {c : Dev nD} (dat : Dat τ (Elt F) (HIx 1) ℕ UU ℕ cfg0 c) (hA : dat.A 2 = V c (Proc.devRef .tc (Pipeline.arrRef spec0 2)))
    (hafter : ∀ t, dat.after 2 t = sBlk V c 2 t) (t : Fin cfg0.N) (d) : dat.before 2 t d = sBlk V c 2 t :=
  (dat.before_in_eq_fetched 2 rfl (fun _ => rfl) (fun _ _ _ => rfl) (fun t => by rw [hafter]; unfold Dat.blockOf sBlk; rw [hA]; try rfl) t d).trans
    (by unfold Dat.fetched Dat.blockOf sBlk; rw [hA]; try rfl)

/-- The call's proof data: the arrays as the call finds them, what the body leaves in each staging buffer, and what the core owes
    (nothing at the pipeline's index). -/
def sDat (c : Dev nD) : Dat τ (Elt F) (HIx 1) ℕ UU ℕ cfg0 c where
  A w := V c (Proc.devRef .tc (Pipeline.arrRef spec0 w))
  after w t := match w with
    | ⟨0, _⟩ => sBlk V c 0 t
    | ⟨1, _⟩ => sBlk V c 1 t
    | ⟨2, _⟩ => sBlk V c 2 t
    | ⟨3, _⟩ => k0_pay2 (sBlk V c 0 t)
    | ⟨4, _⟩ => k0_pay3 (sBlk V c 0 t)
    | ⟨5, _⟩ => k0_pay6 (sBlk V c 1 t) (sBlk V c 2 t)
    | ⟨6, _⟩ => k0_pay7 (sBlk V c 1 t) (sBlk V c 2 t)
    | ⟨7, _⟩ => k0_pay8 (sBlk V c 1 t) (sBlk V c 2 t)
    | ⟨8, _⟩ => gidxOf (sBlk V c 1 t) (sBlk V c 2 t)
  Φ _ := Pipeline.scopedRest spec0 c
  q := Pipeline.shareOf spec0
  owed _ := (K (F := F)).Otc c 0
  recorded _ := recd (F := F) 0 c

theorem sDat_A (c : Dev nD) (w : Fin cfg0.W) : (sDat V c).A w = V c (Proc.devRef .tc (Pipeline.arrRef spec0 w)) := by dsimp only [sDat]
theorem sAfter_0 (c : Dev nD) (t : Fin cfg0.N) : (sDat V c).after 0 t = sBlk V c 0 t := by dsimp only [sDat]
theorem sAfter_1 (c : Dev nD) (t : Fin cfg0.N) : (sDat V c).after 1 t = sBlk V c 1 t := by dsimp only [sDat]
theorem sAfter_2 (c : Dev nD) (t : Fin cfg0.N) : (sDat V c).after 2 t = sBlk V c 2 t := by dsimp only [sDat]
theorem sAfter_3 (c : Dev nD) (t : Fin cfg0.N) : (sDat V c).after 3 t = k0_pay2 (sBlk V c 0 t) := by dsimp only [sDat]
theorem sAfter_4 (c : Dev nD) (t : Fin cfg0.N) : (sDat V c).after 4 t = k0_pay3 (sBlk V c 0 t) := by dsimp only [sDat]
theorem sAfter_5 (c : Dev nD) (t : Fin cfg0.N) : (sDat V c).after 5 t = k0_pay6 (sBlk V c 1 t) (sBlk V c 2 t) := by dsimp only [sDat]
theorem sAfter_6 (c : Dev nD) (t : Fin cfg0.N) : (sDat V c).after 6 t = k0_pay7 (sBlk V c 1 t) (sBlk V c 2 t) := by dsimp only [sDat]
theorem sAfter_7 (c : Dev nD) (t : Fin cfg0.N) : (sDat V c).after 7 t = k0_pay8 (sBlk V c 1 t) (sBlk V c 2 t) := by dsimp only [sDat]
theorem sAfter_8 (c : Dev nD) (t : Fin cfg0.N) : (sDat V c).after 8 t = gidxOf (sBlk V c 1 t) (sBlk V c 2 t) := by dsimp only [sDat]
theorem sBefore_0 (c : Dev nD) (t : Fin cfg0.N) (d) : (sDat V c).before 0 t d = sBlk V c 0 t :=
  sBefore_0_of V (sDat V c) (sDat_A V c 0) (sAfter_0 V c) t d
theorem sBefore_1 (c : Dev nD) (t : Fin cfg0.N) (d) : (sDat V c).before 1 t d = sBlk V c 1 t :=
  sBefore_1_of V (sDat V c) (sDat_A V c 1) (sAfter_1 V c) t d
theorem sBefore_2 (c : Dev nD) (t : Fin cfg0.N) (d) : (sDat V c).before 2 t d = sBlk V c 2 t :=
  sBefore_2_of V (sDat V c) (sDat_A V c 2) (sAfter_2 V c) t d

/-- What the body is called with at point `t`, window by window, -/
def sPre (c : Dev nD) (t : Fin cfg0.N) : sProp 𝕄 :=
  iprop((sDat V c).Φ t.castSucc ∗ (sDat V c).owesAt none t.castSucc
    ∗ (∃ d, owns (c : Thread nD τ) (st0_0 t) fullShare ((sDat V c).before 0 t d))
    ∗ (∃ d, owns (c : Thread nD τ) (st0_1 t) fullShare ((sDat V c).before 1 t d))
    ∗ (∃ d, owns (c : Thread nD τ) (st0_2 t) fullShare ((sDat V c).before 2 t d))
    ∗ (∃ d, owns (c : Thread nD τ) (st0_3 t) fullShare ((sDat V c).before 3 t d))
    ∗ (∃ d, owns (c : Thread nD τ) (st0_4 t) fullShare ((sDat V c).before 4 t d))
    ∗ (∃ d, owns (c : Thread nD τ) (st0_5 t) fullShare ((sDat V c).before 5 t d))
    ∗ (∃ d, owns (c : Thread nD τ) (st0_6 t) fullShare ((sDat V c).before 6 t d))
    ∗ (∃ d, owns (c : Thread nD τ) (st0_7 t) fullShare ((sDat V c).before 7 t d))
    ∗ (∃ d, owns (c : Thread nD τ) (st0_8 t) fullShare ((sDat V c).before 8 t d)))

/-- and what it returns. -/
def sPost (c : Dev nD) (t : Fin cfg0.N) : sProp 𝕄 :=
  iprop((sDat V c).Φ t.succ ∗ (sDat V c).owesAt none t.succ
    ∗ (sDat V c).leavesExact 0 t
    ∗ (sDat V c).leavesExact 1 t
    ∗ (sDat V c).leavesExact 2 t
    ∗ (sDat V c).leavesExact 3 t
    ∗ (sDat V c).leavesExact 4 t
    ∗ (sDat V c).leavesExact 5 t
    ∗ (sDat V c).leavesExact 6 t
    ∗ (sDat V c).leavesExact 7 t
    ∗ (sDat V c).leavesExact 8 t)

/-- A window that is never idle leaves exactly what the proof data say. -/
theorem sLeaves (c : Dev nD) (w : Fin cfg0.W) (t : Fin cfg0.N) (h : cfg0.idle w (cfg0.grid.coords t) = false) :
    (sDat V c).leavesExact w t = owns (c : Thread nD τ) ((cfg0.win w).stage (cfg0.slots t w)) fullShare ((sDat V c).after w t) := by
  unfold Dat.leavesExact; rw [h]

set_option maxHeartbeats 1600000 in
/-- The body at any point. -/
theorem sSound (c : Dev nD) (t : Fin cfg0.N) :
    sPre V c t ⊢ wp frame (wpE (defs₀ (F := F)) Variants.none c none) Set.univ (bodyAt0 t) (fun _ => sPost V c t) := by
  unfold sPre sPost bodyAt0
  simp only [sBefore_0, sBefore_1, sBefore_2]
  rw [show (sDat V c).Φ t.succ = (sDat V c).Φ t.castSucc from rfl,
    show (sDat V c).owesAt none t.succ = (sDat V c).owesAt none t.castSucc from rfl]
  rw [sLeaves V c 0 t rfl, sAfter_0]
  rw [sLeaves V c 1 t rfl, sAfter_1]
  rw [sLeaves V c 2 t rfl, sAfter_2]
  rw [sLeaves V c 3 t rfl, sAfter_3]
  rw [sLeaves V c 4 t rfl, sAfter_4]
  rw [sLeaves V c 5 t rfl, sAfter_5]
  rw [sLeaves V c 6 t rfl, sAfter_6]
  rw [sLeaves V c 7 t rfl, sAfter_7]
  rw [sLeaves V c 8 t rfl, sAfter_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (stats_run c Set.univ _ _ _ _ _ _ _ _ _ _ _ _ _ _ _ _ _ _ (sBlk V c 0 t) (sBlk V c 1 t) (sBlk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's slots is the body. -/
theorem sRow (t : Fin cfg0.N) : defs₀ (F := F) .tc cfg0.body (cfg0.bodyArgs t (cfg0.slots t)) = bodyAt0 t := rfl

/-- The body obligation of the call. -/
theorem sBody (c : Dev nD) : BodyObligation (sDat V c) (defs₀ (F := F)) Variants.none none Set.univ := fun t => by
  rw [bigSep_W0, bigSep_W0, sRow]
  exact triple_restated (sSound V c t) rfl .rfl fun _ => .rfl

end

end Cert.Proof

end
-- ==== Proof.MainPass.lean ====
/-
  The main pass over the bank: 25 points of 40 classes, four columns accumulated over the points.
-/
module

public import proofs.«01_k».proof.Proof.Body
public import proofs.«01_k».proof.Proof.Gen.KernelIdeal.Points
public import Idealize.ShloMosaic.Lib.Pipeline.Value
public import Idealize.ShloMosaic.Lib.Claim
public import Idealize.ShloMosaic.Lib.Ring
public import Idealize.ShloMosaic.Lib.UnfoldOut
public import Idealize.ShloMosaic.Lib.WordCmp

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- What one point adds to each of the four columns: the sum over the valid negatives, over the hard ones, the count of the hard ones,
    and the sum over the anchor's own class. -/
def mFirst (i : grid2.Coords) (x0 : Vec F S1x800 .i32) (x1 : Vec F S40x56x512 .f32) (x2 : Vec F S1024x512 .f32) (x3 : Vec F S1024x512 .bf16) (x4 : Vec F S1024x1 .i32) : Fin 4 → Vec F S1024x1 .f32
  | 0 => k2_pay10 i x1 x4 x3 x0
  | 1 => k2_pay11 i x1 x4 x3 x0
  | 2 => k2_pay12 i x1 x4 x3 x0
  | 3 => k2_pay1 (BitVec.ofNat 32 (i 0).val) (k2_pay6 x4) (k2_pay13 x1 x2) (iota .tc S1024x40 32 [1] iota_S1024x40_d1_w32)

/-- The columns after a later point, from what they held before it. -/
def mNext (i : grid2.Coords) (x0 : Vec F S1x800 .i32) (x1 : Vec F S40x56x512 .f32) (x2 : Vec F S1024x512 .f32) (x3 : Vec F S1024x512 .bf16) (x4 : Vec F S1024x1 .i32) (o : Fin 4 → Vec F S1024x1 .f32) : Fin 4 → Vec F S1024x1 .f32
  | 0 => k2_pay2 (k2_pay10 i x1 x4 x3 x0) (o 0)
  | 1 => k2_pay3 (k2_pay11 i x1 x4 x3 x0) (o 1)
  | 2 => k2_pay4 (k2_pay12 i x1 x4 x3 x0) (o 2)
  | 3 => k2_pay5 (BitVec.ofNat 32 (i 0).val) (k2_pay6 x4) (k2_pay13 x1 x2) (iota .tc S1024x40 32 [1] iota_S1024x40_d1_w32) (o 3)

set_option maxHeartbeats 1000000 in
/-- The body at the first point: every column ends at what the point adds. -/
theorem main_run_first (c : Dev nD) (E : Set ℕ) (i : grid2.Coords) (a0 : Memref sig .tc .vmem S1x800 .i32) (ha0 : a0.IsWhole) (a1 : Memref sig .tc .vmem S40x56x512 .f32) (ha1 : a1.IsWhole) (a2 : Memref sig .tc .vmem S1024x512 .f32) (ha2 : a2.IsWhole) (a3 : Memref sig .tc .vmem S1024x512 .bf16) (ha3 : a3.IsWhole) (a4 : Memref sig .tc .vmem S1024x1 .i32) (ha4 : a4.IsWhole) (a5 : Memref sig .tc .vmem S1024x1 .f32) (ha5 : a5.IsWhole) (a6 : Memref sig .tc .vmem S1024x1 .f32) (ha6 : a6.IsWhole) (a7 : Memref sig .tc .vmem S1024x1 .f32) (ha7 : a7.IsWhole) (a8 : Memref sig .tc .vmem S1024x1 .f32) (ha8 : a8.IsWhole)
    (hc0 : k2_cond1 i = 1#1) (hc1 : ¬ k2_cond2 i = 1#1) (x0 : Vec F S1x800 .i32) (x1 : Vec F S40x56x512 .f32) (x2 : Vec F S1024x512 .f32) (x3 : Vec F S1024x512 .bf16) (x4 : Vec F S1024x1 .i32)  (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (mFirst i x0 x1 x2 x3 x4 0) ∗ owns (c : Thread nD τ) a6 fullShare (mFirst i x0 x1 x2 x3 x4 1) ∗ owns (c : Thread nD τ) a7 fullShare (mFirst i x0 x1 x2 x3 x4 2) ∗ owns (c : Thread nD τ) a8 fullShare (mFirst i x0 x1 x2 x3 x4 3)) -∗ Q ⟨⟩))
      ⊢ wp frame (wpE (defs₀ (F := F)) Variants.none c none) E (cc2__main_body i a0 ha0 a1 ha1 a2 ha2 a3 ha3 a4 ha4 a5 ha5 a6 ha6 a7 ha7 a8 ha8) Q := by
  simp only [cc2__main_body_eq_skeleton]; unfold cc2__main_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    refine (read_store_whole _ zeros2 _ _ _ _).trans ?_
    unfold main_run_first.sl.r_1
    repeat (first | rw [readAt_zero _ zeros2] | rw [readAt_zero _ zeros3])
    rfl
  isplitl [H6]
  · iexists _; isplitr; swap; · iexact H6
    ipureintro
    refine (read_store_whole _ zeros2 _ _ _ _).trans ?_
    unfold main_run_first.sl.r_2
    repeat (first | rw [readAt_zero _ zeros2] | rw [readAt_zero _ zeros3])
    rfl
  isplitl [H7]
  · iexists _; isplitr; swap; · iexact H7
    ipureintro
    refine (read_store_whole _ zeros2 _ _ _ _).trans ?_
    unfold main_run_first.sl.r_3
    repeat (first | rw [readAt_zero _ zeros2] | rw [readAt_zero _ zeros3])
    rfl
  iexists _; isplitr; swap; · iexact H8
  ipureintro
  refine (read_store_whole _ zeros2 _ _ _ _).trans ?_
  unfold main_run_first.sl.r main_run_first.sl.r_4 main_run_first.sl.v37
  repeat (first | rw [readAt_zero _ zeros2] | rw [readAt_zero _ zeros3])
  rfl

set_option maxHeartbeats 1000000 in
/-- The body at a later point: every column ends at its step. -/
theorem main_run_next (c : Dev nD) (E : Set ℕ) (i : grid2.Coords) (a0 : Memref sig .tc .vmem S1x800 .i32) (ha0 : a0.IsWhole) (a1 : Memref sig .tc .vmem S40x56x512 .f32) (ha1 : a1.IsWhole) (a2 : Memref sig .tc .vmem S1024x512 .f32) (ha2 : a2.IsWhole) (a3 : Memref sig .tc .vmem S1024x512 .bf16) (ha3 : a3.IsWhole) (a4 : Memref sig .tc .vmem S1024x1 .i32) (ha4 : a4.IsWhole) (a5 : Memref sig .tc .vmem S1024x1 .f32) (ha5 : a5.IsWhole) (a6 : Memref sig .tc .vmem S1024x1 .f32) (ha6 : a6.IsWhole) (a7 : Memref sig .tc .vmem S1024x1 .f32) (ha7 : a7.IsWhole) (a8 : Memref sig .tc .vmem S1024x1 .f32) (ha8 : a8.IsWhole)
    (hc0 : ¬ k2_cond1 i = 1#1) (hc1 : k2_cond2 i = 1#1) (x0 : Vec F S1x800 .i32) (x1 : Vec F S40x56x512 .f32) (x2 : Vec F S1024x512 .f32) (x3 : Vec F S1024x512 .bf16) (x4 : Vec F S1024x1 .i32) (o0 : Vec F S1024x1 .f32) (o1 : Vec F S1024x1 .f32) (o2 : Vec F S1024x1 .f32) (o3 : Vec F S1024x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare o0 ∗ owns (c : Thread nD τ) a6 fullShare o1 ∗ owns (c : Thread nD τ) a7 fullShare o2 ∗ owns (c : Thread nD τ) a8 fullShare o3
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (mNext i x0 x1 x2 x3 x4 ![o0, o1, o2, o3] 0) ∗ owns (c : Thread nD τ) a6 fullShare (mNext i x0 x1 x2 x3 x4 ![o0, o1, o2, o3] 1) ∗ owns (c : Thread nD τ) a7 fullShare (mNext i x0 x1 x2 x3 x4 ![o0, o1, o2, o3] 2) ∗ owns (c : Thread nD τ) a8 fullShare (mNext i x0 x1 x2 x3 x4 ![o0, o1, o2, o3] 3)) -∗ Q ⟨⟩))
      ⊢ wp frame (wpE (defs₀ (F := F)) Variants.none c none) E (cc2__main_body i a0 ha0 a1 ha1 a2 ha2 a3 ha3 a4 ha4 a5 ha5 a6 ha6 a7 ha7 a8 ha8) Q := by
  simp only [cc2__main_body_eq_skeleton]; unfold cc2__main_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro
    refine (read_store_whole _ zeros2 _ _ _ _).trans ?_
    unfold main_run_next.sl.r_1
    repeat (first | rw [readAt_zero _ zeros2] | rw [readAt_zero _ zeros3])
    rfl
  isplitl [H6]
  · iexists _; isplitr; swap; · iexact H6
    ipureintro
    refine (read_store_whole _ zeros2 _ _ _ _).trans ?_
    unfold main_run_next.sl.r_2
    repeat (first | rw [readAt_zero _ zeros2] | rw [readAt_zero _ zeros3])
    rfl
  isplitl [H7]
  · iexists _; isplitr; swap; · iexact H7
    ipureintro
    refine (read_store_whole _ zeros2 _ _ _ _).trans ?_
    unfold main_run_next.sl.r_3
    repeat (first | rw [readAt_zero _ zeros2] | rw [readAt_zero _ zeros3])
    rfl
  iexists _; isplitr; swap; · iexact H8
  ipureintro
  refine (read_store_whole _ zeros2 _ _ _ _).trans ?_
  unfold main_run_next.sl.r main_run_next.sl.r_4 main_run_next.sl.v37
  repeat (first | rw [readAt_zero _ zeros2] | rw [readAt_zero _ zeros3])
  rfl

section
variable (V : Dev nD → Valuation τ sig (Elt F))

/-- The block of window `w` that the pipeline stages at point `t`, read off the array as the call finds it. -/
def mBlk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- No transfer of the bank's blocks is cut, though 56 does not divide 200: only the first block of that axis is reached. -/
theorem mSize : ∀ t : Fin cfg2.N, ∀ a, (cfg2.win 1).xsize (cfg2.grid.coords t) a = (cfg2.win 1).size a := by decide +kernel
theorem mMoved (t : Fin cfg2.N) (j : (cfg2.win 1).block.Idx) : (cfg2.win 1).moved (cfg2.grid.coords t) j = true :=
  ((cfg2.win 1).moved_iff _ j).mpr fun a => by rw [mSize t a]; exact (j a).isLt

/-- The bank's block as the staging buffer holds it. -/
def mBank (c : Dev nD) (t : Fin cfg2.N) : (cfg2.win 1).block.Idx → Elt F (cfg2.win 1).elt :=
  (cfg2.win 1).fill (cfg2.grid.coords t) (fun _ => Classical.choice inferInstance) (mBlk V c 1 t)

/-- A fill covers the whole buffer, whatever it held. -/
theorem mFill (t : Fin cfg2.N) (d d' : (cfg2.win 1).block.Idx → Elt F (cfg2.win 1).elt) (g) :
    (cfg2.win 1).fill (cfg2.grid.coords t) d g = (cfg2.win 1).fill (cfg2.grid.coords t) d' g := by
  funext j; unfold Pipeline.Window.fill; rw [dif_pos (mMoved t j), dif_pos (mMoved t j)]

theorem mBefore_1_of {c : Dev nD} (dat : Dat τ (Elt F) (HIx 1) ℕ UU ℕ cfg2 c) (hA : dat.A 1 = V c (Proc.devRef .tc (Pipeline.arrRef spec2 1)))
    (hafter : ∀ t, dat.after 1 t = mBank V c t) (t : Fin cfg2.N) (d) : dat.before 1 t d = mBank V c t :=
  (dat.before_in_eq_fetched 1 rfl (fun _ => rfl)
      (fun t t' h => funext fun a => congrArg (fun n => Pipeline.Clip.of n ((cfg2.win 1).size a) (S1000x200x512.size a)) (congrFun h a))
      (fun t => by rw [hafter]; unfold mBank; rw [Pipeline.Window.cut_fill]; unfold Dat.blockOf mBlk; rw [hA]; try rfl) t d).trans
    (by unfold Dat.fetched mBank; rw [mFill t d fun _ => Classical.choice inferInstance]; unfold Dat.blockOf mBlk; rw [hA]; try rfl)
/-- The staging buffer of input 0 holds its block when the body runs. -/
theorem mBefore_0_of {c : Dev nD} (dat : Dat τ (Elt F) (HIx 1) ℕ UU ℕ cfg2 c) (hA : dat.A 0 = V c (Proc.devRef .tc (Pipeline.arrRef spec2 0)))
    (hafter : ∀ t, dat.after 0 t = mBlk V c 0 t) (t : Fin cfg2.N) (d) : dat.before 0 t d = mBlk V c 0 t :=
  (dat.before_in_eq_fetched 0 rfl (fun _ => rfl) (fun _ _ _ => rfl) (fun t => by rw [hafter]; unfold Dat.blockOf mBlk; rw [hA]; try rfl) t d).trans
    (by unfold Dat.fetched Dat.blockOf mBlk; rw [hA]; try rfl)
/-- The staging buffer of input 2 holds its block when the body runs. -/
theorem mBefore_2_of {c : Dev nD} (dat : Dat τ (Elt F) (HIx 1) ℕ UU ℕ cfg2 c) (hA : dat.A 2 = V c (Proc.devRef .tc (Pipeline.arrRef spec2 2)))
    (hafter : ∀ t, dat.after 2 t = mBlk V c 2 t) (t : Fin cfg2.N) (d) : dat.before 2 t d = mBlk V c 2 t :=
  (dat.before_in_eq_fetched 2 rfl (fun _ => rfl) (fun _ _ _ => rfl) (fun t => by rw [hafter]; unfold Dat.blockOf mBlk; rw [hA]; try rfl) t d).trans
    (by unfold Dat.fetched Dat.blockOf mBlk; rw [hA]; try rfl)
/-- The staging buffer of input 3 holds its block when the body runs. -/
theorem mBefore_3_of {c : Dev nD} (dat : Dat τ (Elt F) (HIx 1) ℕ UU ℕ cfg2 c) (hA : dat.A 3 = V c (Proc.devRef .tc (Pipeline.arrRef spec2 3)))
    (hafter : ∀ t, dat.after 3 t = mBlk V c 3 t) (t : Fin cfg2.N) (d) : dat.before 3 t d = mBlk V c 3 t :=
  (dat.before_in_eq_fetched 3 rfl (fun _ => rfl) (fun _ _ _ => rfl) (fun t => by rw [hafter]; unfold Dat.blockOf mBlk; rw [hA]; try rfl) t d).trans
    (by unfold Dat.fetched Dat.blockOf mBlk; rw [hA]; try rfl)
/-- The staging buffer of input 4 holds its block when the body runs. -/
theorem mBefore_4_of {c : Dev nD} (dat : Dat τ (Elt F) (HIx 1) ℕ UU ℕ cfg2 c) (hA : dat.A 4 = V c (Proc.devRef .tc (Pipeline.arrRef spec2 4)))
    (hafter : ∀ t, dat.after 4 t = mBlk V c 4 t) (t : Fin cfg2.N) (d) : dat.before 4 t d = mBlk V c 4 t :=
  (dat.before_in_eq_fetched 4 rfl (fun _ => rfl) (fun _ _ _ => rfl) (fun t => by rw [hafter]; unfold Dat.blockOf mBlk; rw [hA]; try rfl) t d).trans
    (by unfold Dat.fetched Dat.blockOf mBlk; rw [hA]; try rfl)

/-- The four columns after point `n`. -/
def mAt (c : Dev nD) : (n : ℕ) → n < cfg2.N → Fin 4 → Vec F S1024x1 .f32
  | 0, h => mFirst (grid2.coords ⟨0, h⟩) (mBlk V c 0 ⟨0, h⟩) (mBank V c ⟨0, h⟩) (mBlk V c 2 ⟨0, h⟩) (mBlk V c 3 ⟨0, h⟩) (mBlk V c 4 ⟨0, h⟩)
  | n + 1, h => mNext (grid2.coords ⟨n + 1, h⟩) (mBlk V c 0 ⟨n + 1, h⟩) (mBank V c ⟨n + 1, h⟩) (mBlk V c 2 ⟨n + 1, h⟩) (mBlk V c 3 ⟨n + 1, h⟩) (mBlk V c 4 ⟨n + 1, h⟩) (mAt c n (Nat.lt_of_succ_lt h))

theorem mAt_first (c : Dev nD) (t : Fin cfg2.N) (h : t.val = 0) : mAt V c t.val t.isLt = mFirst (grid2.coords t) (mBlk V c 0 t) (mBank V c t) (mBlk V c 2 t) (mBlk V c 3 t) (mBlk V c 4 t) := by
  obtain ⟨n, hn⟩ := t
  dsimp only at h
  subst h
  rfl

theorem mAt_next (c : Dev nD) (t : Fin cfg2.N) (h : 1 ≤ t.val) : mAt V c t.val t.isLt
    = mNext (grid2.coords t) (mBlk V c 0 t) (mBank V c t) (mBlk V c 2 t) (mBlk V c 3 t) (mBlk V c 4 t) (mAt V c (t.val - 1) (Nat.lt_of_le_of_lt (Nat.sub_le _ _) t.isLt)) := by
  obtain ⟨n, hn⟩ := t
  dsimp only at h
  obtain ⟨m, rfl⟩ : ∃ m, n = m + 1 := ⟨n - 1, by omega⟩
  rfl

/-- The columns are stored at every point. -/
theorem mLive : ∀ i : grid2.Coords, (!(k2_cond1 i == 1#1) && !(k2_cond2 i == 1#1)) = false := by decide +kernel
/-- The first branch is taken at the first point only, the other at the others. -/
theorem mCond1 : ∀ t : Fin cfg2.N, k2_cond1 (grid2.coords t) = 1#1 ↔ t.val = 0 := by decide +kernel
theorem mCond2 : ∀ t : Fin cfg2.N, k2_cond2 (grid2.coords t) = 1#1 ↔ 1 ≤ t.val := by decide +kernel

/-- The call's proof data: the arrays as the call finds them, what the body leaves in each staging buffer, and what the core owes
    (nothing at the pipeline's index). -/
def mDat (c : Dev nD) : Dat τ (Elt F) (HIx 1) ℕ UU ℕ cfg2 c where
  A w := V c (Proc.devRef .tc (Pipeline.arrRef spec2 w))
  after w t := match w with
    | ⟨0, _⟩ => mBlk V c 0 t
    | ⟨1, _⟩ => mBank V c t
    | ⟨2, _⟩ => mBlk V c 2 t
    | ⟨3, _⟩ => mBlk V c 3 t
    | ⟨4, _⟩ => mBlk V c 4 t
    | ⟨5, _⟩ => mAt V c t.val t.isLt 0
    | ⟨6, _⟩ => mAt V c t.val t.isLt 1
    | ⟨7, _⟩ => mAt V c t.val t.isLt 2
    | ⟨8, _⟩ => mAt V c t.val t.isLt 3
  Φ _ := Pipeline.scopedRest spec2 c
  q := Pipeline.shareOf spec2
  owed _ := (K (F := F)).Otc c 1
  recorded _ := recd (F := F) 1 c

theorem mDat_A (c : Dev nD) (w : Fin cfg2.W) : (mDat V c).A w = V c (Proc.devRef .tc (Pipeline.arrRef spec2 w)) := by dsimp only [mDat]
theorem mAfter_0 (c : Dev nD) (t : Fin cfg2.N) : (mDat V c).after 0 t = mBlk V c 0 t := by dsimp only [mDat]
theorem mAfter_1 (c : Dev nD) (t : Fin cfg2.N) : (mDat V c).after 1 t = mBank V c t := by dsimp only [mDat]
theorem mAfter_2 (c : Dev nD) (t : Fin cfg2.N) : (mDat V c).after 2 t = mBlk V c 2 t := by dsimp only [mDat]
theorem mAfter_3 (c : Dev nD) (t : Fin cfg2.N) : (mDat V c).after 3 t = mBlk V c 3 t := by dsimp only [mDat]
theorem mAfter_4 (c : Dev nD) (t : Fin cfg2.N) : (mDat V c).after 4 t = mBlk V c 4 t := by dsimp only [mDat]
theorem mAfter_5 (c : Dev nD) (t : Fin cfg2.N) : (mDat V c).after 5 t = mAt V c t.val t.isLt 0 := by dsimp only [mDat]
theorem mAfter_6 (c : Dev nD) (t : Fin cfg2.N) : (mDat V c).after 6 t = mAt V c t.val t.isLt 1 := by dsimp only [mDat]
theorem mAfter_7 (c : Dev nD) (t : Fin cfg2.N) : (mDat V c).after 7 t = mAt V c t.val t.isLt 2 := by dsimp only [mDat]
theorem mAfter_8 (c : Dev nD) (t : Fin cfg2.N) : (mDat V c).after 8 t = mAt V c t.val t.isLt 3 := by dsimp only [mDat]
theorem mBefore_0 (c : Dev nD) (t : Fin cfg2.N) (d) : (mDat V c).before 0 t d = mBlk V c 0 t :=
  mBefore_0_of V (mDat V c) (mDat_A V c 0) (mAfter_0 V c) t d
theorem mBefore_1 (c : Dev nD) (t : Fin cfg2.N) (d) : (mDat V c).before 1 t d = mBank V c t :=
  mBefore_1_of V (mDat V c) (mDat_A V c 1) (mAfter_1 V c) t d
theorem mBefore_2 (c : Dev nD) (t : Fin cfg2.N) (d) : (mDat V c).before 2 t d = mBlk V c 2 t :=
  mBefore_2_of V (mDat V c) (mDat_A V c 2) (mAfter_2 V c) t d
theorem mBefore_3 (c : Dev nD) (t : Fin cfg2.N) (d) : (mDat V c).before 3 t d = mBlk V c 3 t :=
  mBefore_3_of V (mDat V c) (mDat_A V c 3) (mAfter_3 V c) t d
theorem mBefore_4 (c : Dev nD) (t : Fin cfg2.N) (d) : (mDat V c).before 4 t d = mBlk V c 4 t :=
  mBefore_4_of V (mDat V c) (mDat_A V c 4) (mAfter_4 V c) t d

/-- What the body is called with at point `t`, window by window, -/
def mPre (c : Dev nD) (t : Fin cfg2.N) : sProp 𝕄 :=
  iprop((mDat V c).Φ t.castSucc ∗ (mDat V c).owesAt none t.castSucc
    ∗ (∃ d, owns (c : Thread nD τ) (st2_0 t) fullShare ((mDat V c).before 0 t d))
    ∗ (∃ d, owns (c : Thread nD τ) (st2_1 t) fullShare ((mDat V c).before 1 t d))
    ∗ (∃ d, owns (c : Thread nD τ) (st2_2 t) fullShare ((mDat V c).before 2 t d))
    ∗ (∃ d, owns (c : Thread nD τ) (st2_3 t) fullShare ((mDat V c).before 3 t d))
    ∗ (∃ d, owns (c : Thread nD τ) (st2_4 t) fullShare ((mDat V c).before 4 t d))
    ∗ (∃ d, owns (c : Thread nD τ) (st2_5 t) fullShare ((mDat V c).before 5 t d))
    ∗ (∃ d, owns (c : Thread nD τ) (st2_6 t) fullShare ((mDat V c).before 6 t d))
    ∗ (∃ d, owns (c : Thread nD τ) (st2_7 t) fullShare ((mDat V c).before 7 t d))
    ∗ (∃ d, owns (c : Thread nD τ) (st2_8 t) fullShare ((mDat V c).before 8 t d)))

/-- and what it returns. -/
def mPost (c : Dev nD) (t : Fin cfg2.N) : sProp 𝕄 :=
  iprop((mDat V c).Φ t.succ ∗ (mDat V c).owesAt none t.succ
    ∗ (mDat V c).leavesExact 0 t
    ∗ (mDat V c).leavesExact 1 t
    ∗ (mDat V c).leavesExact 2 t
    ∗ (mDat V c).leavesExact 3 t
    ∗ (mDat V c).leavesExact 4 t
    ∗ (mDat V c).leavesExact 5 t
    ∗ (mDat V c).leavesExact 6 t
    ∗ (mDat V c).leavesExact 7 t
    ∗ (mDat V c).leavesExact 8 t)

/-- A window that is never idle leaves exactly what the proof data say. -/
theorem mLeaves (c : Dev nD) (w : Fin cfg2.W) (t : Fin cfg2.N) (h : cfg2.idle w (cfg2.grid.coords t) = false) :
    (mDat V c).leavesExact w t = owns (c : Thread nD τ) ((cfg2.win w).stage (cfg2.slots t w)) fullShare ((mDat V c).after w t) := by
  unfold Dat.leavesExact; rw [h]

theorem mKept_5 (c : Dev nD) (t : Fin cfg2.N) (h : 1 ≤ t.val) (d) :
    (mDat V c).before 5 t d = mAt V c (t.val - 1) (Nat.lt_of_le_of_lt (Nat.sub_le _ _) t.isLt) 0 := by
  have ht : t.val < 25 := Nat.lt_of_lt_of_eq t.isLt N_2
  refine ((mDat V c).before_out_kept 5 rfl t (by omega) ?_ mLive (fun _ _ => rfl) d).trans (mAfter_5 V c _)
  refine Bool.eq_false_iff.mpr fun hf => ?_
  have := (flush2_5 _).mp hf
  dsimp only at this
  omega
theorem mKept_6 (c : Dev nD) (t : Fin cfg2.N) (h : 1 ≤ t.val) (d) :
    (mDat V c).before 6 t d = mAt V c (t.val - 1) (Nat.lt_of_le_of_lt (Nat.sub_le _ _) t.isLt) 1 := by
  have ht : t.val < 25 := Nat.lt_of_lt_of_eq t.isLt N_2
  refine ((mDat V c).before_out_kept 6 rfl t (by omega) ?_ mLive (fun _ _ => rfl) d).trans (mAfter_6 V c _)
  refine Bool.eq_false_iff.mpr fun hf => ?_
  have := (flush2_6 _).mp hf
  dsimp only at this
  omega
theorem mKept_7 (c : Dev nD) (t : Fin cfg2.N) (h : 1 ≤ t.val) (d) :
    (mDat V c).before 7 t d = mAt V c (t.val - 1) (Nat.lt_of_le_of_lt (Nat.sub_le _ _) t.isLt) 2 := by
  have ht : t.val < 25 := Nat.lt_of_lt_of_eq t.isLt N_2
  refine ((mDat V c).before_out_kept 7 rfl t (by omega) ?_ mLive (fun _ _ => rfl) d).trans (mAfter_7 V c _)
  refine Bool.eq_false_iff.mpr fun hf => ?_
  have := (flush2_7 _).mp hf
  dsimp only at this
  omega
theorem mKept_8 (c : Dev nD) (t : Fin cfg2.N) (h : 1 ≤ t.val) (d) :
    (mDat V c).before 8 t d = mAt V c (t.val - 1) (Nat.lt_of_le_of_lt (Nat.sub_le _ _) t.isLt) 3 := by
  have ht : t.val < 25 := Nat.lt_of_lt_of_eq t.isLt N_2
  refine ((mDat V c).before_out_kept 8 rfl t (by omega) ?_ mLive (fun _ _ => rfl) d).trans (mAfter_8 V c _)
  refine Bool.eq_false_iff.mpr fun hf => ?_
  have := (flush2_8 _).mp hf
  dsimp only at this
  omega

set_option maxHeartbeats 1600000 in
/-- The body at any point. -/
theorem mSound (c : Dev nD) (t : Fin cfg2.N) :
    mPre V c t ⊢ wp frame (wpE (defs₀ (F := F)) Variants.none c none) Set.univ (bodyAt2 t) (fun _ => mPost V c t) := by
  unfold mPre mPost bodyAt2
  simp only [mBefore_0, mBefore_1, mBefore_2, mBefore_3, mBefore_4]
  rw [show (mDat V c).Φ t.succ = (mDat V c).Φ t.castSucc from rfl,
    show (mDat V c).owesAt none t.succ = (mDat V c).owesAt none t.castSucc from rfl]
  rw [mLeaves V c 0 t rfl, mAfter_0]
  rw [mLeaves V c 1 t rfl, mAfter_1]
  rw [mLeaves V c 2 t rfl, mAfter_2]
  rw [mLeaves V c 3 t rfl, mAfter_3]
  rw [mLeaves V c 4 t rfl, mAfter_4]
  rw [mLeaves V c 5 t (mLive _), mAfter_5]
  rw [mLeaves V c 6 t (mLive _), mAfter_6]
  rw [mLeaves V c 7 t (mLive _), mAfter_7]
  rw [mLeaves V c 8 t (mLive _), mAfter_8]
  by_cases h1 : 1 ≤ t.val
  · rw [mAt_next V c t h1]
    simp only [mKept_5 V c t h1, mKept_6 V c t h1, mKept_7 V c t h1, mKept_8 V c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (main_run_next c Set.univ (grid2.coords t) _ _ _ _ _ _ _ _ _ _ _ _ _ _ _ _ _ _ (fun h => absurd ((mCond1 t).mp h) (by omega)) ((mCond2 t).mpr h1) (mBlk V c 0 t) (mBank V c t) (mBlk V c 2 t) (mBlk V c 3 t) (mBlk V c 4 t) (mAt V c (t.val - 1) _ 0) (mAt V c (t.val - 1) _ 1) (mAt V c (t.val - 1) _ 2) (mAt V c (t.val - 1) _ 3) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have h0 : t.val = 0 := by omega
    rw [mAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (main_run_first c Set.univ (grid2.coords t) _ _ _ _ _ _ _ _ _ _ _ _ _ _ _ _ _ _ ((mCond1 t).mpr h0) (fun h => h1 ((mCond2 t).mp h)) (mBlk V c 0 t) (mBank V c t) (mBlk V c 2 t) (mBlk V c 3 t) (mBlk V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point's slots is the body. -/
theorem mRow (t : Fin cfg2.N) : defs₀ (F := F) .tc cfg2.body (cfg2.bodyArgs t (cfg2.slots t)) = bodyAt2 t := rfl

/-- The body obligation of the call. -/
theorem mBody (c : Dev nD) : BodyObligation (mDat V c) (defs₀ (F := F)) Variants.none none Set.univ := fun t => by
  rw [bigSep_W2, bigSep_W2, mRow]
  exact triple_restated (mSound V c t) rfl .rfl fun _ => .rfl

end

end Cert.Proof

end
-- ==== Proof.Combine.lean ====
/-
  The combining call: four points of 256 anchors, one sum accumulated over the points and scaled at the last.
-/
module

public import proofs.«01_k».proof.Proof.Body
public import proofs.«01_k».proof.Proof.Gen.KernelIdeal.Points
public import Idealize.ShloMosaic.Lib.Pipeline.Value
public import Idealize.ShloMosaic.Lib.Claim
public import Idealize.ShloMosaic.Lib.Ring
public import Idealize.ShloMosaic.Lib.UnfoldOut
public import Idealize.ShloMosaic.Lib.WordCmp

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The six columns that a point's loss is taken from. -/
def cCols (x0 : Vec F S256x512 .f32) (x1 : Vec F S1024x512 .f32) (x2 : Vec F S1024x512 .f32) (x3 : Vec F S256x1 .i32) (x4 : Vec F S1x1024 .i32) (x5 : Vec F S1x1024 .i32) (x6 : Vec F S1x1024 .i32) (x7 : Vec F S256x1 .i32) (x8 : Vec F S256x1 .i32) (x9 : Vec F S256x1 .f32) (x10 : Vec F S256x1 .f32) (x11 : Vec F S256x1 .f32) (x12 : Vec F S256x1 .f32) : Fin 6 → FVec F S256x1 .f32
  | 0 => k3_pay15 (k3_pay7 x3 x4) (k3_pay8 x5) x7 x8
  | 1 => k3_pay16 (k3_pay5 x0 x1) (k3_pay6 x0 x2) (k3_pay7 x3 x4) (k3_pay8 x5) (k3_pay9 x6) (k3_pay10 x5) k3_pay11 x12
  | 2 => k3_pay20 (k3_pay5 x0 x1) (k3_pay6 x0 x2) (k3_pay17 (k3_pay7 x3 x4) (k3_pay8 x5) (k3_pay9 x6) (k3_pay10 x5) k3_pay11) x9
  | 3 => k3_pay21 (k3_pay5 x0 x1) (k3_pay6 x0 x2) (k3_pay17 (k3_pay7 x3 x4) (k3_pay8 x5) (k3_pay9 x6) (k3_pay10 x5) k3_pay11) (Scalar.ofBits .f32 0x3D0F5C29#32) x10
  | 4 => k3_pay22 (k3_pay5 x0 x1) (k3_pay6 x0 x2) (k3_pay17 (k3_pay7 x3 x4) (k3_pay8 x5) (k3_pay9 x6) (k3_pay10 x5) k3_pay11) (Scalar.ofBits .f32 0x3D0F5C29#32) x11
  | 5 => k3_pay23 (k3_pay14 (k3_pay5 x0 x1) (k3_pay7 x3 x4) (k3_pay8 x5) x7 x8)

/-- The sum of a point's losses. -/
def cFirst (x0 : Vec F S256x512 .f32) (x1 : Vec F S1024x512 .f32) (x2 : Vec F S1024x512 .f32) (x3 : Vec F S256x1 .i32) (x4 : Vec F S1x1024 .i32) (x5 : Vec F S1x1024 .i32) (x6 : Vec F S1x1024 .i32) (x7 : Vec F S256x1 .i32) (x8 : Vec F S256x1 .i32) (x9 : Vec F S256x1 .f32) (x10 : Vec F S256x1 .f32) (x11 : Vec F S256x1 .f32) (x12 : Vec F S256x1 .f32) : Vec F S1x1 .f32 :=
  k3_pay1 (cCols x0 x1 x2 x3 x4 x5 x6 x7 x8 x9 x10 x11 x12 0) (cCols x0 x1 x2 x3 x4 x5 x6 x7 x8 x9 x10 x11 x12 1) (cCols x0 x1 x2 x3 x4 x5 x6 x7 x8 x9 x10 x11 x12 2) (cCols x0 x1 x2 x3 x4 x5 x6 x7 x8 x9 x10 x11 x12 3) (cCols x0 x1 x2 x3 x4 x5 x6 x7 x8 x9 x10 x11 x12 4) (cCols x0 x1 x2 x3 x4 x5 x6 x7 x8 x9 x10 x11 x12 5)

/-- The accumulator after a later point. -/
def cNext (x0 : Vec F S256x512 .f32) (x1 : Vec F S1024x512 .f32) (x2 : Vec F S1024x512 .f32) (x3 : Vec F S256x1 .i32) (x4 : Vec F S1x1024 .i32) (x5 : Vec F S1x1024 .i32) (x6 : Vec F S1x1024 .i32) (x7 : Vec F S256x1 .i32) (x8 : Vec F S256x1 .i32) (x9 : Vec F S256x1 .f32) (x10 : Vec F S256x1 .f32) (x11 : Vec F S256x1 .f32) (x12 : Vec F S256x1 .f32) (o : Vec F S1x1 .f32) : Vec F S1x1 .f32 :=
  k3_pay2 (cCols x0 x1 x2 x3 x4 x5 x6 x7 x8 x9 x10 x11 x12 0) (cCols x0 x1 x2 x3 x4 x5 x6 x7 x8 x9 x10 x11 x12 1) (cCols x0 x1 x2 x3 x4 x5 x6 x7 x8 x9 x10 x11 x12 2) (cCols x0 x1 x2 x3 x4 x5 x6 x7 x8 x9 x10 x11 x12 3) (cCols x0 x1 x2 x3 x4 x5 x6 x7 x8 x9 x10 x11 x12 4) (cCols x0 x1 x2 x3 x4 x5 x6 x7 x8 x9 x10 x11 x12 5) o

set_option maxHeartbeats 1000000 in
/-- The body at the first point. -/
theorem comb_run_first (c : Dev nD) (E : Set ℕ) (i : grid3.Coords) (a0 : Memref sig .tc .vmem S256x512 .f32) (ha0 : a0.IsWhole) (a1 : Memref sig .tc .vmem S1024x512 .f32) (ha1 : a1.IsWhole) (a2 : Memref sig .tc .vmem S1024x512 .f32) (ha2 : a2.IsWhole) (a3 : Memref sig .tc .vmem S256x1 .i32) (ha3 : a3.IsWhole) (a4 : Memref sig .tc .vmem S1x1024 .i32) (ha4 : a4.IsWhole) (a5 : Memref sig .tc .vmem S1x1024 .i32) (ha5 : a5.IsWhole) (a6 : Memref sig .tc .vmem S1x1024 .i32) (ha6 : a6.IsWhole) (a7 : Memref sig .tc .vmem S256x1 .i32) (ha7 : a7.IsWhole) (a8 : Memref sig .tc .vmem S256x1 .i32) (ha8 : a8.IsWhole) (a9 : Memref sig .tc .vmem S256x1 .f32) (ha9 : a9.IsWhole) (a10 : Memref sig .tc .vmem S256x1 .f32) (ha10 : a10.IsWhole) (a11 : Memref sig .tc .vmem S256x1 .f32) (ha11 : a11.IsWhole) (a12 : Memref sig .tc .vmem S256x1 .f32) (ha12 : a12.IsWhole) (a13 : Memref sig .tc .vmem S1x1 .f32) (ha13 : a13.IsWhole)
    (hc0 : k3_cond1 i = 1#1) (hc1 : ¬ k3_cond2 i = 1#1) (hc2 : ¬ k3_cond3 i = 1#1) (x0 : Vec F S256x512 .f32) (x1 : Vec F S1024x512 .f32) (x2 : Vec F S1024x512 .f32) (x3 : Vec F S256x1 .i32) (x4 : Vec F S1x1024 .i32) (x5 : Vec F S1x1024 .i32) (x6 : Vec F S1x1024 .i32) (x7 : Vec F S256x1 .i32) (x8 : Vec F S256x1 .i32) (x9 : Vec F S256x1 .f32) (x10 : Vec F S256x1 .f32) (x11 : Vec F S256x1 .f32) (x12 : Vec F S256x1 .f32)  (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (cFirst x0 x1 x2 x3 x4 x5 x6 x7 x8 x9 x10 x11 x12)) -∗ Q ⟨⟩))
      ⊢ wp frame (wpE (defs₀ (F := F)) Variants.none c none) E (cc3__combine_body i a0 ha0 a1 ha1 a2 ha2 a3 ha3 a4 ha4 a5 ha5 a6 ha6 a7 ha7 a8 ha8 a9 ha9 a10 ha10 a11 ha11 a12 ha12 a13 ha13) Q := by
  simp only [cc3__combine_body_eq_skeleton]; unfold cc3__combine_body_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr; swap; · iexact H13
  ipureintro
  refine (read_store_whole _ zeros2 _ _ _ _).trans ?_
  try unfold comb_run_first.sl.r_13
  try unfold comb_run_first.sl.r_12
  try unfold comb_run_first.sl.r_11
  try unfold comb_run_first.sl.r_10
  try unfold comb_run_first.sl.r_9
  try unfold comb_run_first.sl.r_8
  try unfold comb_run_first.sl.r_7
  try unfold comb_run_first.sl.r_6
  try unfold comb_run_first.sl.r_5
  try unfold comb_run_first.sl.r_4
  try unfold comb_run_first.sl.r_3
  try unfold comb_run_first.sl.r_2
  try unfold comb_run_first.sl.r_1
  try unfold comb_run_first.sl.r
  repeat rw [readAt_zero _ zeros2]
  rfl

set_option maxHeartbeats 1000000 in
/-- The body at a point between the first and the last. -/
theorem comb_run_next (c : Dev nD) (E : Set ℕ) (i : grid3.Coords) (a0 : Memref sig .tc .vmem S256x512 .f32) (ha0 : a0.IsWhole) (a1 : Memref sig .tc .vmem S1024x512 .f32) (ha1 : a1.IsWhole) (a2 : Memref sig .tc .vmem S1024x512 .f32) (ha2 : a2.IsWhole) (a3 : Memref sig .tc .vmem S256x1 .i32) (ha3 : a3.IsWhole) (a4 : Memref sig .tc .vmem S1x1024 .i32) (ha4 : a4.IsWhole) (a5 : Memref sig .tc .vmem S1x1024 .i32) (ha5 : a5.IsWhole) (a6 : Memref sig .tc .vmem S1x1024 .i32) (ha6 : a6.IsWhole) (a7 : Memref sig .tc .vmem S256x1 .i32) (ha7 : a7.IsWhole) (a8 : Memref sig .tc .vmem S256x1 .i32) (ha8 : a8.IsWhole) (a9 : Memref sig .tc .vmem S256x1 .f32) (ha9 : a9.IsWhole) (a10 : Memref sig .tc .vmem S256x1 .f32) (ha10 : a10.IsWhole) (a11 : Memref sig .tc .vmem S256x1 .f32) (ha11 : a11.IsWhole) (a12 : Memref sig .tc .vmem S256x1 .f32) (ha12 : a12.IsWhole) (a13 : Memref sig .tc .vmem S1x1 .f32) (ha13 : a13.IsWhole)
    (hc0 : ¬ k3_cond1 i = 1#1) (hc1 : k3_cond2 i = 1#1) (hc2 : ¬ k3_cond3 i = 1#1) (x0 : Vec F S256x512 .f32) (x1 : Vec F S1024x512 .f32) (x2 : Vec F S1024x512 .f32) (x3 : Vec F S256x1 .i32) (x4 : Vec F S1x1024 .i32) (x5 : Vec F S1x1024 .i32) (x6 : Vec F S1x1024 .i32) (x7 : Vec F S256x1 .i32) (x8 : Vec F S256x1 .i32) (x9 : Vec F S256x1 .f32) (x10 : Vec F S256x1 .f32) (x11 : Vec F S256x1 .f32) (x12 : Vec F S256x1 .f32) (o0 : Vec F S1x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare o0
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (cNext x0 x1 x2 x3 x4 x5 x6 x7 x8 x9 x10 x11 x12 o0)) -∗ Q ⟨⟩))
      ⊢ wp frame (wpE (defs₀ (F := F)) Variants.none c none) E (cc3__combine_body i a0 ha0 a1 ha1 a2 ha2 a3 ha3 a4 ha4 a5 ha5 a6 ha6 a7 ha7 a8 ha8 a9 ha9 a10 ha10 a11 ha11 a12 ha12 a13 ha13) Q := by
  simp only [cc3__combine_body_eq_skeleton]; unfold cc3__combine_body_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf0 hf1 hf2 hf3 hf4 hf5 hf6 hf7 hf8 hf9 hf10 hf11 hf12 hf13
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr; swap; · iexact H13
  ipureintro
  refine (read_store_whole _ zeros2 _ _ _ _).trans ?_
  try unfold comb_run_next.sl.r_13
  try unfold comb_run_next.sl.r_12
  try unfold comb_run_next.sl.r_11
  try unfold comb_run_next.sl.r_10
  try unfold comb_run_next.sl.r_9
  try unfold comb_run_next.sl.r_8
  try unfold comb_run_next.sl.r_7
  try unfold comb_run_next.sl.r_6
  try unfold comb_run_next.sl.r_5
  try unfold comb_run_next.sl.r_4
  try unfold comb_run_next.sl.r_3
  try unfold comb_run_next.sl.r_2
  try unfold comb_run_next.sl.r_1
  try unfold comb_run_next.sl.r
  repeat rw [readAt_zero _ zeros2]
  rfl

set_option maxHeartbeats 1000000 in
/-- The body at the last point. -/
theorem comb_run_last (c : Dev nD) (E : Set ℕ) (i : grid3.Coords) (a0 : Memref sig .tc .vmem S256x512 .f32) (ha0 : a0.IsWhole) (a1 : Memref sig .tc .vmem S1024x512 .f32) (ha1 : a1.IsWhole) (a2 : Memref sig .tc .vmem S1024x512 .f32) (ha2 : a2.IsWhole) (a3 : Memref sig .tc .vmem S256x1 .i32) (ha3 : a3.IsWhole) (a4 : Memref sig .tc .vmem S1x1024 .i32) (ha4 : a4.IsWhole) (a5 : Memref sig .tc .vmem S1x1024 .i32) (ha5 : a5.IsWhole) (a6 : Memref sig .tc .vmem S1x1024 .i32) (ha6 : a6.IsWhole) (a7 : Memref sig .tc .vmem S256x1 .i32) (ha7 : a7.IsWhole) (a8 : Memref sig .tc .vmem S256x1 .i32) (ha8 : a8.IsWhole) (a9 : Memref sig .tc .vmem S256x1 .f32) (ha9 : a9.IsWhole) (a10 : Memref sig .tc .vmem S256x1 .f32) (ha10 : a10.IsWhole) (a11 : Memref sig .tc .vmem S256x1 .f32) (ha11 : a11.IsWhole) (a12 : Memref sig .tc .vmem S256x1 .f32) (ha12 : a12.IsWhole) (a13 : Memref sig .tc .vmem S1x1 .f32) (ha13 : a13.IsWhole)
    (hc0 : ¬ k3_cond1 i = 1#1) (hc1 : k3_cond2 i = 1#1) (hc2 : k3_cond3 i = 1#1) (x0 : Vec F S256x512 .f32) (x1 : Vec F S1024x512 .f32) (x2 : Vec F S1024x512 .f32) (x3 : Vec F S256x1 .i32) (x4 : Vec F S1x1024 .i32) (x5 : Vec F S1x1024 .i32) (x6 : Vec F S1x1024 .i32) (x7 : Vec F S256x1 .i32) (x8 : Vec F S256x1 .i32) (x9 : Vec F S256x1 .f32) (x10 : Vec F S256x1 .f32) (x11 : Vec F S256x1 .f32) (x12 : Vec F S256x1 .f32) (o0 : Vec F S1x1 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare o0
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (k3_pay3 (cNext x0 x1 x2 x3 x4 x5 x6 x7 x8 x9 x10 x11 x12 o0))) -∗ Q ⟨⟩))
      ⊢ wp frame (wpE (defs₀ (F := F)) Variants.none c none) E (cc3__combine_body i a0 ha0 a1 ha1 a2 ha2 a3 ha3 a4 ha4 a5 ha5 a6 ha6 a7 ha7 a8 ha8 a9 ha9 a10 ha10 a11 ha11 a12 ha12 a13 ha13) Q := by
  simp only [cc3__combine_body_eq_skeleton]; unfold cc3__combine_body_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf0 hf1 hf2 hf3 hf4 hf5 hf6 hf7 hf8 hf9 hf10 hf11 hf12 hf13
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr; swap; · iexact H13
  ipureintro
  refine (read_store_whole _ zeros2 _ _ _ _).trans ?_
  unfold comb_run_last.sl.v147
  refine congrArg k3_pay3 ?_
  refine (View.readCov_unit_zero _ zeros2 _ _).trans ?_
  try unfold comb_run_last.sl.r_13
  try unfold comb_run_last.sl.r_12
  try unfold comb_run_last.sl.r_11
  try unfold comb_run_last.sl.r_10
  try unfold comb_run_last.sl.r_9
  try unfold comb_run_last.sl.r_8
  try unfold comb_run_last.sl.r_7
  try unfold comb_run_last.sl.r_6
  try unfold comb_run_last.sl.r_5
  try unfold comb_run_last.sl.r_4
  try unfold comb_run_last.sl.r_3
  try unfold comb_run_last.sl.r_2
  try unfold comb_run_last.sl.r_1
  try unfold comb_run_last.sl.r
  repeat rw [readAt_zero _ zeros2]
  rfl

section
variable (V : Dev nD → Valuation τ sig (Elt F))

/-- The block of window `w` that the pipeline stages at point `t`, read off the array as the call finds it. -/
def cBlk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The staging buffer of input 0 holds its block when the body runs. -/
theorem cBefore_0_of {c : Dev nD} (dat : Dat τ (Elt F) (HIx 1) ℕ UU ℕ cfg3 c) (hA : dat.A 0 = V c (Proc.devRef .tc (Pipeline.arrRef spec3 0)))
    (hafter : ∀ t, dat.after 0 t = cBlk V c 0 t) (t : Fin cfg3.N) (d) : dat.before 0 t d = cBlk V c 0 t :=
  (dat.before_in_eq_fetched 0 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 1 holds its block when the body runs. -/
theorem cBefore_1_of {c : Dev nD} (dat : Dat τ (Elt F) (HIx 1) ℕ UU ℕ cfg3 c) (hA : dat.A 1 = V c (Proc.devRef .tc (Pipeline.arrRef spec3 1)))
    (hafter : ∀ t, dat.after 1 t = cBlk V c 1 t) (t : Fin cfg3.N) (d) : dat.before 1 t d = cBlk V c 1 t :=
  (dat.before_in_eq_fetched 1 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 2 holds its block when the body runs. -/
theorem cBefore_2_of {c : Dev nD} (dat : Dat τ (Elt F) (HIx 1) ℕ UU ℕ cfg3 c) (hA : dat.A 2 = V c (Proc.devRef .tc (Pipeline.arrRef spec3 2)))
    (hafter : ∀ t, dat.after 2 t = cBlk V c 2 t) (t : Fin cfg3.N) (d) : dat.before 2 t d = cBlk V c 2 t :=
  (dat.before_in_eq_fetched 2 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 3 holds its block when the body runs. -/
theorem cBefore_3_of {c : Dev nD} (dat : Dat τ (Elt F) (HIx 1) ℕ UU ℕ cfg3 c) (hA : dat.A 3 = V c (Proc.devRef .tc (Pipeline.arrRef spec3 3)))
    (hafter : ∀ t, dat.after 3 t = cBlk V c 3 t) (t : Fin cfg3.N) (d) : dat.before 3 t d = cBlk V c 3 t :=
  (dat.before_in_eq_fetched 3 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 4 holds its block when the body runs. -/
theorem cBefore_4_of {c : Dev nD} (dat : Dat τ (Elt F) (HIx 1) ℕ UU ℕ cfg3 c) (hA : dat.A 4 = V c (Proc.devRef .tc (Pipeline.arrRef spec3 4)))
    (hafter : ∀ t, dat.after 4 t = cBlk V c 4 t) (t : Fin cfg3.N) (d) : dat.before 4 t d = cBlk V c 4 t :=
  (dat.before_in_eq_fetched 4 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 5 holds its block when the body runs. -/
theorem cBefore_5_of {c : Dev nD} (dat : Dat τ (Elt F) (HIx 1) ℕ UU ℕ cfg3 c) (hA : dat.A 5 = V c (Proc.devRef .tc (Pipeline.arrRef spec3 5)))
    (hafter : ∀ t, dat.after 5 t = cBlk V c 5 t) (t : Fin cfg3.N) (d) : dat.before 5 t d = cBlk V c 5 t :=
  (dat.before_in_eq_fetched 5 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 6 holds its block when the body runs. -/
theorem cBefore_6_of {c : Dev nD} (dat : Dat τ (Elt F) (HIx 1) ℕ UU ℕ cfg3 c) (hA : dat.A 6 = V c (Proc.devRef .tc (Pipeline.arrRef spec3 6)))
    (hafter : ∀ t, dat.after 6 t = cBlk V c 6 t) (t : Fin cfg3.N) (d) : dat.before 6 t d = cBlk V c 6 t :=
  (dat.before_in_eq_fetched 6 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 7 holds its block when the body runs. -/
theorem cBefore_7_of {c : Dev nD} (dat : Dat τ (Elt F) (HIx 1) ℕ UU ℕ cfg3 c) (hA : dat.A 7 = V c (Proc.devRef .tc (Pipeline.arrRef spec3 7)))
    (hafter : ∀ t, dat.after 7 t = cBlk V c 7 t) (t : Fin cfg3.N) (d) : dat.before 7 t d = cBlk V c 7 t :=
  (dat.before_in_eq_fetched 7 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 8 holds its block when the body runs. -/
theorem cBefore_8_of {c : Dev nD} (dat : Dat τ (Elt F) (HIx 1) ℕ UU ℕ cfg3 c) (hA : dat.A 8 = V c (Proc.devRef .tc (Pipeline.arrRef spec3 8)))
    (hafter : ∀ t, dat.after 8 t = cBlk V c 8 t) (t : Fin cfg3.N) (d) : dat.before 8 t d = cBlk V c 8 t :=
  (dat.before_in_eq_fetched 8 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 9 holds its block when the body runs. -/
theorem cBefore_9_of {c : Dev nD} (dat : Dat τ (Elt F) (HIx 1) ℕ UU ℕ cfg3 c) (hA : dat.A 9 = V c (Proc.devRef .tc (Pipeline.arrRef spec3 9)))
    (hafter : ∀ t, dat.after 9 t = cBlk V c 9 t) (t : Fin cfg3.N) (d) : dat.before 9 t d = cBlk V c 9 t :=
  (dat.before_in_eq_fetched 9 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 10 holds its block when the body runs. -/
theorem cBefore_10_of {c : Dev nD} (dat : Dat τ (Elt F) (HIx 1) ℕ UU ℕ cfg3 c) (hA : dat.A 10 = V c (Proc.devRef .tc (Pipeline.arrRef spec3 10)))
    (hafter : ∀ t, dat.after 10 t = cBlk V c 10 t) (t : Fin cfg3.N) (d) : dat.before 10 t d = cBlk V c 10 t :=
  (dat.before_in_eq_fetched 10 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 11 holds its block when the body runs. -/
theorem cBefore_11_of {c : Dev nD} (dat : Dat τ (Elt F) (HIx 1) ℕ UU ℕ cfg3 c) (hA : dat.A 11 = V c (Proc.devRef .tc (Pipeline.arrRef spec3 11)))
    (hafter : ∀ t, dat.after 11 t = cBlk V c 11 t) (t : Fin cfg3.N) (d) : dat.before 11 t d = cBlk V c 11 t :=
  (dat.before_in_eq_fetched 11 rfl (fun _ => rfl) (fun _ _ _ => rfl) (fun t => by rw [hafter]; unfold Dat.blockOf cBlk; rw [hA]; try rfl) t d).trans
    (by unfold Dat.fetched Dat.blockOf cBlk; rw [hA]; try rfl)
/-- The staging buffer of input 12 holds its block when the body runs. -/
theorem cBefore_12_of {c : Dev nD} (dat : Dat τ (Elt F) (HIx 1) ℕ UU ℕ cfg3 c) (hA : dat.A 12 = V c (Proc.devRef .tc (Pipeline.arrRef spec3 12)))
    (hafter : ∀ t, dat.after 12 t = cBlk V c 12 t) (t : Fin cfg3.N) (d) : dat.before 12 t d = cBlk V c 12 t :=
  (dat.before_in_eq_fetched 12 rfl (fun _ => rfl) (fun _ _ _ => rfl) (fun t => by rw [hafter]; unfold Dat.blockOf cBlk; rw [hA]; try rfl) t d).trans
    (by unfold Dat.fetched Dat.blockOf cBlk; rw [hA]; try rfl)

/-- The accumulator after point `n`; the last point scales it. -/
def cAt (c : Dev nD) : (n : ℕ) → n < cfg3.N → Vec F S1x1 .f32
  | 0, h => cFirst (cBlk V c 0 ⟨0, h⟩) (cBlk V c 1 ⟨0, h⟩) (cBlk V c 2 ⟨0, h⟩) (cBlk V c 3 ⟨0, h⟩) (cBlk V c 4 ⟨0, h⟩) (cBlk V c 5 ⟨0, h⟩) (cBlk V c 6 ⟨0, h⟩) (cBlk V c 7 ⟨0, h⟩) (cBlk V c 8 ⟨0, h⟩) (cBlk V c 9 ⟨0, h⟩) (cBlk V c 10 ⟨0, h⟩) (cBlk V c 11 ⟨0, h⟩) (cBlk V c 12 ⟨0, h⟩)
  | n + 1, h => if n + 1 = 3 then k3_pay3 (cNext (cBlk V c 0 ⟨n + 1, h⟩) (cBlk V c 1 ⟨n + 1, h⟩) (cBlk V c 2 ⟨n + 1, h⟩) (cBlk V c 3 ⟨n + 1, h⟩) (cBlk V c 4 ⟨n + 1, h⟩) (cBlk V c 5 ⟨n + 1, h⟩) (cBlk V c 6 ⟨n + 1, h⟩) (cBlk V c 7 ⟨n + 1, h⟩) (cBlk V c 8 ⟨n + 1, h⟩) (cBlk V c 9 ⟨n + 1, h⟩) (cBlk V c 10 ⟨n + 1, h⟩) (cBlk V c 11 ⟨n + 1, h⟩) (cBlk V c 12 ⟨n + 1, h⟩) (cAt c n (Nat.lt_of_succ_lt h)))
      else cNext (cBlk V c 0 ⟨n + 1, h⟩) (cBlk V c 1 ⟨n + 1, h⟩) (cBlk V c 2 ⟨n + 1, h⟩) (cBlk V c 3 ⟨n + 1, h⟩) (cBlk V c 4 ⟨n + 1, h⟩) (cBlk V c 5 ⟨n + 1, h⟩) (cBlk V c 6 ⟨n + 1, h⟩) (cBlk V c 7 ⟨n + 1, h⟩) (cBlk V c 8 ⟨n + 1, h⟩) (cBlk V c 9 ⟨n + 1, h⟩) (cBlk V c 10 ⟨n + 1, h⟩) (cBlk V c 11 ⟨n + 1, h⟩) (cBlk V c 12 ⟨n + 1, h⟩) (cAt c n (Nat.lt_of_succ_lt h))

theorem cAt_first (c : Dev nD) (t : Fin cfg3.N) (h : t.val = 0) : cAt V c t.val t.isLt = cFirst (cBlk V c 0 t) (cBlk V c 1 t) (cBlk V c 2 t) (cBlk V c 3 t) (cBlk V c 4 t) (cBlk V c 5 t) (cBlk V c 6 t) (cBlk V c 7 t) (cBlk V c 8 t) (cBlk V c 9 t) (cBlk V c 10 t) (cBlk V c 11 t) (cBlk V c 12 t) := by
  obtain ⟨n, hn⟩ := t
  dsimp only at h
  subst h
  rfl

theorem cAt_next (c : Dev nD) (t : Fin cfg3.N) (h : 1 ≤ t.val) (h3 : t.val ≠ 3) : cAt V c t.val t.isLt
    = cNext (cBlk V c 0 t) (cBlk V c 1 t) (cBlk V c 2 t) (cBlk V c 3 t) (cBlk V c 4 t) (cBlk V c 5 t) (cBlk V c 6 t) (cBlk V c 7 t) (cBlk V c 8 t) (cBlk V c 9 t) (cBlk V c 10 t) (cBlk V c 11 t) (cBlk V c 12 t) (cAt V c (t.val - 1) (Nat.lt_of_le_of_lt (Nat.sub_le _ _) t.isLt)) := by
  obtain ⟨n, hn⟩ := t
  dsimp only at h h3
  obtain ⟨m, rfl⟩ : ∃ m, n = m + 1 := ⟨n - 1, by omega⟩
  exact if_neg h3

theorem cAt_last (c : Dev nD) (t : Fin cfg3.N) (h3 : t.val = 3) : cAt V c t.val t.isLt
    = k3_pay3 (cNext (cBlk V c 0 t) (cBlk V c 1 t) (cBlk V c 2 t) (cBlk V c 3 t) (cBlk V c 4 t) (cBlk V c 5 t) (cBlk V c 6 t) (cBlk V c 7 t) (cBlk V c 8 t) (cBlk V c 9 t) (cBlk V c 10 t) (cBlk V c 11 t) (cBlk V c 12 t) (cAt V c (t.val - 1) (Nat.lt_of_le_of_lt (Nat.sub_le _ _) t.isLt))) := by
  obtain ⟨n, hn⟩ := t
  dsimp only at h3
  subst h3
  exact if_pos rfl

/-- The accumulator is stored at every point. -/
theorem cLive : ∀ i : grid3.Coords, cfg3.idle 13 i = false :=
  (by decide +kernel : ∀ i : grid3.Coords, idle3 13 i = false)
/-- Which branch is taken where. -/
theorem cCond1 : ∀ t : Fin cfg3.N, k3_cond1 (grid3.coords t) = 1#1 ↔ t.val = 0 := by decide +kernel
theorem cCond2 : ∀ t : Fin cfg3.N, k3_cond2 (grid3.coords t) = 1#1 ↔ 1 ≤ t.val := by decide +kernel
theorem cCond3 : ∀ t : Fin cfg3.N, k3_cond3 (grid3.coords t) = 1#1 ↔ t.val = 3 := by decide +kernel

/-- The call's proof data: the arrays as the call finds them, what the body leaves in each staging buffer, and what the core owes
    (nothing at the pipeline's index). -/
def cDat (c : Dev nD) : Dat τ (Elt F) (HIx 1) ℕ UU ℕ cfg3 c where
  A w := V c (Proc.devRef .tc (Pipeline.arrRef spec3 w))
  after w t := match w with
    | ⟨0, _⟩ => cBlk V c 0 t
    | ⟨1, _⟩ => cBlk V c 1 t
    | ⟨2, _⟩ => cBlk V c 2 t
    | ⟨3, _⟩ => cBlk V c 3 t
    | ⟨4, _⟩ => cBlk V c 4 t
    | ⟨5, _⟩ => cBlk V c 5 t
    | ⟨6, _⟩ => cBlk V c 6 t
    | ⟨7, _⟩ => cBlk V c 7 t
    | ⟨8, _⟩ => cBlk V c 8 t
    | ⟨9, _⟩ => cBlk V c 9 t
    | ⟨10, _⟩ => cBlk V c 10 t
    | ⟨11, _⟩ => cBlk V c 11 t
    | ⟨12, _⟩ => cBlk V c 12 t
    | ⟨13, _⟩ => cAt V c t.val t.isLt
  Φ _ := Pipeline.scopedRest spec3 c
  q := Pipeline.shareOf spec3
  owed _ := (K (F := F)).Otc c 1
  recorded _ := recd (F := F) 1 c

theorem cDat_A (c : Dev nD) (w : Fin cfg3.W) : (cDat V c).A w = V c (Proc.devRef .tc (Pipeline.arrRef spec3 w)) := by dsimp only [cDat]
theorem cAfter_0 (c : Dev nD) (t : Fin cfg3.N) : (cDat V c).after 0 t = cBlk V c 0 t := by dsimp only [cDat]
theorem cAfter_1 (c : Dev nD) (t : Fin cfg3.N) : (cDat V c).after 1 t = cBlk V c 1 t := by dsimp only [cDat]
theorem cAfter_2 (c : Dev nD) (t : Fin cfg3.N) : (cDat V c).after 2 t = cBlk V c 2 t := by dsimp only [cDat]
theorem cAfter_3 (c : Dev nD) (t : Fin cfg3.N) : (cDat V c).after 3 t = cBlk V c 3 t := by dsimp only [cDat]
theorem cAfter_4 (c : Dev nD) (t : Fin cfg3.N) : (cDat V c).after 4 t = cBlk V c 4 t := by dsimp only [cDat]
theorem cAfter_5 (c : Dev nD) (t : Fin cfg3.N) : (cDat V c).after 5 t = cBlk V c 5 t := by dsimp only [cDat]
theorem cAfter_6 (c : Dev nD) (t : Fin cfg3.N) : (cDat V c).after 6 t = cBlk V c 6 t := by dsimp only [cDat]
theorem cAfter_7 (c : Dev nD) (t : Fin cfg3.N) : (cDat V c).after 7 t = cBlk V c 7 t := by dsimp only [cDat]
theorem cAfter_8 (c : Dev nD) (t : Fin cfg3.N) : (cDat V c).after 8 t = cBlk V c 8 t := by dsimp only [cDat]
theorem cAfter_9 (c : Dev nD) (t : Fin cfg3.N) : (cDat V c).after 9 t = cBlk V c 9 t := by dsimp only [cDat]
theorem cAfter_10 (c : Dev nD) (t : Fin cfg3.N) : (cDat V c).after 10 t = cBlk V c 10 t := by dsimp only [cDat]
theorem cAfter_11 (c : Dev nD) (t : Fin cfg3.N) : (cDat V c).after 11 t = cBlk V c 11 t := by dsimp only [cDat]
theorem cAfter_12 (c : Dev nD) (t : Fin cfg3.N) : (cDat V c).after 12 t = cBlk V c 12 t := by dsimp only [cDat]
theorem cAfter_13 (c : Dev nD) (t : Fin cfg3.N) : (cDat V c).after 13 t = cAt V c t.val t.isLt := by dsimp only [cDat]
theorem cBefore_0 (c : Dev nD) (t : Fin cfg3.N) (d) : (cDat V c).before 0 t d = cBlk V c 0 t :=
  cBefore_0_of V (cDat V c) (cDat_A V c 0) (cAfter_0 V c) t d
theorem cBefore_1 (c : Dev nD) (t : Fin cfg3.N) (d) : (cDat V c).before 1 t d = cBlk V c 1 t :=
  cBefore_1_of V (cDat V c) (cDat_A V c 1) (cAfter_1 V c) t d
theorem cBefore_2 (c : Dev nD) (t : Fin cfg3.N) (d) : (cDat V c).before 2 t d = cBlk V c 2 t :=
  cBefore_2_of V (cDat V c) (cDat_A V c 2) (cAfter_2 V c) t d
theorem cBefore_3 (c : Dev nD) (t : Fin cfg3.N) (d) : (cDat V c).before 3 t d = cBlk V c 3 t :=
  cBefore_3_of V (cDat V c) (cDat_A V c 3) (cAfter_3 V c) t d
theorem cBefore_4 (c : Dev nD) (t : Fin cfg3.N) (d) : (cDat V c).before 4 t d = cBlk V c 4 t :=
  cBefore_4_of V (cDat V c) (cDat_A V c 4) (cAfter_4 V c) t d
theorem cBefore_5 (c : Dev nD) (t : Fin cfg3.N) (d) : (cDat V c).before 5 t d = cBlk V c 5 t :=
  cBefore_5_of V (cDat V c) (cDat_A V c 5) (cAfter_5 V c) t d
theorem cBefore_6 (c : Dev nD) (t : Fin cfg3.N) (d) : (cDat V c).before 6 t d = cBlk V c 6 t :=
  cBefore_6_of V (cDat V c) (cDat_A V c 6) (cAfter_6 V c) t d
theorem cBefore_7 (c : Dev nD) (t : Fin cfg3.N) (d) : (cDat V c).before 7 t d = cBlk V c 7 t :=
  cBefore_7_of V (cDat V c) (cDat_A V c 7) (cAfter_7 V c) t d
theorem cBefore_8 (c : Dev nD) (t : Fin cfg3.N) (d) : (cDat V c).before 8 t d = cBlk V c 8 t :=
  cBefore_8_of V (cDat V c) (cDat_A V c 8) (cAfter_8 V c) t d
theorem cBefore_9 (c : Dev nD) (t : Fin cfg3.N) (d) : (cDat V c).before 9 t d = cBlk V c 9 t :=
  cBefore_9_of V (cDat V c) (cDat_A V c 9) (cAfter_9 V c) t d
theorem cBefore_10 (c : Dev nD) (t : Fin cfg3.N) (d) : (cDat V c).before 10 t d = cBlk V c 10 t :=
  cBefore_10_of V (cDat V c) (cDat_A V c 10) (cAfter_10 V c) t d
theorem cBefore_11 (c : Dev nD) (t : Fin cfg3.N) (d) : (cDat V c).before 11 t d = cBlk V c 11 t :=
  cBefore_11_of V (cDat V c) (cDat_A V c 11) (cAfter_11 V c) t d
theorem cBefore_12 (c : Dev nD) (t : Fin cfg3.N) (d) : (cDat V c).before 12 t d = cBlk V c 12 t :=
  cBefore_12_of V (cDat V c) (cDat_A V c 12) (cAfter_12 V c) t d

/-- What the body is called with at point `t`, window by window, -/
def cPre (c : Dev nD) (t : Fin cfg3.N) : sProp 𝕄 :=
  iprop((cDat V c).Φ t.castSucc ∗ (cDat V c).owesAt none t.castSucc
    ∗ (∃ d, owns (c : Thread nD τ) (st3_0 t) fullShare ((cDat V c).before 0 t d))
    ∗ (∃ d, owns (c : Thread nD τ) (st3_1 t) fullShare ((cDat V c).before 1 t d))
    ∗ (∃ d, owns (c : Thread nD τ) (st3_2 t) fullShare ((cDat V c).before 2 t d))
    ∗ (∃ d, owns (c : Thread nD τ) (st3_3 t) fullShare ((cDat V c).before 3 t d))
    ∗ (∃ d, owns (c : Thread nD τ) (st3_4 t) fullShare ((cDat V c).before 4 t d))
    ∗ (∃ d, owns (c : Thread nD τ) (st3_5 t) fullShare ((cDat V c).before 5 t d))
    ∗ (∃ d, owns (c : Thread nD τ) (st3_6 t) fullShare ((cDat V c).before 6 t d))
    ∗ (∃ d, owns (c : Thread nD τ) (st3_7 t) fullShare ((cDat V c).before 7 t d))
    ∗ (∃ d, owns (c : Thread nD τ) (st3_8 t) fullShare ((cDat V c).before 8 t d))
    ∗ (∃ d, owns (c : Thread nD τ) (st3_9 t) fullShare ((cDat V c).before 9 t d))
    ∗ (∃ d, owns (c : Thread nD τ) (st3_10 t) fullShare ((cDat V c).before 10 t d))
    ∗ (∃ d, owns (c : Thread nD τ) (st3_11 t) fullShare ((cDat V c).before 11 t d))
    ∗ (∃ d, owns (c : Thread nD τ) (st3_12 t) fullShare ((cDat V c).before 12 t d))
    ∗ (∃ d, owns (c : Thread nD τ) (st3_13 t) fullShare ((cDat V c).before 13 t d)))

/-- and what it returns. -/
def cPost (c : Dev nD) (t : Fin cfg3.N) : sProp 𝕄 :=
  iprop((cDat V c).Φ t.succ ∗ (cDat V c).owesAt none t.succ
    ∗ (cDat V c).leavesExact 0 t
    ∗ (cDat V c).leavesExact 1 t
    ∗ (cDat V c).leavesExact 2 t
    ∗ (cDat V c).leavesExact 3 t
    ∗ (cDat V c).leavesExact 4 t
    ∗ (cDat V c).leavesExact 5 t
    ∗ (cDat V c).leavesExact 6 t
    ∗ (cDat V c).leavesExact 7 t
    ∗ (cDat V c).leavesExact 8 t
    ∗ (cDat V c).leavesExact 9 t
    ∗ (cDat V c).leavesExact 10 t
    ∗ (cDat V c).leavesExact 11 t
    ∗ (cDat V c).leavesExact 12 t
    ∗ (cDat V c).leavesExact 13 t)

/-- A window that is never idle leaves exactly what the proof data say. -/
theorem cLeaves (c : Dev nD) (w : Fin cfg3.W) (t : Fin cfg3.N) (h : cfg3.idle w (cfg3.grid.coords t) = false) :
    (cDat V c).leavesExact w t = owns (c : Thread nD τ) ((cfg3.win w).stage (cfg3.slots t w)) fullShare ((cDat V c).after w t) := by
  unfold Dat.leavesExact; rw [h]

theorem cKept (c : Dev nD) (t : Fin cfg3.N) (h : 1 ≤ t.val) (d) :
    (cDat V c).before 13 t d = cAt V c (t.val - 1) (Nat.lt_of_le_of_lt (Nat.sub_le _ _) t.isLt) := by
  have ht : t.val < 4 := Nat.lt_of_lt_of_eq t.isLt N_3
  refine ((cDat V c).before_out_kept 13 rfl t (by omega) ?_ cLive (fun _ _ => rfl) d).trans (cAfter_13 V c _)
  refine Bool.eq_false_iff.mpr fun hf => ?_
  have := (flush3_13 _).mp hf
  dsimp only at this
  omega

set_option maxHeartbeats 1600000 in
/-- The body at any point. -/
theorem cSound (c : Dev nD) (t : Fin cfg3.N) :
    cPre V c t ⊢ wp frame (wpE (defs₀ (F := F)) Variants.none c none) Set.univ (bodyAt3 t) (fun _ => cPost V c t) := by
  unfold cPre cPost bodyAt3
  simp only [cBefore_0, cBefore_1, cBefore_2, cBefore_3, cBefore_4, cBefore_5, cBefore_6, cBefore_7, cBefore_8, cBefore_9, cBefore_10, cBefore_11, cBefore_12]
  rw [show (cDat V c).Φ t.succ = (cDat V c).Φ t.castSucc from rfl,
    show (cDat V c).owesAt none t.succ = (cDat V c).owesAt none t.castSucc from rfl]
  rw [cLeaves V c 0 t rfl, cAfter_0]
  rw [cLeaves V c 1 t rfl, cAfter_1]
  rw [cLeaves V c 2 t rfl, cAfter_2]
  rw [cLeaves V c 3 t rfl, cAfter_3]
  rw [cLeaves V c 4 t rfl, cAfter_4]
  rw [cLeaves V c 5 t rfl, cAfter_5]
  rw [cLeaves V c 6 t rfl, cAfter_6]
  rw [cLeaves V c 7 t rfl, cAfter_7]
  rw [cLeaves V c 8 t rfl, cAfter_8]
  rw [cLeaves V c 9 t rfl, cAfter_9]
  rw [cLeaves V c 10 t rfl, cAfter_10]
  rw [cLeaves V c 11 t rfl, cAfter_11]
  rw [cLeaves V c 12 t rfl, cAfter_12]
  rw [cLeaves V c 13 t (cLive _), cAfter_13]
  by_cases h1 : 1 ≤ t.val
  · simp only [cKept V c t h1]
    by_cases h3 : t.val = 3
    · rw [cAt_last V c t h3]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (comb_run_last c Set.univ (grid3.coords t) _ _ _ _ _ _ _ _ _ _ _ _ _ _ _ _ _ _ _ _ _ _ _ _ _ _ _ _ (fun h => absurd ((cCond1 t).mp h) (by omega)) ((cCond2 t).mpr h1) ((cCond3 t).mpr h3) (cBlk V c 0 t) (cBlk V c 1 t) (cBlk V c 2 t) (cBlk V c 3 t) (cBlk V c 4 t) (cBlk V c 5 t) (cBlk V c 6 t) (cBlk V c 7 t) (cBlk V c 8 t) (cBlk V c 9 t) (cBlk V c 10 t) (cBlk V c 11 t) (cBlk V c 12 t) (cAt V c (t.val - 1) _) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iintro ⟨H0, H1, H2, H3, H4, H5, H6, H7, H8, H9, H10, H11, H12, H13⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · rw [cAt_next V c t h1 h3]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (comb_run_next c Set.univ (grid3.coords t) _ _ _ _ _ _ _ _ _ _ _ _ _ _ _ _ _ _ _ _ _ _ _ _ _ _ _ _ (fun h => absurd ((cCond1 t).mp h) (by omega)) ((cCond2 t).mpr h1) (fun h => h3 ((cCond3 t).mp h)) (cBlk V c 0 t) (cBlk V c 1 t) (cBlk V c 2 t) (cBlk V c 3 t) (cBlk V c 4 t) (cBlk V c 5 t) (cBlk V c 6 t) (cBlk V c 7 t) (cBlk V c 8 t) (cBlk V c 9 t) (cBlk V c 10 t) (cBlk V c 11 t) (cBlk V c 12 t) (cAt V c (t.val - 1) _) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iintro ⟨H0, H1, H2, H3, H4, H5, H6, H7, H8, H9, H10, H11, H12, H13⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · have h0 : t.val = 0 := by omega
    rw [cAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (comb_run_first c Set.univ (grid3.coords t) _ _ _ _ _ _ _ _ _ _ _ _ _ _ _ _ _ _ _ _ _ _ _ _ _ _ _ _ ((cCond1 t).mpr h0) (fun h => h1 ((cCond2 t).mp h)) (fun h => absurd ((cCond3 t).mp h) (by omega)) (cBlk V c 0 t) (cBlk V c 1 t) (cBlk V c 2 t) (cBlk V c 3 t) (cBlk V c 4 t) (cBlk V c 5 t) (cBlk V c 6 t) (cBlk V c 7 t) (cBlk V c 8 t) (cBlk V c 9 t) (cBlk V c 10 t) (cBlk V c 11 t) (cBlk V c 12 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at a point's slots is the body. -/
theorem cRow (t : Fin cfg3.N) : defs₀ (F := F) .tc cfg3.body (cfg3.bodyArgs t (cfg3.slots t)) = bodyAt3 t := rfl

/-- The body obligation of the call. -/
theorem cBody (c : Dev nD) : BodyObligation (cDat V c) (defs₀ (F := F)) Variants.none none Set.univ := fun t => by
  rw [bigSep_W3, bigSep_W3, cRow]
  exact triple_restated (cSound V c t) rfl .rfl fun _ => .rfl

end

end Cert.Proof

end
-- ==== Proof.Vals.lean ====
/-
  The contents of the TensorCore's buffers through @main: the host's operations as lists, the valuation that each stretch and each call
  leaves, and the three TensorCore calls as segments from one valuation to the next.
-/
module

public import proofs.«01_k».proof.Proof.Stats
public import proofs.«01_k».proof.Proof.MainPass
public import proofs.«01_k».proof.Proof.Combine

@[expose] public section

noncomputable section

namespace Cert.Proof

open Cert.KernelIdeal Cert.KernelIdeal.Gen

open Idealize.ShloMosaic Idealize.ShloMosaic.TcCoe Idealize.ShloMosaic.StableHlo
open Idealize.ShloMosaic.SparseCore.Cfg (HIx Pay)
open Idealize.ShloMosaic.Pipeline (Dat RegionSeg pin arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The host's operations -/

/-- Before the first call. -/
abbrev ops0 : List (HloOp τ sig (Elt F)) :=
  [ StableHlo.reshape main_arg1 main_v0 (rfl : (.i32 : EltTy) = .i32) shapeCasts_S1024_S1024x1,
    StableHlo.reshape main_arg1 main_v1 (rfl : (.i32 : EltTy) = .i32) shapeCasts_S1024_S1x1024 ]
/-- Between the first call and the gather: the table in rows of 128 lanes and the index list. -/
abbrev ops1 : List (HloOp τ sig (Elt F)) :=
  [ StableHlo.reshape main_arg2 main_v3 (rfl : (.f32 : EltTy) = .f32) shapeCasts_S1000x200x512_S800000x128,
    StableHlo.nullary main_c (constantI S_ 32 4#32),
    StableHlo.unary main_c main_v4 (broadcastInDim S1024x1 ![] bcast_S_S1024x1 : (⟨S_, .i32⟩ : BufTy).Contents (Elt F) → (⟨S1024x1, .i32⟩ : BufTy).Contents (Elt F)),
    StableHlo.binary main_v2_5 main_v4 main_v5 (muli : (⟨S1024x1, .i32⟩ : BufTy).Contents (Elt F) → (⟨S1024x1, .i32⟩ : BufTy).Contents (Elt F) → (⟨S1024x1, .i32⟩ : BufTy).Contents (Elt F)),
    StableHlo.nullary main_v6 (iotaInDim S4 32 0),
    StableHlo.reshape main_v6 main_v7 (rfl : (.i32 : EltTy) = .i32) shapeCasts_S4_S1x4,
    StableHlo.unary main_v5 main_v8 (broadcastInDim S1024x4 ![0, 1] bcast_S1024x1_S1024x4_0_1 : (⟨S1024x1, .i32⟩ : BufTy).Contents (Elt F) → (⟨S1024x4, .i32⟩ : BufTy).Contents (Elt F)),
    StableHlo.unary main_v7 main_v9 (broadcastInDim S1024x4 ![0, 1] bcast_S1x4_S1024x4_0_1 : (⟨S1x4, .i32⟩ : BufTy).Contents (Elt F) → (⟨S1024x4, .i32⟩ : BufTy).Contents (Elt F)),
    StableHlo.binary main_v8 main_v9 main_v10 (addi : (⟨S1024x4, .i32⟩ : BufTy).Contents (Elt F) → (⟨S1024x4, .i32⟩ : BufTy).Contents (Elt F) → (⟨S1024x4, .i32⟩ : BufTy).Contents (Elt F)),
    StableHlo.reshape main_v10 main_v11 (rfl : (.i32 : EltTy) = .i32) shapeCasts_S1024x4_S4096 ]
/-- Between the gather and the main pass, up to the division. -/
abbrev ops2a : List (HloOp τ sig (Elt F)) :=
  [ StableHlo.reshape main_v12 main_v13 (rfl : (.f32 : EltTy) = .f32) shapeCasts_S4096x128_S1024x512,
    StableHlo.reshape main_arg1 main_v14 (rfl : (.i32 : EltTy) = .i32) shapeCasts_S1024_S1024x1,
    StableHlo.nullary main_v15 (iotaInDim S800 32 0),
    StableHlo.nullary main_c_0 (constantI S_ 32 20#32) ]
/-- The floor division. -/
abbrev ops2b : List (HloOp τ sig (Elt F)) :=
  [ StableHlo.TRef.unary (.of main_c_0 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S800, .i32⟩) (broadcastInDim S800 ![] bcast_S_S800),
    StableHlo.TRef.binary (.of main_v15 : StableHlo.TRef sig ⟨S800, .i32⟩) (.of main_call0_v1 : StableHlo.TRef sig ⟨S800, .i32⟩) (.of main_call0_v2 : StableHlo.TRef sig ⟨S800, .i32⟩) Host.divsi,
    StableHlo.TRef.unary (.of main_v15 : StableHlo.TRef sig ⟨S800, .i32⟩) (.of main_call0_v3 : StableHlo.TRef sig ⟨S800, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S800, .i32⟩) (broadcastInDim S800 ![] bcast_S_S800),
    StableHlo.TRef.binary (.of main_call0_v3 : StableHlo.TRef sig ⟨S800, .i32⟩) (.of main_call0_v5 : StableHlo.TRef sig ⟨S800, .i32⟩) (.of main_call0_v6 : StableHlo.TRef sig ⟨S800, .i1⟩) (cmpi .ne),
    StableHlo.TRef.unary (.of main_call0_v0 : StableHlo.TRef sig ⟨S_, .i32⟩) (.of main_call0_v7 : StableHlo.TRef sig ⟨S800, .i32⟩) (broadcastInDim S800 ![] bcast_S_S800),
    StableHlo.TRef.binary (.of main_v15 : StableHlo.TRef sig ⟨S800, .i32⟩) (.of main_call0_v7 : StableHlo.TRef sig ⟨S800, .i32⟩) (.of main_call0_v8 : StableHlo.TRef sig ⟨S800, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S800, .i32⟩) (broadcastInDim S800 ![] bcast_S_S800),
    StableHlo.TRef.binary (.of main_call0_v8 : StableHlo.TRef sig ⟨S800, .i32⟩) (.of main_call0_v9 : StableHlo.TRef sig ⟨S800, .i32⟩) (.of main_call0_v10 : StableHlo.TRef sig ⟨S800, .i1⟩) (cmpi .ne),
    StableHlo.TRef.binary (.of main_call0_v6 : StableHlo.TRef sig ⟨S800, .i1⟩) (.of main_call0_v10 : StableHlo.TRef sig ⟨S800, .i1⟩) (.of main_call0_v11 : StableHlo.TRef sig ⟨S800, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S800, .i32⟩) (broadcastInDim S800 ![] bcast_S_S800),
    StableHlo.TRef.binary (.of main_call0_v2 : StableHlo.TRef sig ⟨S800, .i32⟩) (.of main_call0_v12 : StableHlo.TRef sig ⟨S800, .i32⟩) (.of main_call0_v13 : StableHlo.TRef sig ⟨S800, .i32⟩) subi,
    StableHlo.TRef.ternary (.of main_call0_v11 : StableHlo.TRef sig ⟨S800, .i1⟩) (.of main_call0_v13 : StableHlo.TRef sig ⟨S800, .i32⟩) (.of main_call0_v2 : StableHlo.TRef sig ⟨S800, .i32⟩) (.of main_v16 : StableHlo.TRef sig ⟨S800, .i32⟩) select ]
/-- The line after the division. -/
abbrev ops2c : List (HloOp τ sig (Elt F)) :=
  [ StableHlo.reshape main_v16 main_v17 (rfl : (.i32 : EltTy) = .i32) shapeCasts_S800_S1x800 ]
/-- Between the main pass and the last call. -/
abbrev ops3 : List (HloOp τ sig (Elt F)) :=
  [ StableHlo.reshape main_arg1 main_v19 (rfl : (.i32 : EltTy) = .i32) shapeCasts_S1024_S1x1024,
    StableHlo.reshape main_v2_2 main_v20 (rfl : (.i32 : EltTy) = .i32) shapeCasts_S1024x1_S1x1024,
    StableHlo.reshape main_v2_3 main_v21 (rfl : (.i32 : EltTy) = .i32) shapeCasts_S1024x1_S1x1024,
    StableHlo.reshape main_arg1 main_v22 (rfl : (.i32 : EltTy) = .i32) shapeCasts_S1024_S1024x1 ]
/-- After the last call. -/
abbrev ops4 : List (HloOp τ sig (Elt F)) :=
  [ StableHlo.reshape main_v23 main_v24 (rfl : (.f32 : EltTy) = .f32) shapeCasts_S1x1_S_ ]

theorem ops0_sub : (ops0 : List (HloOp τ sig (Elt F))).Forall fun op => op.bufs ⊆ StableHlo.tcRefs τ sig :=
  ⟨StableHlo.reshape_bufs_sub .., StableHlo.reshape_bufs_sub ..⟩
theorem ops1_sub : (ops1 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.nullary_bufs_sub ..,
    StableHlo.reshape_bufs_sub .., StableHlo.unary_bufs_sub .., StableHlo.unary_bufs_sub .., StableHlo.binary_bufs_sub .., StableHlo.reshape_bufs_sub ..⟩
theorem ops2a_sub : (ops2a : List (HloOp τ sig (Elt F))).Forall fun op => op.bufs ⊆ StableHlo.tcRefs τ sig :=
  ⟨StableHlo.reshape_bufs_sub .., StableHlo.reshape_bufs_sub .., StableHlo.nullary_bufs_sub .., StableHlo.nullary_bufs_sub ..⟩
theorem ops2b_sub : (ops2b : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub ..,
    StableHlo.unary_bufs_sub .., StableHlo.binary_bufs_sub .., StableHlo.unary_bufs_sub .., StableHlo.binary_bufs_sub .., StableHlo.nullary_bufs_sub ..,
    StableHlo.unary_bufs_sub .., StableHlo.binary_bufs_sub .., StableHlo.binary_bufs_sub .., StableHlo.nullary_bufs_sub .., StableHlo.unary_bufs_sub ..,
    StableHlo.binary_bufs_sub .., StableHlo.ternary_bufs_sub ..⟩
theorem ops2c_sub : (ops2c : List (HloOp τ sig (Elt F))).Forall fun op => op.bufs ⊆ StableHlo.tcRefs τ sig :=
  StableHlo.reshape_bufs_sub ..
theorem ops3_sub : (ops3 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..⟩
theorem ops4_sub : (ops4 : List (HloOp τ sig (Elt F))).Forall fun op => op.bufs ⊆ StableHlo.tcRefs τ sig :=
  StableHlo.reshape_bufs_sub ..

/-- @main is those stretches and the four calls, in order. -/
theorem main_chain (d : Dev nD) : main (F := F) d = (Pipeline.chain
  [ StableHlo.seq ops0,
    Prog.lift (.customCall (SparseCore.inner (Pipeline.entry 0)) ()),
    StableHlo.seq ops1,
    (K (F := F)).run d 0,
    StableHlo.seq ops2a,
    StableHlo.seq ops2b,
    StableHlo.seq ops2c,
    Prog.lift (.customCall (SparseCore.inner (Pipeline.entry 1)) ()),
    StableHlo.seq ops3,
    Prog.lift (.customCall (SparseCore.inner (Pipeline.entry 2)) ()),
    StableHlo.seq ops4 ] : Prog (TpuEff nD τ sig (Elt F) (SparseCore.Sig (ΛP (F := F)) 1) .tc) PUnit) := by
  rewrite [StableHlo.chain_seq_cons, Pipeline.chain_cons, StableHlo.chain_seq_cons, Pipeline.chain_cons, StableHlo.chain_seq_cons, Pipeline.chain_cons,
    StableHlo.chain_seq_cons, Pipeline.chain_cons, StableHlo.chain_seq_cons, Pipeline.chain_cons, StableHlo.chain_seq_cons]
  chain_rfl

/-! ## The valuations -/

variable (V : Dev nD → Valuation τ sig (Elt F))

abbrev V1 (c : Dev nD) : Valuation τ sig (Elt F) := after ops0 (V c)
def V2 (c : Dev nD) : Valuation τ sig (Elt F) := Pipeline.afterRegion (sDat (V1 V) c) (V1 V c)
abbrev V3 (c : Dev nD) : Valuation τ sig (Elt F) := after ops1 (V2 V c)
/-- What the gather reads: the table, the index list, and the result's buffer as it was. -/
abbrev tbOf (d : Dev nD) : Buf (Elt F) (tLoc d) := V3 V d (Proc.devRef .tc main_v3)
abbrev ixOf (d : Dev nD) : Buf (Elt F) (iLoc d) := V3 V d (Proc.devRef .tc main_v11)
abbrev oOf (d : Dev nD) : Buf (Elt F) (oLoc d) := V3 V d (Proc.devRef .tc main_v12)
def V4 (c : Dev nD) : Valuation τ sig (Elt F) := Function.update (V3 V c) (Proc.devRef .tc main_v12) (gOut (tbOf V) (ixOf V) c)
abbrev V5 (c : Dev nD) : Valuation τ sig (Elt F) := after ops2c (after ops2b (after ops2a (V4 V c)))
def V6 (c : Dev nD) : Valuation τ sig (Elt F) := Pipeline.afterRegion (mDat (V5 V) c) (V5 V c)
abbrev V7 (c : Dev nD) : Valuation τ sig (Elt F) := after ops3 (V6 V c)
def V8 (c : Dev nD) : Valuation τ sig (Elt F) := Function.update (V7 V c) (Proc.devRef .tc main_v23) ((cDat (V7 V) c).arrAt 13 cfg3.N)
abbrev V9 (c : Dev nD) : Valuation τ sig (Elt F) := after ops4 (V8 V c)

/-- The three pipelines' proof data. -/
def pdats : (p : Fin 3) → (c : Dev nD) → RD (F := F) p c := fun p c => match p with
  | 0 => sDat (V1 V) c
  | 1 => mDat (V5 V) c
  | 2 => cDat (V7 V) c

/-- The first call. -/
def seg0 : RegionSeg (pcfgs (F := F)) adm (pdats V) none defs₀ 𝒱₀ (K (F := F)).L (K (F := F)).lev 0 :=
  seg 0 launch0.to₀ (pdats V) 0 (V1 V) (V2 V) (fun c => (sBody (V1 V) c).loose) (fun _ _ => rfl) (fun _ _ => rfl) (fun _ _ => rfl) (fun _ _ _ => rfl)
    (fun c w => sDat_A (V1 V) c w) (fun c w => (Pipeline.afterRegion_arr (sDat (V1 V) c) (V1 V c) launch0.win.arr_inj w).symm)
    (fun c b hb => Pipeline.afterRegion_of_not_arr (sDat (V1 V) c) (V1 V c) fun w h => hb (Finset.mem_image.mpr ⟨w, Finset.mem_univ _, h.symm⟩))

/-- The main pass. -/
def seg1 : RegionSeg (pcfgs (F := F)) adm (pdats V) none defs₀ 𝒱₀ (K (F := F)).L (K (F := F)).lev 1 :=
  seg 1 launch2.to₀ (pdats V) 1 (V5 V) (V6 V) (fun c => (mBody (V5 V) c).loose) (fun _ _ => rfl) (fun _ _ => rfl) (fun _ _ => rfl) (fun _ _ _ => rfl)
    (fun c w => mDat_A (V5 V) c w) (fun c w => (Pipeline.afterRegion_arr (mDat (V5 V) c) (V5 V c) launch2.win.arr_inj w).symm)
    (fun c b hb => Pipeline.afterRegion_of_not_arr (mDat (V5 V) c) (V5 V c) fun w h => hb (Finset.mem_image.mpr ⟨w, Finset.mem_univ _, h.symm⟩))

theorem V8_v23 (c : Dev nD) : V8 V c (Proc.devRef .tc main_v23) = (cDat (V7 V) c).arrAt 13 cfg3.N := Function.update_self ..
theorem V8_ne (c : Dev nD) (b : Ref sig .tc) (h : b ≠ main_v23) : V8 V c (Proc.devRef .tc b) = V7 V c (Proc.devRef .tc b) :=
  Function.update_of_ne (StableHlo.devRef_ne_of_ne h) _ _

/-- An input's array is at the end as it was at the start. -/
theorem cEnd_in (c : Dev nD) (w : Fin cfg3.W) (hw : (cfg3.spec w).isOut = false) (hne : arrRef cfg3.spec w ≠ main_v23) :
    (cDat (V7 V) c).arrAt w cfg3.N = V8 V c (Proc.devRef .tc (arrRef cfg3.spec w)) :=
  ((cDat (V7 V) c).arrAt_in w hw _).trans ((cDat_A (V7 V) c w).trans (V8_ne V c _ hne).symm)

/-- Every array of the last call, at the end. -/
theorem cEnd (c : Dev nD) (w : Fin cfg3.W) : (cDat (V7 V) c).arrAt w cfg3.N = V8 V c (Proc.devRef .tc (arrRef cfg3.spec w)) := by
  by_cases h : w = (13 : Fin 14)
  · subst h; exact (V8_v23 V c).symm
  · exact cEnd_in V c w ((by decide : ∀ w : Fin 14, w ≠ 13 → (spec3 w).isOut = false) w h) ((by decide : ∀ w : Fin 14, w ≠ 13 → arrRef spec3 w ≠ main_v23) w h)

/-- The last call. -/
def seg2 : RegionSeg (pcfgs (F := F)) adm (pdats V) none defs₀ 𝒱₀ (K (F := F)).L (K (F := F)).lev 2 :=
  seg 2 launch₀3 (pdats V) 1 (V7 V) (V8 V) (fun c => (cBody (V7 V) c).loose) (fun _ _ => rfl) (fun _ _ => rfl) (fun _ _ => rfl) (fun _ _ _ => rfl)
    (fun c w => cDat_A (V7 V) c w) (fun c w => cEnd V c w)
    (fun c b hb => V8_ne V c b fun h => hb (Finset.mem_image.mpr ⟨(13 : Fin 14), Finset.mem_univ _, h.symm⟩))

end Cert.Proof

end
-- ==== Proof.Reads.lean ====
/-
  The buffers' contents along @main, read back: what each stretch and each call leaves of the buffers it does not write, and what it
  writes in the others.
-/
module

public import proofs.«01_k».proof.Proof.Vals
public import Idealize.ShloMosaic.Lib.Pipeline.ValueKit

@[expose] public section

noncomputable section

namespace Cert.Proof

open Cert.KernelIdeal Cert.KernelIdeal.Gen

open Idealize.ShloMosaic Idealize.ShloMosaic.TcCoe Idealize.ShloMosaic.StableHlo
open Idealize.ShloMosaic.Pipeline (Dat arrRef)

variable {F : FTy → Type} [FloatOps F] [Named F]

/-! ## What a stretch does not write it keeps -/

abbrev wr0 : List (Ref sig .tc) := [main_v0, main_v1]
abbrev wr1 : List (Ref sig .tc) := [main_v3, main_c, main_v4, main_v5, main_v6, main_v7, main_v8, main_v9, main_v10, main_v11]
abbrev wr2a : List (Ref sig .tc) := [main_v13, main_v14, main_v15, main_c_0]
abbrev wr2b : List (Ref sig .tc) := [main_call0_v0, main_call0_v1, main_call0_v2, main_call0_v3, main_call0_v4, main_call0_v5, main_call0_v6, main_call0_v7,
  main_call0_v8, main_call0_c, main_call0_v9, main_call0_v10, main_call0_v11, main_call0_c_0, main_call0_v12, main_call0_v13, main_v16]
abbrev wr2c : List (Ref sig .tc) := [main_v17]
abbrev wr3 : List (Ref sig .tc) := [main_v19, main_v20, main_v21, main_v22]
abbrev wr4 : List (Ref sig .tc) := [main_v24]

variable (V : Dev nD → Valuation τ sig (Elt F)) (c : Dev nD)

theorem V1_keep (r : Ref sig .tc) (hr : r ∉ wr0) : V1 V c (Proc.devRef .tc r) = V c (Proc.devRef .tc r) :=
  after_of_writes_sub ops0 _ (forall_writes_sub_of_map (W := wr0) rfl) hr
theorem V3_keep (r : Ref sig .tc) (hr : r ∉ wr1) : V3 V c (Proc.devRef .tc r) = V2 V c (Proc.devRef .tc r) :=
  after_of_writes_sub ops1 _ (forall_writes_sub_of_map (W := wr1) rfl) hr
theorem V5_keep (r : Ref sig .tc) (hr : r ∉ wr2a ++ wr2b ++ wr2c) : V5 V c (Proc.devRef .tc r) = V4 V c (Proc.devRef .tc r) :=
  (after_of_writes_sub ops2c _ (forall_writes_sub_of_map (W := wr2c) rfl) (fun h => hr (by simp only [List.mem_append]; exact .inr h))).trans
    ((after_of_writes_sub ops2b _ (forall_writes_sub_of_map (W := wr2b) rfl) (fun h => hr (by simp only [List.mem_append]; exact .inl (.inr h)))).trans
      (after_of_writes_sub ops2a _ (forall_writes_sub_of_map (W := wr2a) rfl) (fun h => hr (by simp only [List.mem_append]; exact .inl (.inl h)))))
theorem V7_keep (r : Ref sig .tc) (hr : r ∉ wr3) : V7 V c (Proc.devRef .tc r) = V6 V c (Proc.devRef .tc r) :=
  after_of_writes_sub ops3 _ (forall_writes_sub_of_map (W := wr3) rfl) hr
theorem V9_keep (r : Ref sig .tc) (hr : r ∉ wr4) : V9 V c (Proc.devRef .tc r) = V8 V c (Proc.devRef .tc r) :=
  after_of_writes_sub ops4 _ (forall_writes_sub_of_map (W := wr4) rfl) hr

theorem V4_ne (r : Ref sig .tc) (h : r ≠ main_v12) : V4 V c (Proc.devRef .tc r) = V3 V c (Proc.devRef .tc r) :=
  Function.update_of_ne (StableHlo.devRef_ne_of_ne h) _ _
theorem V4_v12 : V4 V c (Proc.devRef .tc main_v12) = gOut (tbOf V) (ixOf V) c := Function.update_self ..

/-- A buffer that is no array of the first call keeps its contents through it, -/
theorem V2_ne (r : Ref sig .tc) (h : ∀ w, r ≠ arrRef spec0 w) : V2 V c (Proc.devRef .tc r) = V1 V c (Proc.devRef .tc r) :=
  Pipeline.afterRegion_of_not_arr (sDat (V1 V) c) (V1 V c) h
/-- an array of it holds what the run leaves, -/
theorem V2_arr (w : Fin cfg0.W) : V2 V c (Proc.devRef .tc (arrRef spec0 w)) = (sDat (V1 V) c).arrAt w cfg0.N :=
  Pipeline.afterRegion_arr (sDat (V1 V) c) (V1 V c) launch0.win.arr_inj w
/-- an input's array what it held. -/
theorem V2_in (w : Fin cfg0.W) (hw : (cfg0.spec w).isOut = false) : V2 V c (Proc.devRef .tc (arrRef spec0 w)) = V1 V c (Proc.devRef .tc (arrRef spec0 w)) :=
  (V2_arr V c w).trans (((sDat (V1 V) c).arrAt_in w hw _).trans (sDat_A (V1 V) c w))

/-- The same of the main pass. -/
theorem V6_ne (r : Ref sig .tc) (h : ∀ w, r ≠ arrRef spec2 w) : V6 V c (Proc.devRef .tc r) = V5 V c (Proc.devRef .tc r) :=
  Pipeline.afterRegion_of_not_arr (mDat (V5 V) c) (V5 V c) h
theorem V6_arr (w : Fin cfg2.W) : V6 V c (Proc.devRef .tc (arrRef spec2 w)) = (mDat (V5 V) c).arrAt w cfg2.N :=
  Pipeline.afterRegion_arr (mDat (V5 V) c) (V5 V c) launch2.win.arr_inj w
theorem V6_in (w : Fin cfg2.W) (hw : (cfg2.spec w).isOut = false) : V6 V c (Proc.devRef .tc (arrRef spec2 w)) = V5 V c (Proc.devRef .tc (arrRef spec2 w)) :=
  (V6_arr V c w).trans (((mDat (V5 V) c).arrAt_in w hw _).trans (mDat_A (V5 V) c w))

/-! ## The arguments are unchanged -/

theorem V9_arg0 : V9 V c (Proc.devRef .tc main_arg0) = V c (Proc.devRef .tc main_arg0) :=
  (V9_keep V c _ (by decide)).trans <| (V8_ne V c _ (by decide)).trans <| (V7_keep V c _ (by decide)).trans <|
    (V6_ne V c _ (by decide)).trans <| (V5_keep V c _ (by decide)).trans <| (V4_ne V c _ (by decide)).trans <| (V3_keep V c _ (by decide)).trans <|
    (V2_in V c 0 rfl).trans (V1_keep V c _ (by decide))
theorem V9_arg1 : V9 V c (Proc.devRef .tc main_arg1) = V c (Proc.devRef .tc main_arg1) :=
  (V9_keep V c _ (by decide)).trans <| (V8_ne V c _ (by decide)).trans <| (V7_keep V c _ (by decide)).trans <|
    (V6_ne V c _ (by decide)).trans <| (V5_keep V c _ (by decide)).trans <| (V4_ne V c _ (by decide)).trans <| (V3_keep V c _ (by decide)).trans <|
    (V2_ne V c _ (by decide)).trans (V1_keep V c _ (by decide))
theorem V6_arg2 : V5 V c (Proc.devRef .tc main_arg2) = V c (Proc.devRef .tc main_arg2) :=
    (V5_keep V c _ (by decide)).trans <| (V4_ne V c _ (by decide)).trans <| (V3_keep V c _ (by decide)).trans <|
    (V2_ne V c _ (by decide)).trans (V1_keep V c _ (by decide))
theorem V9_arg2 : V9 V c (Proc.devRef .tc main_arg2) = V c (Proc.devRef .tc main_arg2) :=
  (V9_keep V c _ (by decide)).trans <| (V8_ne V c _ (by decide)).trans <| (V7_keep V c _ (by decide)).trans <|
    (V6_in V c 1 rfl).trans (V6_arg2 V c)

/-! ## The first call's outputs -/

/-- The features, the labels as a column and as a row. -/
abbrev x0Of : Vec F S1024x512 .f32 := V c (Proc.devRef .tc main_arg0)
abbrev labCol : Vec F S1024x1 .i32 := shapeCast S1024x1 (V c (Proc.devRef .tc main_arg1) : IVec S1024 32) shapeCasts_S1024_S1024x1
abbrev labRow : Vec F S1x1024 .i32 := shapeCast S1x1024 (V c (Proc.devRef .tc main_arg1) : IVec S1024 32) shapeCasts_S1024_S1x1024

theorem V1_v0 : V1 V c (Proc.devRef .tc main_v0) = labCol V c := by
  unfold V1; after_results_simp; rfl
theorem V1_v1 : V1 V c (Proc.devRef .tc main_v1) = labRow V c := by
  unfold V1; after_results_simp; rfl

theorem sBlk_0 (t : Fin cfg0.N) : sBlk (V1 V) c 0 t = x0Of V c :=
  (funext fun j => congrArg (V1 V c (Proc.devRef .tc main_arg0)) (funext fun a => Fin.ext
    (Pipeline.Window.rect_emb_val_of_index_zero (cfg0.win 0) t a (by fin_cases t; fin_cases a <;> rfl) j))).trans (V1_keep V c main_arg0 (by decide))
theorem sBlk_1 (t : Fin cfg0.N) : sBlk (V1 V) c 1 t = labCol V c :=
  (funext fun j => congrArg (V1 V c (Proc.devRef .tc main_v0)) (funext fun a => Fin.ext
    (Pipeline.Window.rect_emb_val_of_index_zero (cfg0.win 1) t a (by fin_cases t; fin_cases a <;> rfl) j))).trans (V1_v0 V c)
theorem sBlk_2 (t : Fin cfg0.N) : sBlk (V1 V) c 2 t = labRow V c :=
  (funext fun j => congrArg (V1 V c (Proc.devRef .tc main_v1)) (funext fun a => Fin.ext
    (Pipeline.Window.rect_emb_val_of_index_zero (cfg0.win 2) t a (by fin_cases t; fin_cases a <;> rfl) j))).trans (V1_v1 V c)

/-- The first call's one point. -/
def t0₀ : Fin cfg0.N := ⟨0, by decide⟩

theorem V2_f : V2 V c (Proc.devRef .tc main_v2_0) = k0_pay2 (x0Of V c) :=
  (V2_arr V c 3).trans ((sDat (V1 V) c).arrAt_eq_of_after_last 3 t0₀ (by decide +kernel) _ fun j => by
    rw [sAfter_3, sBlk_0]; blk_simp)
theorem V2_fbf : V2 V c (Proc.devRef .tc main_v2_1) = k0_pay3 (x0Of V c) :=
  (V2_arr V c 4).trans ((sDat (V1 V) c).arrAt_eq_of_after_last 4 t0₀ (by decide +kernel) _ fun j => by
    rw [sAfter_4, sBlk_0]; blk_simp)
theorem V2_occ : V2 V c (Proc.devRef .tc main_v2_2) = k0_pay6 (labCol V c) (labRow V c) :=
  (V2_arr V c 5).trans ((sDat (V1 V) c).arrAt_eq_of_after_last 5 t0₀ (by decide +kernel) _ fun j => by
    rw [sAfter_5, sBlk_1, sBlk_2]; blk_simp)
theorem V2_cnt : V2 V c (Proc.devRef .tc main_v2_3) = k0_pay7 (labCol V c) (labRow V c) :=
  (V2_arr V c 6).trans ((sDat (V1 V) c).arrAt_eq_of_after_last 6 t0₀ (by decide +kernel) _ fun j => by
    rw [sAfter_6, sBlk_1, sBlk_2]; blk_simp)
theorem V2_first : V2 V c (Proc.devRef .tc main_v2_4) = k0_pay8 (labCol V c) (labRow V c) :=
  (V2_arr V c 7).trans ((sDat (V1 V) c).arrAt_eq_of_after_last 7 t0₀ (by decide +kernel) _ fun j => by
    rw [sAfter_7, sBlk_1, sBlk_2]; blk_simp)
theorem V2_gidx : V2 V c (Proc.devRef .tc main_v2_5) = gidxOf (labCol V c) (labRow V c) :=
  (V2_arr V c 8).trans ((sDat (V1 V) c).arrAt_eq_of_after_last 8 t0₀ (by decide +kernel) _ fun j => by
    rw [sAfter_8, sBlk_1, sBlk_2]; blk_simp)

/-! ## The gather's operands -/

/-- The table in rows of 128 lanes. -/
theorem V3_v3 : V3 V c (Proc.devRef .tc main_v3) = (shapeCast S800000x128 (V c (Proc.devRef .tc main_arg2) : FVec F S1000x200x512 .f32) shapeCasts_S1000x200x512_S800000x128) := by
  rw [← V1_keep V c main_arg2 (by decide), ← V2_ne V c main_arg2 (by decide)]
  unfold V3; after_results_simp; rfl
/-- The index list: four rows for each anchor, in order. -/
theorem V3_v11 : V3 V c (Proc.devRef .tc main_v11) = (shapeCast S4096
    (addi (broadcastInDim S1024x4 ![0, 1] bcast_S1024x1_S1024x4_0_1 (muli (gidxOf (labCol V c) (labRow V c)) (broadcastInDim S1024x1 ![] bcast_S_S1024x1 (constantI S_ 32 4#32))))
      (broadcastInDim S1024x4 ![0, 1] bcast_S1x4_S1024x4_0_1 (shapeCast S1x4 (iotaInDim S4 32 0) shapeCasts_S4_S1x4))) shapeCasts_S1024x4_S4096 : IVec S4096 32) := by
  rw [← V2_gidx]
  unfold V3; after_results_simp; rfl

end Cert.Proof

end
-- ==== Proof.Labels.lean ====
/-
  What the two programs compute of the labels, as numbers: how often an anchor's label occurred before it, how often it occurs, and the
  remainder that gives the slot of the memory bank.
-/
module

public import Idealize.ShloMosaic.Lib.Pointwise
public import Idealize.ShloMosaic.Lib.IndicatorCount

@[expose] public section

noncomputable section

namespace Cert.Proof

open Idealize.ShloMosaic

/-- How many anchors before `i` have its label, -/
def occN (lab : Fin 1024 → BitVec 32) (i : Fin 1024) : ℕ := (Finset.univ.filter fun j : Fin 1024 => lab i = lab j ∧ j < i).card
/-- how many anchors have it at all, -/
def cntN (lab : Fin 1024 → BitVec 32) (i : Fin 1024) : ℕ := (Finset.univ.filter fun j : Fin 1024 => lab i = lab j).card
/-- and the word of the first of them, as both programs fold it. -/
def firstW (lab : Fin 1024 → BitVec 32) (i : Fin 1024) : BitVec 32 :=
  Finset.fold IntOp.minsi 2147483647#32 (fun j : Fin 1024 => Scalar.select (IntOp.cmpi .eq (lab i) (lab j)) (BitVec.ofNat 32 j) 1024#32) Finset.univ

theorem occN_lt (lab : Fin 1024 → BitVec 32) (i : Fin 1024) : occN lab i < 1024 := by
  have h : (Finset.univ.filter fun j : Fin 1024 => lab i = lab j ∧ j < i) ⊂ Finset.univ :=
    Finset.filter_ssubset.mpr ⟨i, Finset.mem_univ _, fun h => absurd h.2 (lt_irrefl _)⟩
  simpa [occN] using Finset.card_lt_card h
theorem cntN_le (lab : Fin 1024 → BitVec 32) (i : Fin 1024) : cntN lab i ≤ 1024 := by
  simpa [cntN] using Finset.card_filter_le (Finset.univ : Finset (Fin 1024)) fun j => lab i = lab j

/-! ## Words of one bit -/

theorem cmpi_eq_bit {w : ℕ} (a b : BitVec w) : IntOp.cmpi .eq a b = BitVec.ofBool (decide (a = b)) := by
  simp only [IntOp.cmpi]; congr 1
theorem cmpi_ne_bit {w : ℕ} (a b : BitVec w) : IntOp.cmpi .ne a b = BitVec.ofBool (decide (a ≠ b)) := by
  simp only [IntOp.cmpi]; congr 1; by_cases h : a = b <;> simp [h]
theorem andi_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]
theorem xori_bit (p : Prop) [Decidable p] : IntOp.xori (BitVec.ofBool (decide p)) 1#1 = BitVec.ofBool (decide (¬p)) := by
  by_cases hp : p <;> simp [hp, IntOp.xori]
theorem select_bit {α : Type} (p : Prop) [Decidable p] (a b : α) : Scalar.select (BitVec.ofBool (decide p)) a b = if p then a else b := by
  by_cases hp : p <;> simp [hp, Scalar.select]
theorem setWidth_bit (p : Prop) [Decidable p] : (BitVec.ofBool (decide p)).setWidth 32 = if p then 1#32 else 0#32 := by
  by_cases hp : p <;> simp [hp]
theorem bit_inj (p q : Prop) [Decidable p] [Decidable q] (h : p ↔ q) : BitVec.ofBool (decide p) = BitVec.ofBool (decide q) := by
  simp only [h]

/-- Signed comparisons of the words of small numbers. -/
theorem toInt_ofNat_small {n : ℕ} (h : n < 2147483648) : (BitVec.ofNat 32 n).toInt = n := by
  rw [BitVec.toInt_eq_toNat_cond, BitVec.toNat_ofNat, Nat.mod_eq_of_lt (by omega), if_pos (by omega)]
theorem slt_small {a b : ℕ} (ha : a < 2147483648) (hb : b < 2147483648) :
    IntOp.cmpi .slt (BitVec.ofNat 32 a) (BitVec.ofNat 32 b) = BitVec.ofBool (decide (a < b)) := by
  simp only [IntOp.cmpi, BitVec.slt_eq_decide, toInt_ofNat_small ha, toInt_ofNat_small hb, Nat.cast_lt]
theorem sgt_small {a b : ℕ} (ha : a < 2147483648) (hb : b < 2147483648) :
    IntOp.cmpi .sgt (BitVec.ofNat 32 a) (BitVec.ofNat 32 b) = BitVec.ofBool (decide (b < a)) := by
  simp only [IntOp.cmpi, BitVec.slt_eq_decide, toInt_ofNat_small ha, toInt_ofNat_small hb, Nat.cast_lt]
theorem sge_small {a b : ℕ} (ha : a < 2147483648) (hb : b < 2147483648) :
    IntOp.cmpi .sge (BitVec.ofNat 32 a) (BitVec.ofNat 32 b) = BitVec.ofBool (decide (b ≤ a)) := by
  simp only [IntOp.cmpi, BitVec.sle_eq_decide, toInt_ofNat_small ha, toInt_ofNat_small hb, Nat.cast_le]

/-- A count of bits, as a fold of their words. -/
theorem fold_count {ι : Type} (s : Finset ι) (p : ι → Prop) [DecidablePred p] :
    Finset.fold IntOp.addi 0#32 (fun x => if p x then 1#32 else 0#32) s = BitVec.ofNat 32 (s.filter p).card := by
  classical
  induction s using Finset.induction_on with
  | empty => rfl
  | insert a s ha ih =>
    rw [Finset.fold_insert ha, ih, Finset.filter_insert]
    by_cases h : p a
    · rw [if_pos h, if_pos h, Finset.card_insert_of_notMem (fun hm => ha (Finset.mem_filter.mp hm).1)]
      simp only [IntOp.addi, BitVec.ofNat_add]; rw [BitVec.add_comm]
    · rw [if_neg h, if_neg h]; simp [IntOp.addi]

/-! ## The slot -/

/-- The remainder by 200 of a small word. -/
theorem remsi_small (u : ArithUnit) {a : ℕ} (ha : a < 2147483648) : IntOp.remsi u (BitVec.ofNat 32 a) 200#32 = BitVec.ofNat 32 (a % 200) := by
  have hm : (BitVec.ofNat 32 a).toNat = a := by rw [BitVec.toNat_ofNat, Nat.mod_eq_of_lt (by omega)]
  have hc : ¬ IntOp.SDivCorner (BitVec.ofNat 32 a) 200#32 := by
    unfold IntOp.SDivCorner; simp
  unfold IntOp.remsi; rw [if_neg hc]
  have hs : (BitVec.ofNat 32 a).msb = false := by
    rw [BitVec.msb_eq_decide, hm]; simp; omega
  rw [BitVec.srem_eq, hs, show (200#32).msb = false from rfl]
  apply BitVec.eq_of_toNat_eq
  show ((BitVec.ofNat 32 a).umod 200#32).toNat = _
  rw [BitVec.umod_eq, BitVec.toNat_umod, hm, BitVec.toNat_ofNat, BitVec.toNat_ofNat]; simp only [Nat.reducePow, Nat.reduceMod]; omega

end Cert.Proof

end
-- ==== Proof.Ints.lean ====
/-
  The integer columns that the first call writes, and the gather's index list, in closed form; that every index is in range; and the
  rows that the gather brings.
-/
module

public import proofs.«01_k».proof.Proof.Reads
public import proofs.«01_k».proof.Proof.Labels

@[expose] public section

noncomputable section

namespace Cert.Proof

open Cert.KernelIdeal Cert.KernelIdeal.Gen

open Idealize.ShloMosaic Idealize.ShloMosaic.TcCoe Idealize.ShloMosaic.StableHlo

variable {F : FTy → Type} [FloatOps F] [Named F]

set_option maxRecDepth 16384

section
variable (x : IVec S1024 32)

/-- The label of each anchor. -/
abbrev labOf (x : IVec S1024 32) : Fin 1024 → BitVec 32 := fun i => x (ix1 i)

/-- The column of earlier occurrences, -/
theorem occ_apply (i : Fin 1024) : k0_pay6 (F := F) (shapeCast S1024x1 x shapeCasts_S1024_S1024x1) (shapeCast S1x1024 x shapeCasts_S1024_S1x1024) (ix2 i 0)
    = BitVec.ofNat 32 (occN (labOf x) i) := by
  pointwise [k0_pay6, k0_pay5, k0_pay4]
  refine (Finset.fold_congr fun j _ => ?_).trans (fold_count _ fun j => labOf x i = labOf x j ∧ j < i)
  rw [cmpi_eq_bit, slt_small (by omega) (by omega), andi_bit, select_bit]
  rfl
/-- of all occurrences, -/
theorem cnt_apply (i : Fin 1024) : k0_pay7 (F := F) (shapeCast S1024x1 x shapeCasts_S1024_S1024x1) (shapeCast S1x1024 x shapeCasts_S1024_S1x1024) (ix2 i 0)
    = BitVec.ofNat 32 (cntN (labOf x) i) := by
  pointwise [k0_pay7, k0_pay5, k0_pay4]
  simp only [cmpi_eq_bit, setWidth_bit]
  exact fold_count _ _
/-- and of the first one. -/
theorem first_apply (i : Fin 1024) : k0_pay8 (F := F) (shapeCast S1024x1 x shapeCasts_S1024_S1024x1) (shapeCast S1x1024 x shapeCasts_S1024_S1x1024) (ix2 i 0)
    = firstW (labOf x) i := by
  pointwise [k0_pay8, k0_pay5, k0_pay4]
  rfl
/-- The row of the memory bank that an anchor replaces: its label's 200 slots, at its slot. -/
theorem gidx_apply (i : Fin 1024) : gidxOf (F := F) (shapeCast S1024x1 x shapeCasts_S1024_S1024x1) (shapeCast S1x1024 x shapeCasts_S1024_S1x1024) (ix2 i 0)
    = labOf x i * 200#32 + BitVec.ofNat 32 (occN (labOf x) i % 200) := by
  have ho := occN_lt (labOf x) i
  have hw : Scalar.select (Scalar.cmpi CmpIPredicate.eq 200#32 0#32) 1#32 200#32 = 200#32 := by decide
  pointwise [gidxOf, k0_pay1, k0_pay4]
  rw [occ_apply, hw, remsi_small _ (by omega), show IntOp.cmpi .slt (BitVec.ofNat 32 (occN (labOf x) i % 200)) 0#32 = 0#1 from by
    rw [show (0#32) = BitVec.ofNat 32 0 from rfl, slt_small (by omega) (by omega)]; rfl]
  have hz : ∀ b : BitVec 1, IntOp.andi (IntOp.xori 0#1 (Scalar.cmpi .slt 200#32 0#32)) b = 0#1 := by decide
  rw [hz]; rfl

/-- The index list's word for part `p` of anchor `i`'s row. -/
theorem gparts_apply (g : IVec S1024x1 32) (j : Fin 4096) : (shapeCast S4096
    (addi (broadcastInDim S1024x4 ![0, 1] bcast_S1024x1_S1024x4_0_1 (muli g (broadcastInDim S1024x1 ![] bcast_S_S1024x1 (constantI S_ 32 4#32))))
      (broadcastInDim S1024x4 ![0, 1] bcast_S1x4_S1024x4_0_1 (shapeCast S1x4 (iotaInDim S4 32 0) shapeCasts_S4_S1x4))) shapeCasts_S1024x4_S4096 : IVec S4096 32) (ix1 j)
    = g (ix2 ⟨j / 4, by omega⟩ 0) * 4#32 + BitVec.ofNat 32 (j % 4) := by
  pointwise
  rfl
end

/-- The word of a part's row is the row's number. -/
theorem part_toNat {l : BitVec 32} (hl : l.toNat < 1000) {s p : ℕ} (hs : s < 200) (hp : p < 4) :
    ((l * 200#32 + BitVec.ofNat 32 s) * 4#32 + BitVec.ofNat 32 p).toNat = (l.toNat * 200 + s) * 4 + p := by
  simp only [BitVec.toNat_add, BitVec.toNat_mul, BitVec.toNat_ofNat, Nat.reducePow]
  omega

variable (V : Dev nD → Valuation τ sig (Elt F))

/-- The labels on a device. -/
abbrev xLab (c : Dev nD) : IVec S1024 32 := V c (Proc.devRef .tc main_arg1)
/-- They name classes. -/
def LabOK : Prop := ∀ (c : Dev nD) (i : Fin 1024), (labOf (xLab V c) i).toNat < 1000

theorem ix_apply (c : Dev nD) (j : Fin 4096) : ixOf V c (ix1 j)
    = (labOf (xLab V c) ⟨j / 4, by omega⟩ * 200#32 + BitVec.ofNat 32 (occN (labOf (xLab V c)) ⟨j / 4, by omega⟩ % 200)) * 4#32 + BitVec.ofNat 32 (j % 4) := by
  unfold ixOf
  rw [V3_v11]
  exact (gparts_apply _ j).trans (by rw [gidx_apply])

/-- Every word of the index list names a row of the table. -/
theorem ixOK_of_lab (h : LabOK V) : IxOK (ixOf V) := fun d j => by
  obtain ⟨a, rfl⟩ : ∃ a : Fin 4096, j = ix1 a := ⟨j 0, eq_ix1 j⟩
  have hl := h d ⟨a / 4, by omega⟩
  rw [ix_apply, part_toNat hl (by omega) (by omega)]
  omega

/-- What the gather brings for anchor `i`: its row of the memory bank, in four parts. -/
theorem g_apply (h : LabOK V) (c : Dev nD) (r : Fin 4096) (l : Fin 128) : gOut (tbOf V) (ixOf V) c (ix2 r l)
    = (V c (Proc.devRef .tc main_arg2) : FVec F S1000x200x512 .f32) (ix3 ⟨(labOf (xLab V c) ⟨r / 4, by omega⟩).toNat, h c _⟩
        ⟨occN (labOf (xLab V c)) ⟨r / 4, by omega⟩ % 200, by omega⟩ ⟨(r % 4) * 128 + l, by omega⟩) := by
  have hl := h c ⟨r / 4, by omega⟩
  have ho : occN (labOf (xLab V c)) ⟨r / 4, by omega⟩ % 200 < 200 := by omega
  show tbOf V c (tIdx (trow (ixOf V c (iIdx r))) l) = _
  have e1 : iIdx r = ix1 r := funext fun a => match a with | ⟨0, _⟩ => rfl
  have e2 : ∀ q, tIdx q l = ix2 q l := fun q => funext fun a => match a with | ⟨0, _⟩ => rfl | ⟨1, _⟩ => rfl
  have e3 : (trow (ixOf V c (ix1 r)) : ℕ) = ((labOf (xLab V c) ⟨r / 4, by omega⟩).toNat * 200 + occN (labOf (xLab V c)) ⟨r / 4, by omega⟩ % 200) * 4 + r % 4 := by
    unfold trow
    rw [ix_apply]
    show _ % 800000 = _
    rw [part_toNat hl ho (by omega)]
    omega
  rw [e1, e2]
  unfold tbOf
  rw [V3_v3]
  generalize trow (ixOf V c (ix1 r)) = q at e3 ⊢
  pointwise
  congr 1
  refine congr (congr (congrArg ix3 (Fin.ext ?_)) (Fin.ext ?_)) (Fin.ext ?_)
  · show (q : ℕ) / 800 = (labOf (xLab V c) ⟨r / 4, by omega⟩).toNat; omega
  · show (q : ℕ) / 4 % 200 = occN (labOf (xLab V c)) ⟨r / 4, by omega⟩ % 200; omega
  · show (q : ℕ) % 4 * 128 + (l : ℕ) = (r : ℕ) % 4 * 128 + l; omega

end Cert.Proof

end
-- ==== Proof.Corr.lean ====
/-
  Which anchors' rows stay in the bank after the batch is written, and what the write changes of a sum over the bank's rows.
-/
module

public import proofs.«01_k».proof.Proof.Labels
public import Mathlib.Algebra.BigOperators.Fin
public import Mathlib.Data.Real.Basic

@[expose] public section

namespace Cert.Proof

section
variable (lab : Fin 1024 → BitVec 32)

/-- The slot of the memory bank that an anchor is written to. -/
def slotN (i : Fin 1024) : Fin 200 := ⟨occN lab i % 200, Nat.mod_lt _ (by decide)⟩

/-- Anchor `j` is written and not overwritten, as the kernel decides it. -/
def act (j : Fin 1024) : Prop := cntN lab j ≤ occN lab j + 200
instance : DecidablePred (act lab) := fun _ => inferInstanceAs (Decidable (_ ≤ _))

theorem cntN_congr {i j : Fin 1024} (h : lab i = lab j) : cntN lab i = cntN lab j := by
  unfold cntN; rw [h]

/-- A later anchor of the same label has more earlier ones. -/
theorem occN_mono {i j : Fin 1024} (h : lab i = lab j) (hij : i < j) : occN lab i < occN lab j := by
  unfold occN
  refine Finset.card_lt_card (Finset.ssubset_iff_of_subset (fun x hx => ?_) |>.mpr ⟨i, ?_, ?_⟩)
  · simp only [Finset.mem_filter, Finset.mem_univ, true_and] at hx ⊢
    exact ⟨h ▸ hx.1, hx.2.trans hij⟩
  · simp only [Finset.mem_filter, Finset.mem_univ, true_and]
    exact ⟨h.symm, hij⟩
  · simp

/-- Fewer anchors of a label come before one of them than there are. -/
theorem occN_lt_cntN (i : Fin 1024) : occN lab i < cntN lab i := by
  unfold occN cntN
  refine Finset.card_lt_card (Finset.ssubset_iff_of_subset (fun x hx => ?_) |>.mpr ⟨i, ?_, ?_⟩)
  · simp only [Finset.mem_filter, Finset.mem_univ, true_and] at hx ⊢
    exact hx.1
  · simp
  · simp

/-- Every count below the total is some anchor's. -/
theorem occN_surj (i : Fin 1024) (n : ℕ) (h : n < cntN lab i) : ∃ j, lab i = lab j ∧ occN lab j = n := by
  classical
  have hinj : Set.InjOn (occN lab) (Finset.univ.filter fun j : Fin 1024 => lab i = lab j) := by
    intro a ha b hb hab
    simp only [Finset.coe_filter, Finset.mem_univ, true_and, Set.mem_setOf_eq] at ha hb
    rcases lt_trichotomy a b with hlt | heq | hlt
    · exact absurd hab (occN_mono lab (ha.symm.trans hb) hlt).ne
    · exact heq
    · exact absurd hab (occN_mono lab (hb.symm.trans ha) hlt).ne'
  have himg : (Finset.univ.filter fun j : Fin 1024 => lab i = lab j).image (occN lab) = Finset.range (cntN lab i) := by
    refine Finset.eq_of_subset_of_card_le (fun x hx => ?_) ?_
    · obtain ⟨j, hj, rfl⟩ := Finset.mem_image.mp hx
      simp only [Finset.mem_filter, Finset.mem_univ, true_and] at hj
      rw [Finset.mem_range, cntN_congr lab hj]
      exact occN_lt_cntN lab j
    · rw [Finset.card_image_of_injOn hinj, Finset.card_range]; rfl
  have hn : n ∈ Finset.range (cntN lab i) := Finset.mem_range.mpr h
  rw [← himg] at hn
  obtain ⟨j, hj, hjn⟩ := Finset.mem_image.mp hn
  simp only [Finset.mem_filter, Finset.mem_univ, true_and] at hj
  exact ⟨j, hj, hjn⟩

/-- An anchor's row stays exactly when no later anchor is written to the same slot of the same label. -/
theorem act_iff (j : Fin 1024) : act lab j ↔ ∀ j', j < j' → lab j = lab j' → slotN lab j' ≠ slotN lab j := by
  unfold act
  constructor
  · intro h j' hlt hl hs
    have h1 := occN_mono lab hl hlt
    have h2 := occN_lt_cntN lab j'
    rw [← cntN_congr lab hl] at h2
    have h3 : occN lab j' % 200 = occN lab j % 200 := congrArg Fin.val hs
    omega
  · intro h
    by_contra hc
    obtain ⟨j', hl, ho⟩ := occN_surj lab j (occN lab j + 200) (by omega)
    have hlt : j < j' := by
      rcases lt_trichotomy j j' with hlt | heq | hlt
      · exact hlt
      · subst heq; omega
      · have := occN_mono lab hl.symm hlt; omega
    exact h j' hlt hl (Fin.ext (by show occN lab j' % 200 = occN lab j % 200; omega))

/-- Two anchors whose rows stay have different places. -/
theorem act_inj {i j : Fin 1024} (hi : act lab i) (hj : act lab j) (hl : lab i = lab j) (hs : slotN lab i = slotN lab j) : i = j := by
  rcases lt_trichotomy i j with hlt | heq | hlt
  · exact absurd hs.symm ((act_iff lab i).mp hi j hlt hl)
  · exact heq
  · exact absurd hs ((act_iff lab j).mp hj i hlt hl.symm)

/-- The last anchor written to a place stays. -/
theorem exists_act (j : Fin 1024) : ∃ j', act lab j' ∧ lab j = lab j' ∧ slotN lab j = slotN lab j' := by
  classical
  have hne : (Finset.univ.filter fun x : Fin 1024 => lab j = lab x ∧ slotN lab j = slotN lab x).Nonempty := ⟨j, by simp⟩
  obtain ⟨x, hx, hmax⟩ := Finset.exists_max_image _ (fun x : Fin 1024 => x) hne
  simp only [Finset.mem_filter, Finset.mem_univ, true_and] at hx hmax
  refine ⟨x, (act_iff lab x).mpr fun j' hlt hl hs => ?_, hx.1, hx.2⟩
  exact absurd (hmax j' ⟨hx.1.trans hl, hx.2.trans hs.symm⟩) (not_le.mpr hlt)
end

/-- What the batch's write changes of a sum over the first `S` slots of the classes that `P` names: `zb` is each row's value before, `zn`
    after, where anchor `j`'s row, if it stays, has the value `p j`. -/
theorem corr (lab : Fin 1024 → BitVec 32) (hlab : ∀ j, (lab j).toNat < 1000) (zb zn : Fin 1000 → Fin 200 → ℝ) (p : Fin 1024 → ℝ) (φ : ℝ → ℝ)
    (hit : ∀ j, act lab j → zn ⟨(lab j).toNat, hlab j⟩ (slotN lab j) = p j)
    (miss : ∀ c s, (∀ j, ¬((lab j).toNat = c.val ∧ slotN lab j = s)) → zn c s = zb c s)
    (P : Fin 1000 → Prop) [DecidablePred P] (S : ℕ) (hS : S ≤ 200) :
    (∑ c : Fin 1000, ∑ s : Fin S, if P c then φ (zn c (s.castLE hS)) else 0)
      = (∑ c : Fin 1000, ∑ s : Fin S, if P c then φ (zb c (s.castLE hS)) else 0)
        + ∑ j : Fin 1024, if act lab j ∧ (slotN lab j).val < S ∧ P ⟨(lab j).toNat, hlab j⟩
            then φ (p j) - φ (zb ⟨(lab j).toNat, hlab j⟩ (slotN lab j)) else 0 := by
  classical
  have key : ∀ (c : Fin 1000) (s : Fin S), (if P c then φ (zn c (s.castLE hS)) else 0)
      = (if P c then φ (zb c (s.castLE hS)) else 0)
        + ∑ j : Fin 1024, if (act lab j ∧ P ⟨(lab j).toNat, hlab j⟩) ∧ (⟨(lab j).toNat, hlab j⟩ : Fin 1000) = c ∧ slotN lab j = s.castLE hS
            then φ (p j) - φ (zb ⟨(lab j).toNat, hlab j⟩ (slotN lab j)) else 0 := by
    intro c s
    by_cases hex : ∃ j, act lab j ∧ (⟨(lab j).toNat, hlab j⟩ : Fin 1000) = c ∧ slotN lab j = s.castLE hS
    · obtain ⟨j, ha, hc, hs⟩ := hex
      rw [Finset.sum_eq_single j]
      · have hh := hit j ha
        rw [← hc, ← hs, hh]
        by_cases hP : P ⟨(lab j).toNat, hlab j⟩
        · rw [if_pos hP, if_pos hP, if_pos ⟨⟨ha, hP⟩, rfl, rfl⟩]; ring
        · rw [if_neg hP, if_neg hP, if_neg fun h => hP h.1.2]; ring
      · intro j' _ hne
        refine if_neg fun h => hne (act_inj lab h.1.1 ha ?_ (h.2.2.trans hs.symm))
        exact BitVec.eq_of_toNat_eq (Fin.mk.inj (h.2.1.trans hc.symm))
      · intro h; exact absurd (Finset.mem_univ _) h
    · rw [Finset.sum_eq_zero fun j _ => if_neg fun h => hex ⟨j, h.1.1, h.2⟩, add_zero, miss]
      intro j hj
      obtain ⟨j', ha, hl, hs⟩ := exists_act lab j
      exact hex ⟨j', ha, Fin.ext ((congrArg BitVec.toNat hl).symm.trans hj.1), hs.symm.trans hj.2⟩
  simp only [key, Finset.sum_add_distrib]
  congr 1
  rw [show (∑ c : Fin 1000, ∑ s : Fin S, ∑ j : Fin 1024, if (act lab j ∧ P ⟨(lab j).toNat, hlab j⟩) ∧ (⟨(lab j).toNat, hlab j⟩ : Fin 1000) = c ∧ slotN lab j = s.castLE hS
            then φ (p j) - φ (zb ⟨(lab j).toNat, hlab j⟩ (slotN lab j)) else 0)
      = ∑ j : Fin 1024, ∑ c : Fin 1000, ∑ s : Fin S, if (act lab j ∧ P ⟨(lab j).toNat, hlab j⟩) ∧ (⟨(lab j).toNat, hlab j⟩ : Fin 1000) = c ∧ slotN lab j = s.castLE hS
            then φ (p j) - φ (zb ⟨(lab j).toNat, hlab j⟩ (slotN lab j)) else 0 from by
    rw [Finset.sum_comm]
    rw [Finset.sum_congr rfl fun s _ => Finset.sum_comm]
    rw [Finset.sum_comm]
    exact Finset.sum_congr rfl fun j _ => Finset.sum_comm]
  refine Finset.sum_congr rfl fun j _ => ?_
  rw [Finset.sum_eq_single (⟨(lab j).toNat, hlab j⟩ : Fin 1000) (fun c _ hne => Finset.sum_eq_zero fun s _ => if_neg fun h => hne h.2.1.symm)
    (fun h => absurd (Finset.mem_univ _) h)]
  by_cases hj : (slotN lab j).val < S
  · rw [Finset.sum_eq_single (⟨(slotN lab j).val, hj⟩ : Fin S) (fun s _ hne => if_neg fun h => hne (Fin.ext (show s.val = (slotN lab j).val from (Fin.ext_iff.mp h.2.2).symm)))
      (fun h => absurd (Finset.mem_univ _) h)]
    refine if_congr ⟨fun h => ⟨h.1.1, hj, h.1.2⟩, fun h => ⟨⟨h.1, h.2.2⟩, rfl, Fin.ext rfl⟩⟩ rfl rfl
  · rw [if_neg fun h => hj h.2.1]
    refine Finset.sum_eq_zero fun s _ => if_neg fun h => hj ?_
    rw [h.2.2]; exact s.isLt

end Cert.Proof
-- ==== Proof.Alg.lean ====
/-
  One anchor's loss as a real number, in the kernel's form (the old bank's sums and the batch's corrections) and in the reference's
  (sums over the written bank); and that the two agree.
-/
module

public import proofs.«01_k».proof.Proof.Corr

@[expose] public section

noncomputable section

namespace Cert.Proof

variable (lab : Fin 1024 → BitVec 32) (hlab : ∀ j, (lab j).toNat < 1000)
variable (f : Fin 1024 → Fin 512 → ℝ) (bk bn : Fin 1000 → Fin 200 → Fin 512 → ℝ)

/-- The temperature, the value of its single-precision word. -/
def tau : ℝ := 9395241 / 134217728
theorem tau_pos : 0 < tau := by unfold tau; norm_num

/-- An anchor's class. -/
abbrev cls (j : Fin 1024) : Fin 1000 := ⟨(lab j).toNat, hlab j⟩
/-- The similarity of an anchor with a row of the bank, -/
def sim (b : Fin 1000 → Fin 200 → Fin 512 → ℝ) (i : Fin 1024) (c : Fin 1000) (s : Fin 200) : ℝ := ∑ k, f i k * b c s k
/-- and with an anchor. -/
def prd (i j : Fin 1024) : ℝ := ∑ k, f i k * f j k
/-- The positives of anchor `i` in the batch. -/
def inc (i j : Fin 1024) : Prop := (lab i = lab j ∧ 1 < cntN lab i) ∧ BitVec.ofNat 32 (occN lab j) ≠ firstW lab i
instance (i j : Fin 1024) : Decidable (inc lab i j) := inferInstanceAs (Decidable (_ ∧ _))
def posSum (i : Fin 1024) : ℝ := ∑ j, if inc lab i j then prd f i j else 0
def posNum (i : Fin 1024) : ℝ := ∑ j, if inc lab i j then 1 else 0

/-- What is summed over the negatives: all similarities, the hard ones, the number of the hard ones. -/
def phiH (x : ℝ) : ℝ := if tau / 2 < x then x else 0
def phiN (x : ℝ) : ℝ := if tau / 2 < x then 1 else 0

/-- The reference's sums: of the anchor's class in the written bank, and over the other classes. -/
def rMem (i : Fin 1024) : ℝ := ∑ s : Fin 50, sim f bn i (cls lab hlab i) (s.castLE (by decide))
def rCol (φ : ℝ → ℝ) (i : Fin 1024) : ℝ := ∑ c : Fin 1000, ∑ s : Fin 20, if c.val ≠ (lab i).toNat then φ (sim f bn i c (s.castLE (by decide))) else 0
/-- The kernel's: of the old bank, with the corrections. -/
def dMem (i : Fin 1024) : ℝ := ∑ j : Fin 1024, if lab i = lab j ∧ act lab j ∧ (slotN lab j).val < 50
    then prd f i j - sim f bk i (cls lab hlab j) (slotN lab j) else 0
def dCol (φ : ℝ → ℝ) (i : Fin 1024) : ℝ := ∑ j : Fin 1024, if (act lab j ∧ (slotN lab j).val < 20) ∧ ¬ lab i = lab j
    then φ (prd f i j) - φ (sim f bk i (cls lab hlab j) (slotN lab j)) else 0

/-- An anchor's loss from its sums. -/
def lossOf (ps pn mem sv sh nh : ℝ) : ℝ :=
  (0 - (ps * (1 / tau) + mem * (1 / tau))) / (pn + 50) + if 0 < nh then (sh * (1 / tau)) / max nh 1 else (sv * (1 / tau)) / 19980
def lossK (i : Fin 1024) : ℝ := lossOf (posSum lab f i) (posNum lab i) (rMem lab hlab f bk i + dMem lab hlab f bk i)
  (rCol lab f bk id i + dCol lab hlab f bk id i) (rCol lab f bk phiH i + dCol lab hlab f bk phiH i) (rCol lab f bk phiN i + dCol lab hlab f bk phiN i)
def lossR (i : Fin 1024) : ℝ := lossOf (posSum lab f i) (posNum lab i) (rMem lab hlab f bn i) (rCol lab f bn id i) (rCol lab f bn phiH i) (rCol lab f bn phiN i)

/-- The written bank holds an anchor's features where its row stays, and what it held where none is written. -/
structure Written : Prop where
  hit : ∀ j, act lab j → ∀ k, bn (cls lab hlab j) (slotN lab j) k = f j k
  miss : ∀ c s, (∀ j, ¬((lab j).toNat = c.val ∧ slotN lab j = s)) → ∀ k, bn c s k = bk c s k

variable {lab hlab f bk bn}

theorem Written.sim_hit (w : Written lab hlab f bk bn) (i j : Fin 1024) (h : act lab j) : sim f bn i (cls lab hlab j) (slotN lab j) = prd f i j :=
  Finset.sum_congr rfl fun k _ => by rw [w.hit j h k]
theorem Written.sim_miss (w : Written lab hlab f bk bn) (i : Fin 1024) (c : Fin 1000) (s : Fin 200) (h : ∀ j, ¬((lab j).toNat = c.val ∧ slotN lab j = s)) :
    sim f bn i c s = sim f bk i c s :=
  Finset.sum_congr rfl fun k _ => by rw [w.miss c s h k]

theorem Written.mem (w : Written lab hlab f bk bn) (i : Fin 1024) : rMem lab hlab f bk i + dMem lab hlab f bk i = rMem lab hlab f bn i := by
  have h := corr lab hlab (sim f bk i) (sim f bn i) (prd f i) id (fun j hj => w.sim_hit i j hj) (fun c s hc => w.sim_miss i c s hc)
    (fun c => c = cls lab hlab i) 50 (by decide)
  have e : ∀ b : Fin 1000 → Fin 200 → Fin 512 → ℝ,
      (∑ c : Fin 1000, ∑ s : Fin 50, if c = cls lab hlab i then id (sim f b i c (s.castLE (by decide))) else 0) = rMem lab hlab f b i := by
    intro b
    rw [Finset.sum_eq_single (cls lab hlab i) (fun c _ hc => Finset.sum_eq_zero fun s _ => if_neg hc) (fun hn => absurd (Finset.mem_univ _) hn)]
    exact Finset.sum_congr rfl fun s _ => if_pos rfl
  rw [e, e] at h
  rw [h]
  congr 1
  refine Finset.sum_congr rfl fun j _ => if_congr ⟨fun q => ⟨q.2.1, q.2.2, ?_⟩, fun q => ⟨?_, q.1, q.2.1⟩⟩ rfl rfl
  · exact Fin.ext (show (lab j).toNat = (lab i).toNat from congrArg BitVec.toNat q.1.symm)
  · exact BitVec.eq_of_toNat_eq (Fin.mk.inj q.2.2).symm

theorem Written.col (w : Written lab hlab f bk bn) (φ : ℝ → ℝ) (i : Fin 1024) : rCol lab f bk φ i + dCol lab hlab f bk φ i = rCol lab f bn φ i := by
  have h := corr lab hlab (sim f bk i) (sim f bn i) (prd f i) φ (fun j hj => w.sim_hit i j hj) (fun c s hc => w.sim_miss i c s hc)
    (fun c => c.val ≠ (lab i).toNat) 20 (by decide)
  unfold rCol dCol
  rw [h]
  congr 1
  refine Finset.sum_congr rfl fun j _ => if_congr ⟨fun q => ⟨q.1.1, q.1.2, fun hc => q.2 (BitVec.eq_of_toNat_eq hc.symm)⟩,
    fun q => ⟨⟨q.1, q.2.1⟩, fun hc => q.2.2 (congrArg BitVec.toNat hc.symm)⟩⟩ rfl rfl

/-- The two forms of the loss agree. -/
theorem Written.loss (w : Written lab hlab f bk bn) (i : Fin 1024) : lossK lab hlab f bk i = lossR lab hlab f bn i := by
  unfold lossK lossR
  rw [w.mem, w.col, w.col, w.col]

end Cert.Proof

end
-- ==== Proof.Coe.lean ====
/-
  Sums of real numbers among the extended reals, and sums over a range cut into rows.
-/
module

public import Mathlib.Data.EReal.Operations
public import Mathlib.Algebra.BigOperators.Fin
public import Mathlib.Logic.Equiv.Fin.Basic

@[expose] public section

namespace Cert.Proof

/-- A sum of reals is the same sum in the extended reals. -/
theorem coe_sum {ι : Type} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- A choice between reals is the same choice in the extended reals. -/
theorem coe_ite (p : Prop) [Decidable p] (a b : ℝ) : (if p then (a : EReal) else (b : EReal)) = ((if p then a else b : ℝ) : EReal) := by
  split <;> rfl
theorem coe_ite0 (p : Prop) [Decidable p] (a : ℝ) : (if p then (a : EReal) else 0) = ((if p then a else 0 : ℝ) : EReal) := by
  split <;> rfl

/-- A sum over `A * B` places, row by row. -/
theorem sum_rows {M : Type} [AddCommMonoid M] {A B N : ℕ} (h : A * B = N) (g : Fin N → M) :
    ∑ x : Fin N, g x = ∑ a : Fin A, ∑ s : Fin B, g ⟨a.val * B + s.val, by
      have := a.isLt; have := s.isLt; subst h
      calc a.val * B + s.val < a.val * B + B := by omega
        _ = (a.val + 1) * B := by ring
        _ ≤ A * B := Nat.mul_le_mul_right _ a.isLt⟩ := by
  subst h
  rw [← Equiv.sum_comp finProdFinEquiv, Fintype.sum_prod_type]
  refine Finset.sum_congr rfl fun a _ => Finset.sum_congr rfl fun s _ => congrArg g (Fin.ext ?_)
  show s.val + B * a.val = _
  ring

end Cert.Proof
-- ==== Proof.KerComb.lean ====
/-
  The combining call's payloads as real numbers.
-/
module

public import proofs.«01_k».proof.Proof.Combine
public import proofs.«01_k».proof.Proof.Alg
public import proofs.«01_k».proof.Proof.Coe
public import Idealize.ShloMosaic.Lib.Pointwise
public import Idealize.ShloMosaic.PureOps.Ideal
public import Idealize.ShloMosaic.Lib.IdealHost

@[expose] public section
set_option maxRecDepth 16384
noncomputable section
namespace Cert.Proof
open Cert.KernelIdeal Cert.KernelIdeal.Gen
open Idealize.ShloMosaic

/-! ## The constants -/

theorem val_theta : Ideal.ofBits .f32 1024416809#32 = ((tau / 2 : ℝ) : EReal) := by
  simp [Ideal.ofBits, Ideal.ieee, -EReal.coe_mul, tau]; norm_num
theorem val_fifty : Ideal.ofBits .f32 1112014848#32 = ((50 : ℝ) : EReal) := by
  simp [Ideal.ofBits, Ideal.ieee, -EReal.coe_mul]; norm_num
theorem val_nvalid : Ideal.ofBits .f32 1184634880#32 = ((19980 : ℝ) : EReal) := by
  simp [Ideal.ofBits, Ideal.ieee, -EReal.coe_mul]; norm_num
theorem val_inv_batch : Ideal.ofBits .f32 981467136#32 = ((1 / 1024 : ℝ) : EReal) := by
  simp [Ideal.ofBits, Ideal.ieee, -EReal.coe_mul]; norm_num
theorem val_inv_t : Named.named (F := Ideal) (φ := .f32) κ "inv_t" 1097110089#32 = ((1 / tau : ℝ) : EReal) := by
  refine (IdealRules.named_const.ideal_named_scalar _ _ _ _ rfl).trans ?_
  unfold tau; congr 1; norm_num

theorem sitofp_bit (p : Prop) [Decidable p] : FloatOps.sitofp (F := Ideal) FTy.f32 (BitVec.setWidth 32 (BitVec.ofBool (decide p))) = ((if p then 1 else 0 : ℝ) : EReal) := by
  rw [setWidth_bit]
  show ((((if p then 1#32 else 0#32 : BitVec 32).toInt : ℝ)) : EReal) = _
  split <;> simp

/-- A sum of choices of reals, by the propositions that the words decide. -/
theorem sum_select {n : ℕ} (w : Fin n → BitVec 1) (P : Fin n → Prop) [DecidablePred P] (v : Fin n → EReal) (g : Fin n → ℝ)
    (hw : ∀ x, w x = BitVec.ofBool (decide (P x))) (hv : ∀ x, v x = ((g x : ℝ) : EReal)) :
    (∑ x, Scalar.select (w x) (v x) 0) = ((∑ x, if P x then g x else 0 : ℝ) : EReal) := by
  rw [← coe_sum]
  refine Finset.sum_congr rfl fun x _ => ?_
  rw [hw, hv, select_bit, coe_ite0]

theorem dot_coe {n : ℕ} (a b : Fin n → EReal) (g h : Fin n → ℝ) (ha : ∀ x, a x = ((g x : ℝ) : EReal)) (hb : ∀ x, b x = ((h x : ℝ) : EReal)) :
    (∑ x, a x * b x) = ((∑ x, g x * h x : ℝ) : EReal) := by
  rw [← coe_sum]
  refine Finset.sum_congr rfl fun x _ => ?_
  rw [ha, hb, EReal.coe_mul]

/-! ## The words -/

section
variable (lab : Fin 1024 → BitVec 32)

theorem act_word (j : Fin 1024) : IntOp.cmpi .sge (IntOp.addi (BitVec.ofNat 32 (occN lab j)) 200#32) (BitVec.ofNat 32 (cntN lab j)) = BitVec.ofBool (decide (act lab j)) := by
  have h1 := occN_lt lab j
  have h2 := cntN_le lab j
  rw [show IntOp.addi (BitVec.ofNat 32 (occN lab j)) 200#32 = BitVec.ofNat 32 (occN lab j + 200) from (BitVec.ofNat_add _ _).symm,
    sge_small (by omega) (by omega)]
  rfl

theorem slot_word (j : Fin 1024) (n : ℕ) (hn : n < 2147483648) : IntOp.cmpi .slt
    (Scalar.select
      (IntOp.andi
        (IntOp.xori (IntOp.cmpi .slt (IntOp.remsi ArithUnit.vector (BitVec.ofNat 32 (occN lab j)) (Scalar.select (Scalar.cmpi .eq 200#32 0#32) 1#32 200#32)) 0#32)
          (Scalar.cmpi .slt (Scalar.select (Scalar.cmpi .eq 200#32 0#32) 1#32 200#32) 0#32))
        (IntOp.cmpi .ne (IntOp.remsi ArithUnit.vector (BitVec.ofNat 32 (occN lab j)) (Scalar.select (Scalar.cmpi .eq 200#32 0#32) 1#32 200#32)) 0#32))
      (IntOp.addi (IntOp.remsi ArithUnit.vector (BitVec.ofNat 32 (occN lab j)) (Scalar.select (Scalar.cmpi .eq 200#32 0#32) 1#32 200#32))
        (Scalar.select (Scalar.cmpi .eq 200#32 0#32) 1#32 200#32))
      (IntOp.remsi ArithUnit.vector (BitVec.ofNat 32 (occN lab j)) (Scalar.select (Scalar.cmpi .eq 200#32 0#32) 1#32 200#32)))
    (BitVec.ofNat 32 n) = BitVec.ofBool (decide ((slotN lab j).val < n)) := by
  have ho := occN_lt lab j
  have hw : Scalar.select (Scalar.cmpi CmpIPredicate.eq 200#32 0#32) 1#32 200#32 = 200#32 := by decide
  rw [hw, remsi_small _ (by omega), show IntOp.cmpi .slt (BitVec.ofNat 32 (occN lab j % 200)) 0#32 = 0#1 from by
    rw [show (0#32) = BitVec.ofNat 32 0 from rfl, slt_small (by omega) (by omega)]; rfl]
  have hz : ∀ b : BitVec 1, IntOp.andi (IntOp.xori 0#1 (Scalar.cmpi .slt 200#32 0#32)) b = 0#1 := by decide
  rw [hz]
  refine (slt_small (a := occN lab j % 200) (by omega) hn).trans ?_
  rfl

theorem inc_word (i j : Fin 1024) : IntOp.andi (IntOp.andi (IntOp.cmpi .eq (lab i) (lab j)) (IntOp.cmpi .sgt (BitVec.ofNat 32 (cntN lab i)) 1#32))
    (IntOp.cmpi .ne (BitVec.ofNat 32 (occN lab j)) (firstW lab i)) = BitVec.ofBool (decide (inc lab i j)) := by
  have h2 := cntN_le lab i
  rw [cmpi_eq_bit, show (1#32) = BitVec.ofNat 32 1 from rfl, sgt_small (by omega) (by omega), cmpi_ne_bit, andi_bit, andi_bit]
  rfl
end

/-! ## The columns -/

/-- What the call's blocks hold: the block's anchors are `b r`. -/
structure CombIn (lab : Fin 1024 → BitVec 32) (hlab : ∀ j, (lab j).toNat < 1000) (f : Fin 1024 → Fin 512 → ℝ) (bk : Fin 1000 → Fin 200 → Fin 512 → ℝ) (b : Fin 256 → Fin 1024)
    (x0 : Vec Ideal S256x512 .f32) (x1 : Vec Ideal S1024x512 .f32) (x2 : Vec Ideal S1024x512 .f32) (x3 : Vec Ideal S256x1 .i32) (x4 : Vec Ideal S1x1024 .i32) (x5 : Vec Ideal S1x1024 .i32) (x6 : Vec Ideal S1x1024 .i32) (x7 : Vec Ideal S256x1 .i32) (x8 : Vec Ideal S256x1 .i32) (x9 : Vec Ideal S256x1 .f32) (x10 : Vec Ideal S256x1 .f32) (x11 : Vec Ideal S256x1 .f32) (x12 : Vec Ideal S256x1 .f32) : Prop where
  h0 : ∀ r k, x0 (ix2 r k) = ((f (b r) k : ℝ) : EReal)
  h1 : ∀ j k, x1 (ix2 j k) = ((f j k : ℝ) : EReal)
  h2 : ∀ j k, x2 (ix2 j k) = ((bk (cls lab hlab j) (slotN lab j) k : ℝ) : EReal)
  h3 : ∀ r, x3 (ix2 r 0) = lab (b r)
  h4 : ∀ j, x4 (ix2 0 j) = lab j
  h5 : ∀ j, x5 (ix2 0 j) = BitVec.ofNat 32 (occN lab j)
  h6 : ∀ j, x6 (ix2 0 j) = BitVec.ofNat 32 (cntN lab j)
  h7 : ∀ r, x7 (ix2 r 0) = BitVec.ofNat 32 (cntN lab (b r))
  h8 : ∀ r, x8 (ix2 r 0) = firstW lab (b r)
  h9 : ∀ r, x9 (ix2 r 0) = ((rCol lab f bk id (b r) : ℝ) : EReal)
  h10 : ∀ r, x10 (ix2 r 0) = ((rCol lab f bk phiH (b r) : ℝ) : EReal)
  h11 : ∀ r, x11 (ix2 r 0) = ((rCol lab f bk phiN (b r) : ℝ) : EReal)
  h12 : ∀ r, x12 (ix2 r 0) = ((rMem lab hlab f bk (b r) : ℝ) : EReal)

section
variable {lab : Fin 1024 → BitVec 32} {hlab : ∀ j, (lab j).toNat < 1000} {f : Fin 1024 → Fin 512 → ℝ} {bk : Fin 1000 → Fin 200 → Fin 512 → ℝ} {b : Fin 256 → Fin 1024}
variable {x0 : Vec Ideal S256x512 .f32} {x1 : Vec Ideal S1024x512 .f32} {x2 : Vec Ideal S1024x512 .f32} {x3 : Vec Ideal S256x1 .i32} {x4 : Vec Ideal S1x1024 .i32} {x5 : Vec Ideal S1x1024 .i32} {x6 : Vec Ideal S1x1024 .i32} {x7 : Vec Ideal S256x1 .i32} {x8 : Vec Ideal S256x1 .i32} {x9 : Vec Ideal S256x1 .f32} {x10 : Vec Ideal S256x1 .f32} {x11 : Vec Ideal S256x1 .f32} {x12 : Vec Ideal S256x1 .f32}
variable (h : CombIn lab hlab f bk b x0 x1 x2 x3 x4 x5 x6 x7 x8 x9 x10 x11 x12) (r : Fin 256)
include h

theorem CombIn.p (j : Fin 1024) : (∑ k, x0 (ix2 r k) * x1 (ix2 j k)) = ((prd f (b r) j : ℝ) : EReal) := dot_coe _ _ _ _ (h.h0 r) (h.h1 j)
theorem CombIn.q (j : Fin 1024) : (∑ k, x0 (ix2 r k) * x2 (ix2 j k)) = ((sim f bk (b r) (cls lab hlab j) (slotN lab j) : ℝ) : EReal) :=
  dot_coe _ _ _ _ (h.h0 r) (h.h2 j)

theorem CombIn.col0 : cCols x0 x1 x2 x3 x4 x5 x6 x7 x8 x9 x10 x11 x12 0 (ix2 r 0) = ((posNum lab (b r) : ℝ) : EReal) := by
  pointwise [cCols, k3_pay15, k3_pay14, k3_pay13, k3_pay12, k3_pay7, k3_pay8, k3_pay4]
  unfold posNum
  rw [← coe_sum]
  refine Finset.sum_congr rfl fun j _ => ?_
  rw [h.h3, h.h4, h.h7, h.h5, h.h8, inc_word, sitofp_bit]

theorem CombIn.col5 : cCols x0 x1 x2 x3 x4 x5 x6 x7 x8 x9 x10 x11 x12 5 (ix2 r 0) = ((posSum lab f (b r) * (1 / tau) : ℝ) : EReal) := by
  pointwise [cCols, k3_pay23, k3_pay14, k3_pay13, k3_pay12, k3_pay5, k3_pay7, k3_pay8, k3_pay4]
  refine (congrArg₂ (· * ·) (sum_select _ (fun j => inc lab (b r) j) _ _ (fun j => ?_) (h.p r)) val_inv_t).trans (EReal.coe_mul _ _).symm
  rw [h.h3, h.h4, h.h7, h.h5, h.h8, inc_word]

theorem CombIn.col1 : cCols x0 x1 x2 x3 x4 x5 x6 x7 x8 x9 x10 x11 x12 1 (ix2 r 0) = (((rMem lab hlab f bk (b r) + dMem lab hlab f bk (b r)) * (1 / tau) : ℝ) : EReal) := by
  pointwise [cCols, k3_pay16, k3_pay5, k3_pay6, k3_pay7, k3_pay8, k3_pay9, k3_pay10, k3_pay11, k3_pay4, k3_pay12, k3_pay13]
  refine (congrArg₂ (· * ·) (congrArg₂ (· + ·) (h.h12 r) (sum_select _ (fun j => lab (b r) = lab j ∧ act lab j ∧ (slotN lab j).val < 50) _ _ (fun j => ?_) fun j => ?_)) val_inv_t).trans
    ((congrArg (· * _) (EReal.coe_add _ _).symm).trans (EReal.coe_mul _ _).symm)
  · rw [h.h3, h.h4, h.h5, h.h6, act_word, slot_word lab j 50 (by decide), cmpi_eq_bit, andi_bit, andi_bit]
  · rw [h.p, h.q, ← EReal.coe_sub]

theorem CombIn.col2 : cCols x0 x1 x2 x3 x4 x5 x6 x7 x8 x9 x10 x11 x12 2 (ix2 r 0) = (((rCol lab f bk id (b r) + dCol lab hlab f bk id (b r)) * (1 / tau) : ℝ) : EReal) := by
  pointwise [cCols, k3_pay20, k3_pay18, k3_pay19, k3_pay17, k3_pay5, k3_pay6, k3_pay7, k3_pay8, k3_pay9, k3_pay10, k3_pay11, k3_pay4, k3_pay12, k3_pay13]
  refine (congrArg₂ (· * ·) (congrArg₂ (· + ·) (h.h9 r) (sum_select _ (fun j => (act lab j ∧ (slotN lab j).val < 20) ∧ ¬ lab (b r) = lab j) _ _ (fun j => ?_) fun j => ?_)) val_inv_t).trans
    ((congrArg (· * _) (EReal.coe_add _ _).symm).trans (EReal.coe_mul _ _).symm)
  · rw [h.h3, h.h4, h.h5, h.h6, act_word, slot_word lab j 20 (by decide), cmpi_eq_bit, xori_bit, andi_bit, andi_bit]
  · rw [h.p, h.q, ← EReal.coe_sub]; rfl

theorem CombIn.col3 : cCols x0 x1 x2 x3 x4 x5 x6 x7 x8 x9 x10 x11 x12 3 (ix2 r 0) = (((rCol lab f bk phiH (b r) + dCol lab hlab f bk phiH (b r)) * (1 / tau) : ℝ) : EReal) := by
  pointwise [cCols, k3_pay21, k3_pay18, k3_pay19, k3_pay17, k3_pay5, k3_pay6, k3_pay7, k3_pay8, k3_pay9, k3_pay10, k3_pay11, k3_pay4, k3_pay12, k3_pay13]
  refine (congrArg₂ (· * ·) (congrArg₂ (· + ·) (h.h10 r) (sum_select _ (fun j => (act lab j ∧ (slotN lab j).val < 20) ∧ ¬ lab (b r) = lab j) _ _ (fun j => ?_) fun j => ?_)) val_inv_t).trans
    ((congrArg (· * _) (EReal.coe_add _ _).symm).trans (EReal.coe_mul _ _).symm)
  · rw [h.h3, h.h4, h.h5, h.h6, act_word, slot_word lab j 20 (by decide), cmpi_eq_bit, xori_bit, andi_bit, andi_bit]
  · rw [h.p, h.q, val_theta]
    simp only [EReal.coe_lt_coe_iff, coe_ite0]
    rw [← EReal.coe_sub]; rfl

theorem CombIn.col4 : cCols x0 x1 x2 x3 x4 x5 x6 x7 x8 x9 x10 x11 x12 4 (ix2 r 0) = (((rCol lab f bk phiN (b r) + dCol lab hlab f bk phiN (b r)) : ℝ) : EReal) := by
  pointwise [cCols, k3_pay22, k3_pay18, k3_pay19, k3_pay17, k3_pay5, k3_pay6, k3_pay7, k3_pay8, k3_pay9, k3_pay10, k3_pay11, k3_pay4, k3_pay12, k3_pay13]
  refine (congrArg₂ (· + ·) (h.h11 r) (sum_select _ (fun j => (act lab j ∧ (slotN lab j).val < 20) ∧ ¬ lab (b r) = lab j) _ _ (fun j => ?_) fun j => ?_)).trans (EReal.coe_add _ _).symm
  · rw [h.h3, h.h4, h.h5, h.h6, act_word, slot_word lab j 20 (by decide), cmpi_eq_bit, xori_bit, andi_bit, andi_bit]
  · rw [h.p, h.q, val_theta]
    simp only [EReal.coe_lt_coe_iff, sitofp_bit]
    rw [← EReal.coe_sub]; rfl
end

/-- A block's sum of losses. -/
theorem CombIn.first {lab : Fin 1024 → BitVec 32} {hlab : ∀ j, (lab j).toNat < 1000} {f : Fin 1024 → Fin 512 → ℝ} {bk : Fin 1000 → Fin 200 → Fin 512 → ℝ} {b : Fin 256 → Fin 1024}
    {x0 : Vec Ideal S256x512 .f32} {x1 : Vec Ideal S1024x512 .f32} {x2 : Vec Ideal S1024x512 .f32} {x3 : Vec Ideal S256x1 .i32} {x4 : Vec Ideal S1x1024 .i32} {x5 : Vec Ideal S1x1024 .i32} {x6 : Vec Ideal S1x1024 .i32} {x7 : Vec Ideal S256x1 .i32} {x8 : Vec Ideal S256x1 .i32} {x9 : Vec Ideal S256x1 .f32} {x10 : Vec Ideal S256x1 .f32} {x11 : Vec Ideal S256x1 .f32} {x12 : Vec Ideal S256x1 .f32}
    (h : CombIn lab hlab f bk b x0 x1 x2 x3 x4 x5 x6 x7 x8 x9 x10 x11 x12) : cFirst x0 x1 x2 x3 x4 x5 x6 x7 x8 x9 x10 x11 x12 (ix2 0 0) = ((∑ r : Fin 256, lossK lab hlab f bk (b r) : ℝ) : EReal) := by
  unfold cFirst
  generalize e0 : cCols x0 x1 x2 x3 x4 x5 x6 x7 x8 x9 x10 x11 x12 0 = v0
  generalize e1 : cCols x0 x1 x2 x3 x4 x5 x6 x7 x8 x9 x10 x11 x12 1 = v1
  generalize e2 : cCols x0 x1 x2 x3 x4 x5 x6 x7 x8 x9 x10 x11 x12 2 = v2
  generalize e3 : cCols x0 x1 x2 x3 x4 x5 x6 x7 x8 x9 x10 x11 x12 3 = v3
  generalize e4 : cCols x0 x1 x2 x3 x4 x5 x6 x7 x8 x9 x10 x11 x12 4 = v4
  generalize e5 : cCols x0 x1 x2 x3 x4 x5 x6 x7 x8 x9 x10 x11 x12 5 = v5
  pointwise [k3_pay1]
  rw [← coe_sum]
  refine Finset.sum_congr rfl fun r _ => ?_
  rw [← e0, ← e1, ← e2, ← e3, ← e4, ← e5, h.col0, h.col1, h.col2, h.col3, h.col4, h.col5, val_fifty, val_nvalid]
  have hn : 0 ≤ posNum lab (b r) := Finset.sum_nonneg fun j _ => by split <;> norm_num
  have hm : ∀ x : ℝ, max x 1 ≠ 0 := fun x => (lt_of_lt_of_le one_pos (le_max_right x 1)).ne'
  rw [← EReal.coe_add, ← EReal.coe_add, ← EReal.coe_zero, ← EReal.coe_sub, ← EReal.coe_one, ← EReal.coe_strictMono.monotone.map_max,
    Ideal.div_coe (by positivity), Ideal.div_coe (hm _), Ideal.div_coe (by norm_num)]
  simp only [EReal.coe_lt_coe_iff, ← EReal.coe_mul, coe_ite, ← EReal.coe_add]
  unfold lossK lossOf
  simp only [div_eq_mul_inv, one_mul]

theorem cNext_apply (x0 : Vec Ideal S256x512 .f32) (x1 : Vec Ideal S1024x512 .f32) (x2 : Vec Ideal S1024x512 .f32) (x3 : Vec Ideal S256x1 .i32) (x4 : Vec Ideal S1x1024 .i32) (x5 : Vec Ideal S1x1024 .i32) (x6 : Vec Ideal S1x1024 .i32) (x7 : Vec Ideal S256x1 .i32) (x8 : Vec Ideal S256x1 .i32) (x9 : Vec Ideal S256x1 .f32) (x10 : Vec Ideal S256x1 .f32) (x11 : Vec Ideal S256x1 .f32) (x12 : Vec Ideal S256x1 .f32) (o : Vec Ideal S1x1 .f32) :
    cNext x0 x1 x2 x3 x4 x5 x6 x7 x8 x9 x10 x11 x12 o (ix2 0 0) = o (ix2 0 0) + cFirst x0 x1 x2 x3 x4 x5 x6 x7 x8 x9 x10 x11 x12 (ix2 0 0) := by
  unfold cNext cFirst
  generalize cCols x0 x1 x2 x3 x4 x5 x6 x7 x8 x9 x10 x11 x12 0 = v0
  generalize cCols x0 x1 x2 x3 x4 x5 x6 x7 x8 x9 x10 x11 x12 1 = v1
  generalize cCols x0 x1 x2 x3 x4 x5 x6 x7 x8 x9 x10 x11 x12 2 = v2
  generalize cCols x0 x1 x2 x3 x4 x5 x6 x7 x8 x9 x10 x11 x12 3 = v3
  generalize cCols x0 x1 x2 x3 x4 x5 x6 x7 x8 x9 x10 x11 x12 4 = v4
  generalize cCols x0 x1 x2 x3 x4 x5 x6 x7 x8 x9 x10 x11 x12 5 = v5
  pointwise [k3_pay2]

theorem k3_pay3_apply (o : Vec Ideal S1x1 .f32) : k3_pay3 o (ix2 0 0) = o (ix2 0 0) * ((1 / 1024 : ℝ) : EReal) := by
  pointwise [k3_pay3]
  rw [val_inv_batch]

end Cert.Proof

end
-- ==== Proof.KerMain.lean ====
/-
  The main pass's columns as real numbers: sums over the rows of the bank that the points pass.
-/
module

public import proofs.«01_k».proof.Proof.MainPass
public import proofs.«01_k».proof.Proof.KerComb

@[expose] public section
set_option maxRecDepth 16384
noncomputable section
namespace Cert.Proof
open Cert.KernelIdeal Cert.KernelIdeal.Gen
open Idealize.ShloMosaic

/-- The class of row `a` of the block at point `t`. -/
def mcl (t : ℕ) (a : Fin 40) : Fin 1000 := ⟨(t * 40 + a.val) % 1000, Nat.mod_lt _ (by decide)⟩
theorem mcl_val {t : ℕ} (ht : t < 25) (a : Fin 40) : (mcl t a).val = t * 40 + a.val := Nat.mod_eq_of_lt (by omega)

section
variable (lab : Fin 1024 → BitVec 32) (f : Fin 1024 → Fin 512 → ℝ) (bk : Fin 1000 → Fin 200 → Fin 512 → ℝ)

/-- What a point adds to the columns over the negatives, -/
def pCol (φ : ℝ → ℝ) (t : ℕ) (r : Fin 1024) : ℝ := ∑ a : Fin 40, ∑ s : Fin 20, if (mcl t a).val ≠ (lab r).toNat then φ (sim f bk r (mcl t a) (s.castLE (by decide))) else 0
/-- and to the column of the anchor's own class. -/
def pMem (t : ℕ) (r : Fin 1024) : ℝ := ∑ a : Fin 40, if (mcl t a).val = (lab r).toNat then ∑ s : Fin 50, sim f bk r (mcl t a) (s.castLE (by decide)) else 0

def pAt (t : ℕ) (r : Fin 1024) : Fin 4 → ℝ
  | 0 => pCol lab f bk id t r
  | 1 => pCol lab f bk phiH t r
  | 2 => pCol lab f bk phiN t r
  | 3 => pMem lab f bk t r

theorem cls_word {t : ℕ} (ht : t < 25) (a : Fin 40) (w : BitVec 32) :
    IntOp.addi (BitVec.ofNat 32 a.val) (Scalar.muli (BitVec.ofNat 32 t) 40#32) = w ↔ (mcl t a).val = w.toNat := by
  rw [mcl_val ht]
  have e : IntOp.addi (BitVec.ofNat 32 a.val) (Scalar.muli (BitVec.ofNat 32 t) 40#32) = BitVec.ofNat 32 (t * 40 + a.val) := by
    show BitVec.ofNat 32 a.val + BitVec.ofNat 32 t * 40#32 = _
    rw [Nat.add_comm, BitVec.ofNat_add, BitVec.ofNat_mul]
  rw [e, ← BitVec.toNat_inj, BitVec.toNat_ofNat, Nat.mod_eq_of_lt (by omega)]

/-- A hard negative's similarity, or its count. -/
theorem sel_hard (p : Prop) [Decidable p] (w : BitVec 1) (v : EReal) (z : ℝ) (hw : w = BitVec.ofBool (decide p)) (hv : v = ((z : ℝ) : EReal)) :
    Scalar.select (IntOp.andi w (BitVec.ofBool (decide (Ideal.ofBits FTy.f32 1024416809#32 < v)))) v 0 = ((if p then phiH z else 0 : ℝ) : EReal) := by
  subst hw hv
  rw [val_theta]
  simp only [EReal.coe_lt_coe_iff, andi_bit, select_bit, coe_ite0]
  unfold phiH
  rw [ite_and]
theorem num_hard (p : Prop) [Decidable p] (w : BitVec 1) (v : EReal) (z : ℝ) (hw : w = BitVec.ofBool (decide p)) (hv : v = ((z : ℝ) : EReal)) :
    FloatOps.sitofp (F := Ideal) FTy.f32 (BitVec.setWidth 32 (IntOp.andi w (BitVec.ofBool (decide (Ideal.ofBits FTy.f32 1024416809#32 < v)))))
      = ((if p then phiN z else 0 : ℝ) : EReal) := by
  subst hw hv
  rw [val_theta]
  simp only [EReal.coe_lt_coe_iff, andi_bit, sitofp_bit]
  unfold phiN
  rw [ite_and]

/-- What the pass's blocks hold at point `t`. -/
structure MainIn (t : ℕ) (x0 : Vec Ideal S1x800 .i32) (x1 : Vec Ideal S40x56x512 .f32) (x2 : Vec Ideal S1024x512 .f32) (x3 : Vec Ideal S1024x512 .bf16) (x4 : Vec Ideal S1024x1 .i32) : Prop where
  ht : t < 25
  h0 : ∀ x : Fin 800, x0 (ix2 0 x) = BitVec.ofNat 32 (x.val / 20)
  h1 : ∀ (a : Fin 40) (s : Fin 56) (k : Fin 512), x1 (ix3 a s k) = ((bk (mcl t a) (s.castLE (by decide)) k : ℝ) : EReal)
  h2 : ∀ r k, x2 (ix2 r k) = ((f r k : ℝ) : EReal)
  h3 : ∀ r k, x3 (ix2 r k) = ((f r k : ℝ) : EReal)
  h4 : ∀ r, x4 (ix2 r 0) = lab r
end

section
variable {lab : Fin 1024 → BitVec 32} {f : Fin 1024 → Fin 512 → ℝ} {bk : Fin 1000 → Fin 200 → Fin 512 → ℝ}
variable {t : grid2.Coords} {x0 : Vec Ideal S1x800 .i32} {x1 : Vec Ideal S40x56x512 .f32} {x2 : Vec Ideal S1024x512 .f32} {x3 : Vec Ideal S1024x512 .bf16} {x4 : Vec Ideal S1024x1 .i32}
variable (h : MainIn lab f bk (t 0).val x0 x1 x2 x3 x4) (r : Fin 1024)
include h

theorem MainIn.z (x : Fin 800) (h1 : x.val / 20 < 40) (h2 : x.val % 20 < 56) :
    (∑ k, x3 (ix2 r k) * x1 (ix3 ⟨x.val / 20, h1⟩ ⟨x.val % 20, h2⟩ k)) = ((sim f bk r (mcl (t 0).val ⟨x.val / 20, h1⟩) ⟨x.val % 20, by omega⟩ : ℝ) : EReal) :=
  dot_coe _ _ _ _ (h.h3 r) (h.h1 _ _)

theorem MainIn.cond (x : Fin 800) (h1 : x.val / 20 < 40) :
    IntOp.cmpi .ne (IntOp.addi (x0 (ix2 0 x)) (Scalar.muli (BitVec.ofNat 32 (t 0).val) 40#32)) (x4 (ix2 r 0))
      = BitVec.ofBool (decide ((mcl (t 0).val ⟨x.val / 20, h1⟩).val ≠ (lab r).toNat)) := by
  rw [h.h0, h.h4, cmpi_ne_bit]
  exact bit_inj _ _ (not_congr (cls_word h.ht ⟨x.val / 20, h1⟩ (lab r)))

omit h in
/-- A sum over a block's 800 rows, by class. -/
theorem sum_block (lab : Fin 1024 → BitVec 32) (f : Fin 1024 → Fin 512 → ℝ) (bk : Fin 1000 → Fin 200 → Fin 512 → ℝ) (φ : ℝ → ℝ) (t : ℕ) (r : Fin 1024) :
    (∑ x : Fin 800, if (mcl t ⟨x.val / 20, by omega⟩).val ≠ (lab r).toNat then φ (sim f bk r (mcl t ⟨x.val / 20, by omega⟩) ⟨x.val % 20, by omega⟩) else 0) = pCol lab f bk φ t r := by
  rw [sum_rows (A := 40) (B := 20) rfl]
  refine Finset.sum_congr rfl fun a _ => Finset.sum_congr rfl fun s _ => ?_
  have ea : (⟨(a.val * 20 + s.val) / 20, by omega⟩ : Fin 40) = a := Fin.ext (show (a.val * 20 + s.val) / 20 = a.val by omega)
  have es : (⟨(a.val * 20 + s.val) % 20, by omega⟩ : Fin 200) = s.castLE (by decide) := Fin.ext (show (a.val * 20 + s.val) % 20 = s.val by omega)
  rw [ea, es]

theorem MainIn.col0 : mFirst t x0 x1 x2 x3 x4 0 (ix2 r 0) = ((pCol lab f bk id (t 0).val r : ℝ) : EReal) := by
  pointwise [mFirst, k2_pay10, k2_pay9, k2_pay8, k2_pay7, k2_pay6]
  rw [← sum_block]
  exact sum_select _ (fun x : Fin 800 => (mcl (t 0).val ⟨x.val / 20, by omega⟩).val ≠ (lab r).toNat) _ _ (fun x => h.cond r x _) fun x => h.z r x _ _

theorem MainIn.col1 : mFirst t x0 x1 x2 x3 x4 1 (ix2 r 0) = ((pCol lab f bk phiH (t 0).val r : ℝ) : EReal) := by
  pointwise [mFirst, k2_pay11, k2_pay10, k2_pay9, k2_pay8, k2_pay7, k2_pay6]
  rw [← sum_block, ← coe_sum]
  refine Finset.sum_congr rfl fun x _ => ?_
  exact sel_hard _ _ _ _ (h.cond r x _) (h.z r x _ _)

theorem MainIn.col2 : mFirst t x0 x1 x2 x3 x4 2 (ix2 r 0) = ((pCol lab f bk phiN (t 0).val r : ℝ) : EReal) := by
  pointwise [mFirst, k2_pay12, k2_pay11, k2_pay10, k2_pay9, k2_pay8, k2_pay7, k2_pay6]
  rw [← sum_block, ← coe_sum]
  refine Finset.sum_congr rfl fun x _ => ?_
  exact num_hard _ _ _ _ (h.cond r x _) (h.z r x _ _)

theorem MainIn.col3 : mFirst t x0 x1 x2 x3 x4 3 (ix2 r 0) = ((pMem lab f bk (t 0).val r : ℝ) : EReal) := by
  pointwise [mFirst, k2_pay1, k2_pay13, k2_pay6]
  unfold pMem
  refine sum_select _ (fun a => (mcl (t 0).val a).val = (lab r).toNat) _ _ (fun a => ?_) fun a => ?_
  · rw [h.h4, cmpi_eq_bit]
    exact bit_inj _ _ (cls_word h.ht a (lab r))
  · simp only [h.h1, h.h2, coe_sum, ← EReal.coe_mul]
    congr 1
    unfold sim
    rw [Finset.sum_comm]
    refine Finset.sum_congr rfl fun k _ => ?_
    rw [Finset.mul_sum]
    rfl

theorem MainIn.first (w : Fin 4) : mFirst t x0 x1 x2 x3 x4 w (ix2 r 0) = ((pAt lab f bk (t 0).val r w : ℝ) : EReal) :=
  match w with
  | 0 => h.col0 r
  | 1 => h.col1 r
  | 2 => h.col2 r
  | 3 => h.col3 r
end

theorem mNext_apply (t : grid2.Coords) (x0 : Vec Ideal S1x800 .i32) (x1 : Vec Ideal S40x56x512 .f32) (x2 : Vec Ideal S1024x512 .f32) (x3 : Vec Ideal S1024x512 .bf16) (x4 : Vec Ideal S1024x1 .i32)
    (o : Fin 4 → Vec Ideal S1024x1 .f32) (r : Fin 1024) (w : Fin 4) : mNext t x0 x1 x2 x3 x4 o w (ix2 r 0) = o w (ix2 r 0) + mFirst t x0 x1 x2 x3 x4 w (ix2 r 0) := by
  match w with
  | 0 => show k2_pay2 (k2_pay10 t x1 x4 x3 x0) (o 0) (ix2 r 0) = o 0 (ix2 r 0) + k2_pay10 t x1 x4 x3 x0 (ix2 r 0); generalize k2_pay10 t x1 x4 x3 x0 = v; pointwise [k2_pay2]
  | 1 => show k2_pay3 (k2_pay11 t x1 x4 x3 x0) (o 1) (ix2 r 0) = o 1 (ix2 r 0) + k2_pay11 t x1 x4 x3 x0 (ix2 r 0); generalize k2_pay11 t x1 x4 x3 x0 = v; pointwise [k2_pay3]
  | 2 => show k2_pay4 (k2_pay12 t x1 x4 x3 x0) (o 2) (ix2 r 0) = o 2 (ix2 r 0) + k2_pay12 t x1 x4 x3 x0 (ix2 r 0); generalize k2_pay12 t x1 x4 x3 x0 = v; pointwise [k2_pay4]
  | 3 => pointwise [mNext, mFirst, k2_pay5]

/-- Over the 25 points the columns are the sums over all classes. -/
theorem pCol_sum (lab : Fin 1024 → BitVec 32) (f : Fin 1024 → Fin 512 → ℝ) (bk : Fin 1000 → Fin 200 → Fin 512 → ℝ) (φ : ℝ → ℝ) (r : Fin 1024) :
    ∑ t ∈ Finset.range 25, pCol lab f bk φ t r = rCol lab f bk φ r := by
  rw [Finset.sum_range]
  unfold rCol
  rw [sum_rows (A := 25) (B := 40) (N := 1000) rfl]
  refine Finset.sum_congr rfl fun t _ => Finset.sum_congr rfl fun a _ => ?_
  rw [show mcl t.val a = ⟨t.val * 40 + a.val, by omega⟩ from Fin.ext (mcl_val t.isLt a)]

theorem pMem_sum (lab : Fin 1024 → BitVec 32) (hlab : ∀ j, (lab j).toNat < 1000) (f : Fin 1024 → Fin 512 → ℝ) (bk : Fin 1000 → Fin 200 → Fin 512 → ℝ) (r : Fin 1024) :
    ∑ t ∈ Finset.range 25, pMem lab f bk t r = rMem lab hlab f bk r := by
  rw [Finset.sum_range]
  unfold rMem
  have e : (∑ c : Fin 1000, if c.val = (lab r).toNat then ∑ s : Fin 50, sim f bk r c (s.castLE (by decide)) else 0) = ∑ s : Fin 50, sim f bk r (cls lab hlab r) (s.castLE (by decide)) := by
    rw [Finset.sum_eq_single (cls lab hlab r) (fun c _ hc => if_neg fun hv => hc (Fin.ext hv)) (fun hn => absurd (Finset.mem_univ _) hn)]
    exact if_pos rfl
  rw [← e, sum_rows (A := 25) (B := 40) (N := 1000) rfl]
  refine Finset.sum_congr rfl fun t _ => Finset.sum_congr rfl fun a _ => ?_
  rw [show mcl t.val a = ⟨t.val * 40 + a.val, by omega⟩ from Fin.ext (mcl_val t.isLt a)]

end Cert.Proof
end
-- ==== Proof.KerReads.lean ====
/-
  The kernel's buffers as real numbers, call by call.
-/
module

public import proofs.«01_k».proof.Proof.Ints
public import proofs.«01_k».proof.Proof.KerMain

@[expose] public section
set_option maxRecDepth 16384
noncomputable section
namespace Cert.Proof
open Cert.KernelIdeal Cert.KernelIdeal.Gen
open Idealize.ShloMosaic Idealize.ShloMosaic.TcCoe Idealize.ShloMosaic.StableHlo
open Idealize.ShloMosaic.Pipeline (Dat arrRef)

section
variable {F : FTy → Type} [FloatOps F] [Named F] (V : Dev nD → Valuation τ sig (Elt F)) (c : Dev nD)

/-! ## What the main pass reads -/

theorem V5_f : V5 V c (Proc.devRef .tc main_v2_0) = k0_pay2 (x0Of V c) :=
  (V5_keep V c _ (by decide)).trans <| (V4_ne V c _ (by decide)).trans <| (V3_keep V c _ (by decide)).trans (V2_f V c)
theorem V5_fbf : V5 V c (Proc.devRef .tc main_v2_1) = k0_pay3 (x0Of V c) :=
  (V5_keep V c _ (by decide)).trans <| (V4_ne V c _ (by decide)).trans <| (V3_keep V c _ (by decide)).trans (V2_fbf V c)
theorem V5_occ : V5 V c (Proc.devRef .tc main_v2_2) = k0_pay6 (labCol V c) (labRow V c) :=
  (V5_keep V c _ (by decide)).trans <| (V4_ne V c _ (by decide)).trans <| (V3_keep V c _ (by decide)).trans (V2_occ V c)
theorem V5_cnt : V5 V c (Proc.devRef .tc main_v2_3) = k0_pay7 (labCol V c) (labRow V c) :=
  (V5_keep V c _ (by decide)).trans <| (V4_ne V c _ (by decide)).trans <| (V3_keep V c _ (by decide)).trans (V2_cnt V c)
theorem V5_first : V5 V c (Proc.devRef .tc main_v2_4) = k0_pay8 (labCol V c) (labRow V c) :=
  (V5_keep V c _ (by decide)).trans <| (V4_ne V c _ (by decide)).trans <| (V3_keep V c _ (by decide)).trans (V2_first V c)
theorem V4_arg1 : V4 V c (Proc.devRef .tc main_arg1) = V c (Proc.devRef .tc main_arg1) :=
  (V4_ne V c _ (by decide)).trans <| (V3_keep V c _ (by decide)).trans <| (V2_ne V c _ (by decide)).trans (V1_keep V c _ (by decide))
theorem V5_arg1 : V5 V c (Proc.devRef .tc main_arg1) = V c (Proc.devRef .tc main_arg1) :=
  (V5_keep V c _ (by decide)).trans (V4_arg1 V c)

theorem V5_v14 : V5 V c (Proc.devRef .tc main_v14) = labCol V c := by
  rw [show V5 V c (Proc.devRef .tc main_v14) = after ops2a (V4 V c) (Proc.devRef .tc main_v14) from
    (after_of_writes_sub ops2c _ (forall_writes_sub_of_map (W := wr2c) rfl) (by decide)).trans (after_of_writes_sub ops2b _ (forall_writes_sub_of_map (W := wr2b) rfl) (by decide))]
  after_results_simp
  rw [V4_arg1]; rfl

theorem V5_v13 : V5 V c (Proc.devRef .tc main_v13) = (shapeCast S1024x512 (gOut (tbOf V) (ixOf V) c : FVec F S4096x128 .f32) shapeCasts_S4096x128_S1024x512) := by
  rw [show V5 V c (Proc.devRef .tc main_v13) = after ops2a (V4 V c) (Proc.devRef .tc main_v13) from
    (after_of_writes_sub ops2c _ (forall_writes_sub_of_map (W := wr2c) rfl) (by decide)).trans (after_of_writes_sub ops2b _ (forall_writes_sub_of_map (W := wr2b) rfl) (by decide))]
  after_results_simp
  rw [V4_v12]; rfl

/-- The number of a row within its class block, divided by 20: the host's floor division. -/
def signW (x : BitVec 32) : BitVec 32 := if x = 0 then 0 else if x.msb then -1 else 1
def divW (x d : BitVec 32) : BitVec 32 :=
  Scalar.select (IntOp.andi (IntOp.cmpi .ne (signW x) (signW d)) (IntOp.cmpi .ne (IntOp.remsi .host x d) 0#32))
    (IntOp.subi (IntOp.divsi .host x d) 1#32) (IntOp.divsi .host x d)
def divW' (x d : BitVec 32) : BitVec 32 :=
  Scalar.select (IntOp.andi (IntOp.cmpi .ne (signW x) (signW d)) (IntOp.cmpi .ne (x.srem d) 0#32))
    (IntOp.subi (x.sdiv d) 1#32) (x.sdiv d)
theorem divW_20' : ∀ x : Fin 800, divW' (BitVec.ofNat 32 x.val) 20#32 = BitVec.ofNat 32 (x.val / 20) := by decide +kernel
theorem divW_20 (x : Fin 800) : divW (BitVec.ofNat 32 x.val) 20#32 = BitVec.ofNat 32 (x.val / 20) := by
  rw [← divW_20']
  unfold divW divW' IntOp.remsi IntOp.divsi
  have hc : ¬ IntOp.SDivCorner (BitVec.ofNat 32 x.val) 20#32 := by
    rintro (h | h)
    · exact absurd h (by decide)
    · exact absurd h.2 (by decide)
  rw [if_neg hc, if_neg hc]

theorem V5_v17 (x : Fin 800) : (V5 V c (Proc.devRef .tc main_v17) : IVec S1x800 32) (ix2 0 x) = BitVec.ofNat 32 (x.val / 20) := by
  refine Eq.trans ?_ (divW_20 x)
  unfold V5
  after_results_simp
  simp only [StableHlo.TRef.ofBuf_toBuf]
  simp -implicitDefEqProofs only [StableHlo.TRef.toBuf, StableHlo.TRef.ofBuf, cast_eq]
  pointwise
  rfl

end

end Cert.Proof
end
-- ==== Proof.KerAll.lean ====
/-
  The main pass's columns and the result as real numbers.
-/
module

public import proofs.«01_k».proof.Proof.KerReads

@[expose] public section
set_option maxRecDepth 16384
noncomputable section
namespace Cert.Proof
open Cert.KernelIdeal Cert.KernelIdeal.Gen
open Idealize.ShloMosaic Idealize.ShloMosaic.TcCoe Idealize.ShloMosaic.StableHlo
open Idealize.ShloMosaic.Pipeline (Dat arrRef)

variable {V : Dev nD → Valuation τ sig (Elt Ideal)} {c : Dev nD}

/-- The kernel's inputs are real: the unit rows `f` and the memory bank `bk`. -/
structure RealIn (V : Dev nD → Valuation τ sig (Elt Ideal)) (c : Dev nD) (f : Fin 1024 → Fin 512 → ℝ) (bk : Fin 1000 → Fin 200 → Fin 512 → ℝ) : Prop where
  hl : LabOK V
  hf : ∀ j k, k0_pay2 (x0Of V c) (ix2 j k) = ((f j k : ℝ) : EReal)
  hb : ∀ (q : Fin 1000) (s : Fin 200) (k : Fin 512), (V c (Proc.devRef .tc main_arg2) : FVec Ideal S1000x200x512 .f32) (ix3 q s k) = ((bk q s k : ℝ) : EReal)

/-! ## The blocks of the main pass -/

theorem mBlk_0 (t : Fin cfg2.N) : mBlk (V5 V) c 0 t = (V5 V c (Proc.devRef .tc main_v17) : IVec S1x800 32) :=
  funext fun j => congrArg (V5 V c (Proc.devRef .tc main_v17)) (funext fun a => Fin.ext
    (Pipeline.Window.rect_emb_val_of_index_zero (cfg2.win 0) t a (by fin_cases a <;> rfl) j))
theorem mBlk_2 (t : Fin cfg2.N) : mBlk (V5 V) c 2 t = k0_pay2 (x0Of V c) :=
  (funext fun j => congrArg (V5 V c (Proc.devRef .tc main_v2_0)) (funext fun a => Fin.ext
    (Pipeline.Window.rect_emb_val_of_index_zero (cfg2.win 2) t a (by fin_cases a <;> rfl) j))).trans (V5_f V c)
theorem mBlk_3 (t : Fin cfg2.N) : mBlk (V5 V) c 3 t = k0_pay3 (x0Of V c) :=
  (funext fun j => congrArg (V5 V c (Proc.devRef .tc main_v2_1)) (funext fun a => Fin.ext
    (Pipeline.Window.rect_emb_val_of_index_zero (cfg2.win 3) t a (by fin_cases a <;> rfl) j))).trans (V5_fbf V c)
theorem mBlk_4 (t : Fin cfg2.N) : mBlk (V5 V) c 4 t = labCol V c :=
  (funext fun j => congrArg (V5 V c (Proc.devRef .tc main_v14)) (funext fun a => Fin.ext
    (Pipeline.Window.rect_emb_val_of_index_zero (cfg2.win 4) t a (by fin_cases a <;> rfl) j))).trans (V5_v14 V c)

theorem coords2 (t : Fin cfg2.N) : (grid2.coords t 0).val = t.val := by
  revert t; decide +kernel

theorem mBank_apply (t : Fin cfg2.N) (a : Fin 40) (s : Fin 56) (k : Fin 512) :
    mBank (V5 V) c t (ix3 a s k) = (V c (Proc.devRef .tc main_arg2) : FVec Ideal S1000x200x512 .f32) (ix3 (mcl (grid2.coords t 0).val a) (s.castLE (by decide)) k) := by
  have ht : t.val < 25 := t.isLt
  unfold mBank Pipeline.Window.fill
  rw [dif_pos (mMoved t (ix3 a s k))]
  rw [← V6_arg2 V c]
  refine congrArg (V5 V c (Proc.devRef .tc main_arg2)) (funext fun b => Fin.ext ?_)
  rw [coords2]
  match b with
  | ⟨0, _⟩ =>
    refine (Pipeline.Window.rect_emb_val (cfg2.win 1) t _ _ rfl).trans ?_
    have e : (cfg2.win 1).index t ⟨0, by decide⟩ = t.val := (by decide +kernel : ∀ t : Fin cfg2.N, (cfg2.win 1).index t ⟨0, by decide⟩ = t.val) t
    rw [e]
    exact (mcl_val ht a).symm
  | ⟨1, _⟩ =>
    refine (Pipeline.Window.rect_emb_val (cfg2.win 1) t _ _ rfl).trans ?_
    have e : (cfg2.win 1).index t ⟨1, by decide⟩ = 0 := (by decide +kernel : ∀ t : Fin cfg2.N, (cfg2.win 1).index t ⟨1, by decide⟩ = 0) t
    rw [e, Nat.zero_mul, Nat.zero_add]
    rfl
  | ⟨2, _⟩ =>
    refine (Pipeline.Window.rect_emb_val (cfg2.win 1) t _ _ rfl).trans ?_
    have e : (cfg2.win 1).index t ⟨2, by decide⟩ = 0 := (by decide +kernel : ∀ t : Fin cfg2.N, (cfg2.win 1).index t ⟨2, by decide⟩ = 0) t
    rw [e, Nat.zero_mul, Nat.zero_add]
    rfl

theorem RealIn.main {f : Fin 1024 → Fin 512 → ℝ} {bk : Fin 1000 → Fin 200 → Fin 512 → ℝ} (h : RealIn V c f bk) (t : Fin cfg2.N) :
    MainIn (labOf (xLab V c)) f bk (grid2.coords t 0).val (mBlk (V5 V) c 0 t) (mBank (V5 V) c t) (mBlk (V5 V) c 2 t) (mBlk (V5 V) c 3 t) (mBlk (V5 V) c 4 t) where
  ht := by rw [coords2]; exact t.isLt
  h0 x := by rw [mBlk_0]; exact V5_v17 V c x
  h1 a s k := by rw [mBank_apply]; exact h.hb _ _ _
  h2 r k := by rw [mBlk_2]; exact h.hf r k
  h3 r k := by rw [mBlk_3]; refine Eq.trans ?_ (h.hf r k); pointwise [k0_pay3]
  h4 r := by rw [mBlk_4]; pointwise

theorem RealIn.sums {f : Fin 1024 → Fin 512 → ℝ} {bk : Fin 1000 → Fin 200 → Fin 512 → ℝ} (h : RealIn V c f bk) (n : ℕ) (hn : n < cfg2.N) (r : Fin 1024) (w : Fin 4) :
    mAt (V5 V) c n hn w (ix2 r 0) = ((∑ t ∈ Finset.range (n + 1), pAt (labOf (xLab V c)) f bk t r w : ℝ) : EReal) := by
  induction n with
  | zero =>
    rw [mAt_first (V5 V) c ⟨0, hn⟩ rfl, (h.main ⟨0, hn⟩).first, coords2]
    simp
  | succ n ih =>
    rw [mAt_next (V5 V) c ⟨n + 1, hn⟩ (by simp), mNext_apply, (h.main ⟨n + 1, hn⟩).first, coords2, Finset.sum_range_succ, EReal.coe_add]
    exact congrArg (· + _) (ih (by omega))

/-! ## The main pass's outputs -/

/-- The last point. -/
def t24 : Fin cfg2.N := ⟨24, by decide⟩

section
variable {f : Fin 1024 → Fin 512 → ℝ} {bk : Fin 1000 → Fin 200 → Fin 512 → ℝ} (h : RealIn V c f bk) (r : Fin 1024)
include h

theorem RealIn.v18_0 : (V7 V c (Proc.devRef .tc main_v18_0) : FVec Ideal S1024x1 .f32) (ix2 r 0) = ((rCol (labOf (xLab V c)) f bk id r : ℝ) : EReal) := by
  have e : V6 V c (Proc.devRef .tc main_v18_0) = mAt (V5 V) c 24 t24.isLt 0 :=
    (V6_arr V c 5).trans ((mDat (V5 V) c).arrAt_eq_of_after_last 5 t24 (by decide +kernel) _ fun j => by rw [mAfter_5]; blk_simp; rfl)
  exact (congrFun ((V7_keep V c _ (by decide)).trans e) (ix2 r 0)).trans ((h.sums 24 _ r 0).trans (congrArg (fun q : ℝ => (q : EReal)) (pCol_sum _ _ _ id r)))
theorem RealIn.v18_1 : (V7 V c (Proc.devRef .tc main_v18_1) : FVec Ideal S1024x1 .f32) (ix2 r 0) = ((rCol (labOf (xLab V c)) f bk phiH r : ℝ) : EReal) := by
  have e : V6 V c (Proc.devRef .tc main_v18_1) = mAt (V5 V) c 24 t24.isLt 1 :=
    (V6_arr V c 6).trans ((mDat (V5 V) c).arrAt_eq_of_after_last 6 t24 (by decide +kernel) _ fun j => by rw [mAfter_6]; blk_simp; rfl)
  exact (congrFun ((V7_keep V c _ (by decide)).trans e) (ix2 r 0)).trans ((h.sums 24 _ r 1).trans (congrArg (fun q : ℝ => (q : EReal)) (pCol_sum _ _ _ phiH r)))
theorem RealIn.v18_2 : (V7 V c (Proc.devRef .tc main_v18_2) : FVec Ideal S1024x1 .f32) (ix2 r 0) = ((rCol (labOf (xLab V c)) f bk phiN r : ℝ) : EReal) := by
  have e : V6 V c (Proc.devRef .tc main_v18_2) = mAt (V5 V) c 24 t24.isLt 2 :=
    (V6_arr V c 7).trans ((mDat (V5 V) c).arrAt_eq_of_after_last 7 t24 (by decide +kernel) _ fun j => by rw [mAfter_7]; blk_simp; rfl)
  exact (congrFun ((V7_keep V c _ (by decide)).trans e) (ix2 r 0)).trans ((h.sums 24 _ r 2).trans (congrArg (fun q : ℝ => (q : EReal)) (pCol_sum _ _ _ phiN r)))
theorem RealIn.v18_3 : (V7 V c (Proc.devRef .tc main_v18_3) : FVec Ideal S1024x1 .f32) (ix2 r 0) = ((rMem (labOf (xLab V c)) (h.hl c) f bk r : ℝ) : EReal) := by
  have e : V6 V c (Proc.devRef .tc main_v18_3) = mAt (V5 V) c 24 t24.isLt 3 :=
    (V6_arr V c 8).trans ((mDat (V5 V) c).arrAt_eq_of_after_last 8 t24 (by decide +kernel) _ fun j => by rw [mAfter_8]; blk_simp; rfl)
  exact (congrFun ((V7_keep V c _ (by decide)).trans e) (ix2 r 0)).trans ((h.sums 24 _ r 3).trans (congrArg (fun q : ℝ => (q : EReal)) (pMem_sum _ (h.hl c) _ _ r)))
end

/-! ## The other operands of the last call -/

theorem V7_f : V7 V c (Proc.devRef .tc main_v2_0) = k0_pay2 (x0Of V c) :=
  (V7_keep V c _ (by decide)).trans ((V6_in V c 2 rfl).trans (V5_f V c))
theorem V7_v13 : V7 V c (Proc.devRef .tc main_v13) = (shapeCast S1024x512 (gOut (tbOf V) (ixOf V) c : FVec Ideal S4096x128 .f32) shapeCasts_S4096x128_S1024x512) :=
  (V7_keep V c _ (by decide)).trans ((V6_ne V c _ (by decide)).trans (V5_v13 V c))
theorem V7_cnt : V7 V c (Proc.devRef .tc main_v2_3) = k0_pay7 (labCol V c) (labRow V c) :=
  (V7_keep V c _ (by decide)).trans ((V6_ne V c _ (by decide)).trans (V5_cnt V c))
theorem V7_first : V7 V c (Proc.devRef .tc main_v2_4) = k0_pay8 (labCol V c) (labRow V c) :=
  (V7_keep V c _ (by decide)).trans ((V6_ne V c _ (by decide)).trans (V5_first V c))
theorem V7_v19 : V7 V c (Proc.devRef .tc main_v19) = labRow V c := by
  unfold labRow
  rw [← V5_arg1 V c, ← V6_ne V c main_arg1 (by decide)]
  unfold V7; after_results_simp; rfl
theorem V7_v22 : V7 V c (Proc.devRef .tc main_v22) = labCol V c := by
  unfold labCol
  rw [← V5_arg1 V c, ← V6_ne V c main_arg1 (by decide)]
  unfold V7; after_results_simp; rfl
theorem V7_v20 : V7 V c (Proc.devRef .tc main_v20) = (shapeCast S1x1024 (k0_pay6 (labCol V c) (labRow V c) : IVec S1024x1 32) shapeCasts_S1024x1_S1x1024) := by
  rw [← V5_occ, ← V6_ne V c main_v2_2 (by decide)]
  unfold V7; after_results_simp; rfl
theorem V7_v21 : V7 V c (Proc.devRef .tc main_v21) = (shapeCast S1x1024 (k0_pay7 (labCol V c) (labRow V c) : IVec S1024x1 32) shapeCasts_S1024x1_S1x1024) := by
  rw [← V5_cnt, ← V6_ne V c main_v2_3 (by decide)]
  unfold V7; after_results_simp; rfl

/-! ## The blocks of the last call -/

/-- The anchors of a point. -/
def anch (t : Fin cfg3.N) (r : Fin 256) : Fin 1024 := ⟨t.val * 256 + r.val, by have : t.val < 4 := t.isLt; omega⟩

theorem cBlk_1 (t : Fin cfg3.N) : cBlk (V7 V) c 1 t = (V7 V c (Proc.devRef .tc main_v2_0) : Vec Ideal S1024x512 .f32) :=
  (funext fun j => congrArg (V7 V c (Proc.devRef .tc main_v2_0)) (funext fun a => Fin.ext
    (Pipeline.Window.rect_emb_val_of_index_zero (cfg3.win 1) t a (by fin_cases a <;> rfl) j)))
theorem cBlk_2 (t : Fin cfg3.N) : cBlk (V7 V) c 2 t = (V7 V c (Proc.devRef .tc main_v13) : Vec Ideal S1024x512 .f32) :=
  (funext fun j => congrArg (V7 V c (Proc.devRef .tc main_v13)) (funext fun a => Fin.ext
    (Pipeline.Window.rect_emb_val_of_index_zero (cfg3.win 2) t a (by fin_cases a <;> rfl) j)))
theorem cBlk_4 (t : Fin cfg3.N) : cBlk (V7 V) c 4 t = (V7 V c (Proc.devRef .tc main_v19) : Vec Ideal S1x1024 .i32) :=
  (funext fun j => congrArg (V7 V c (Proc.devRef .tc main_v19)) (funext fun a => Fin.ext
    (Pipeline.Window.rect_emb_val_of_index_zero (cfg3.win 4) t a (by fin_cases a <;> rfl) j)))
theorem cBlk_5 (t : Fin cfg3.N) : cBlk (V7 V) c 5 t = (V7 V c (Proc.devRef .tc main_v20) : Vec Ideal S1x1024 .i32) :=
  (funext fun j => congrArg (V7 V c (Proc.devRef .tc main_v20)) (funext fun a => Fin.ext
    (Pipeline.Window.rect_emb_val_of_index_zero (cfg3.win 5) t a (by fin_cases a <;> rfl) j)))
theorem cBlk_6 (t : Fin cfg3.N) : cBlk (V7 V) c 6 t = (V7 V c (Proc.devRef .tc main_v21) : Vec Ideal S1x1024 .i32) :=
  (funext fun j => congrArg (V7 V c (Proc.devRef .tc main_v21)) (funext fun a => Fin.ext
    (Pipeline.Window.rect_emb_val_of_index_zero (cfg3.win 6) t a (by fin_cases a <;> rfl) j)))
theorem cBlk_0 (t : Fin cfg3.N) (r : Fin 256) (k : Fin 512) : cBlk (V7 V) c 0 t (ix2 r k) = (V7 V c (Proc.devRef .tc main_v2_0) : Vec Ideal S1024x512 .f32) (ix2 (anch t r) k) := by
  refine congrArg (V7 V c (Proc.devRef .tc main_v2_0)) (funext fun b => Fin.ext ?_)
  match b with
  | ⟨0, _⟩ =>
    refine (Pipeline.Window.rect_emb_val (cfg3.win 0) t _ _ rfl).trans ?_
    rw [show (cfg3.win 0).index t ⟨0, by decide⟩ = t.val from (by decide +kernel : ∀ t : Fin cfg3.N, (cfg3.win 0).index t ⟨0, by decide⟩ = t.val) t]
    rfl
  | ⟨1, _⟩ =>
    refine (Pipeline.Window.rect_emb_val (cfg3.win 0) t _ _ rfl).trans ?_
    rw [show (cfg3.win 0).index t ⟨1, by decide⟩ = 0 from (by decide +kernel : ∀ t : Fin cfg3.N, (cfg3.win 0).index t ⟨1, by decide⟩ = 0) t, Nat.zero_mul, Nat.zero_add]
    rfl
theorem cBlk_3 (t : Fin cfg3.N) (r : Fin 256) (k : Fin 1) : cBlk (V7 V) c 3 t (ix2 r k) = (V7 V c (Proc.devRef .tc main_v22) : Vec Ideal S1024x1 .i32) (ix2 (anch t r) k) := by
  refine congrArg (V7 V c (Proc.devRef .tc main_v22)) (funext fun b => Fin.ext ?_)
  match b with
  | ⟨0, _⟩ =>
    refine (Pipeline.Window.rect_emb_val (cfg3.win 3) t _ _ rfl).trans ?_
    rw [show (cfg3.win 3).index t ⟨0, by decide⟩ = t.val from (by decide +kernel : ∀ t : Fin cfg3.N, (cfg3.win 3).index t ⟨0, by decide⟩ = t.val) t]
    rfl
  | ⟨1, _⟩ =>
    refine (Pipeline.Window.rect_emb_val (cfg3.win 3) t _ _ rfl).trans ?_
    rw [show (cfg3.win 3).index t ⟨1, by decide⟩ = 0 from (by decide +kernel : ∀ t : Fin cfg3.N, (cfg3.win 3).index t ⟨1, by decide⟩ = 0) t, Nat.zero_mul, Nat.zero_add]
    rfl
theorem cBlk_7 (t : Fin cfg3.N) (r : Fin 256) (k : Fin 1) : cBlk (V7 V) c 7 t (ix2 r k) = (V7 V c (Proc.devRef .tc main_v2_3) : Vec Ideal S1024x1 .i32) (ix2 (anch t r) k) := by
  refine congrArg (V7 V c (Proc.devRef .tc main_v2_3)) (funext fun b => Fin.ext ?_)
  match b with
  | ⟨0, _⟩ =>
    refine (Pipeline.Window.rect_emb_val (cfg3.win 7) t _ _ rfl).trans ?_
    rw [show (cfg3.win 7).index t ⟨0, by decide⟩ = t.val from (by decide +kernel : ∀ t : Fin cfg3.N, (cfg3.win 7).index t ⟨0, by decide⟩ = t.val) t]
    rfl
  | ⟨1, _⟩ =>
    refine (Pipeline.Window.rect_emb_val (cfg3.win 7) t _ _ rfl).trans ?_
    rw [show (cfg3.win 7).index t ⟨1, by decide⟩ = 0 from (by decide +kernel : ∀ t : Fin cfg3.N, (cfg3.win 7).index t ⟨1, by decide⟩ = 0) t, Nat.zero_mul, Nat.zero_add]
    rfl
theorem cBlk_8 (t : Fin cfg3.N) (r : Fin 256) (k : Fin 1) : cBlk (V7 V) c 8 t (ix2 r k) = (V7 V c (Proc.devRef .tc main_v2_4) : Vec Ideal S1024x1 .i32) (ix2 (anch t r) k) := by
  refine congrArg (V7 V c (Proc.devRef .tc main_v2_4)) (funext fun b => Fin.ext ?_)
  match b with
  | ⟨0, _⟩ =>
    refine (Pipeline.Window.rect_emb_val (cfg3.win 8) t _ _ rfl).trans ?_
    rw [show (cfg3.win 8).index t ⟨0, by decide⟩ = t.val from (by decide +kernel : ∀ t : Fin cfg3.N, (cfg3.win 8).index t ⟨0, by decide⟩ = t.val) t]
    rfl
  | ⟨1, _⟩ =>
    refine (Pipeline.Window.rect_emb_val (cfg3.win 8) t _ _ rfl).trans ?_
    rw [show (cfg3.win 8).index t ⟨1, by decide⟩ = 0 from (by decide +kernel : ∀ t : Fin cfg3.N, (cfg3.win 8).index t ⟨1, by decide⟩ = 0) t, Nat.zero_mul, Nat.zero_add]
    rfl
theorem cBlk_9 (t : Fin cfg3.N) (r : Fin 256) (k : Fin 1) : cBlk (V7 V) c 9 t (ix2 r k) = (V7 V c (Proc.devRef .tc main_v18_0) : Vec Ideal S1024x1 .f32) (ix2 (anch t r) k) := by
  refine congrArg (V7 V c (Proc.devRef .tc main_v18_0)) (funext fun b => Fin.ext ?_)
  match b with
  | ⟨0, _⟩ =>
    refine (Pipeline.Window.rect_emb_val (cfg3.win 9) t _ _ rfl).trans ?_
    rw [show (cfg3.win 9).index t ⟨0, by decide⟩ = t.val from (by decide +kernel : ∀ t : Fin cfg3.N, (cfg3.win 9).index t ⟨0, by decide⟩ = t.val) t]
    rfl
  | ⟨1, _⟩ =>
    refine (Pipeline.Window.rect_emb_val (cfg3.win 9) t _ _ rfl).trans ?_
    rw [show (cfg3.win 9).index t ⟨1, by decide⟩ = 0 from (by decide +kernel : ∀ t : Fin cfg3.N, (cfg3.win 9).index t ⟨1, by decide⟩ = 0) t, Nat.zero_mul, Nat.zero_add]
    rfl
theorem cBlk_10 (t : Fin cfg3.N) (r : Fin 256) (k : Fin 1) : cBlk (V7 V) c 10 t (ix2 r k) = (V7 V c (Proc.devRef .tc main_v18_1) : Vec Ideal S1024x1 .f32) (ix2 (anch t r) k) := by
  refine congrArg (V7 V c (Proc.devRef .tc main_v18_1)) (funext fun b => Fin.ext ?_)
  match b with
  | ⟨0, _⟩ =>
    refine (Pipeline.Window.rect_emb_val (cfg3.win 10) t _ _ rfl).trans ?_
    rw [show (cfg3.win 10).index t ⟨0, by decide⟩ = t.val from (by decide +kernel : ∀ t : Fin cfg3.N, (cfg3.win 10).index t ⟨0, by decide⟩ = t.val) t]
    rfl
  | ⟨1, _⟩ =>
    refine (Pipeline.Window.rect_emb_val (cfg3.win 10) t _ _ rfl).trans ?_
    rw [show (cfg3.win 10).index t ⟨1, by decide⟩ = 0 from (by decide +kernel : ∀ t : Fin cfg3.N, (cfg3.win 10).index t ⟨1, by decide⟩ = 0) t, Nat.zero_mul, Nat.zero_add]
    rfl
theorem cBlk_11 (t : Fin cfg3.N) (r : Fin 256) (k : Fin 1) : cBlk (V7 V) c 11 t (ix2 r k) = (V7 V c (Proc.devRef .tc main_v18_2) : Vec Ideal S1024x1 .f32) (ix2 (anch t r) k) := by
  refine congrArg (V7 V c (Proc.devRef .tc main_v18_2)) (funext fun b => Fin.ext ?_)
  match b with
  | ⟨0, _⟩ =>
    refine (Pipeline.Window.rect_emb_val (cfg3.win 11) t _ _ rfl).trans ?_
    rw [show (cfg3.win 11).index t ⟨0, by decide⟩ = t.val from (by decide +kernel : ∀ t : Fin cfg3.N, (cfg3.win 11).index t ⟨0, by decide⟩ = t.val) t]
    rfl
  | ⟨1, _⟩ =>
    refine (Pipeline.Window.rect_emb_val (cfg3.win 11) t _ _ rfl).trans ?_
    rw [show (cfg3.win 11).index t ⟨1, by decide⟩ = 0 from (by decide +kernel : ∀ t : Fin cfg3.N, (cfg3.win 11).index t ⟨1, by decide⟩ = 0) t, Nat.zero_mul, Nat.zero_add]
    rfl
theorem cBlk_12 (t : Fin cfg3.N) (r : Fin 256) (k : Fin 1) : cBlk (V7 V) c 12 t (ix2 r k) = (V7 V c (Proc.devRef .tc main_v18_3) : Vec Ideal S1024x1 .f32) (ix2 (anch t r) k) := by
  refine congrArg (V7 V c (Proc.devRef .tc main_v18_3)) (funext fun b => Fin.ext ?_)
  match b with
  | ⟨0, _⟩ =>
    refine (Pipeline.Window.rect_emb_val (cfg3.win 12) t _ _ rfl).trans ?_
    rw [show (cfg3.win 12).index t ⟨0, by decide⟩ = t.val from (by decide +kernel : ∀ t : Fin cfg3.N, (cfg3.win 12).index t ⟨0, by decide⟩ = t.val) t]
    rfl
  | ⟨1, _⟩ =>
    refine (Pipeline.Window.rect_emb_val (cfg3.win 12) t _ _ rfl).trans ?_
    rw [show (cfg3.win 12).index t ⟨1, by decide⟩ = 0 from (by decide +kernel : ∀ t : Fin cfg3.N, (cfg3.win 12).index t ⟨1, by decide⟩ = 0) t, Nat.zero_mul, Nat.zero_add]
    rfl

theorem flat_apply (g : FVec Ideal S4096x128 .f32) (j : Fin 1024) (k : Fin 512) :
    shapeCast S1024x512 g shapeCasts_S4096x128_S1024x512 (ix2 j k) = g (ix2 ⟨j * 4 + k / 128, by omega⟩ ⟨k % 128, by omega⟩) := by
  pointwise

theorem RealIn.comb {f : Fin 1024 → Fin 512 → ℝ} {bk : Fin 1000 → Fin 200 → Fin 512 → ℝ} (h : RealIn V c f bk) (t : Fin cfg3.N) :
    CombIn (labOf (xLab V c)) (h.hl c) f bk (anch t) (cBlk (V7 V) c 0 t) (cBlk (V7 V) c 1 t) (cBlk (V7 V) c 2 t) (cBlk (V7 V) c 3 t) (cBlk (V7 V) c 4 t) (cBlk (V7 V) c 5 t) (cBlk (V7 V) c 6 t) (cBlk (V7 V) c 7 t) (cBlk (V7 V) c 8 t) (cBlk (V7 V) c 9 t) (cBlk (V7 V) c 10 t) (cBlk (V7 V) c 11 t) (cBlk (V7 V) c 12 t) where
  h0 r k := by rw [cBlk_0, V7_f]; exact h.hf _ k
  h1 j k := by rw [cBlk_1, V7_f]; exact h.hf j k
  h2 j k := by
    rw [cBlk_2, V7_v13, flat_apply, g_apply V h.hl c, ← h.hb]
    refine congrArg (V c (Proc.devRef .tc main_arg2)) (funext fun b => Fin.ext ?_)
    have e : (⟨((⟨j * 4 + k / 128, by omega⟩ : Fin 4096) : ℕ) / 4, by omega⟩ : Fin 1024) = j := Fin.ext (by show (j * 4 + k / 128 : ℕ) / 4 = j; omega)
    match b with
    | ⟨0, _⟩ => exact congrArg (fun q => (labOf (xLab V c) q).toNat) e
    | ⟨1, _⟩ => exact congrArg (fun q => occN (labOf (xLab V c)) q % 200) e
    | ⟨2, _⟩ => show ((j * 4 + k / 128 : ℕ) % 4) * 128 + k % 128 = k; omega
  h3 r := by rw [cBlk_3, V7_v22]; pointwise
  h4 j := by rw [cBlk_4, V7_v19]; pointwise
  h5 j := by rw [cBlk_5, V7_v20, ← occ_apply (F := Ideal)]; pointwise
  h6 j := by rw [cBlk_6, V7_v21, ← cnt_apply (F := Ideal)]; pointwise
  h7 r := by rw [cBlk_7, V7_cnt]; exact cnt_apply _ _
  h8 r := by rw [cBlk_8, V7_first]; exact first_apply _ _
  h9 r := by rw [cBlk_9]; exact h.v18_0 _
  h10 r := by rw [cBlk_10]; exact h.v18_1 _
  h11 r := by rw [cBlk_11]; exact h.v18_2 _
  h12 r := by rw [cBlk_12]; exact h.v18_3 _

/-! ## The result -/

def c0' : Fin cfg3.N := ⟨0, by decide⟩
def c1' : Fin cfg3.N := ⟨1, by decide⟩
def c2' : Fin cfg3.N := ⟨2, by decide⟩
def c3' : Fin cfg3.N := ⟨3, by decide⟩

/-- The kernel's result: the mean of the anchors' losses. -/
theorem RealIn.result {f : Fin 1024 → Fin 512 → ℝ} {bk : Fin 1000 → Fin 200 → Fin 512 → ℝ} (h : RealIn V c f bk) :
    (V9 V c (Proc.devRef .tc main_v24) : FVec Ideal S_ .f32) ix0 = (((∑ i : Fin 1024, lossK (labOf (xLab V c)) (h.hl c) f bk i) * (1 / 1024) : ℝ) : EReal) := by
  have e24 : (V9 V c (Proc.devRef .tc main_v24) : FVec Ideal S_ .f32) = shapeCast S_ (V8 V c (Proc.devRef .tc main_v23) : FVec Ideal S1x1 .f32) shapeCasts_S1x1_S_ := by
    unfold V9; after_results_simp; rfl
  have e23 : V8 V c (Proc.devRef .tc main_v23) = cAt (V7 V) c 3 c3'.isLt :=
    (V8_v23 V c).trans ((cDat (V7 V) c).arrAt_eq_of_after_last 13 c3' (by decide +kernel) _ fun j => by rw [cAfter_13]; blk_simp; rfl)
  have a0 : cAt (V7 V) c 0 c0'.isLt (ix2 0 0) = _ := (congrFun (cAt_first (V7 V) c c0' rfl) (ix2 0 0)).trans (h.comb c0').first
  have a1 : cAt (V7 V) c 1 c1'.isLt (ix2 0 0) = _ := (congrFun (cAt_next (V7 V) c c1' (by decide) (by decide)) (ix2 0 0)).trans
    ((cNext_apply _ _ _ _ _ _ _ _ _ _ _ _ _ _).trans (congrArg₂ (· + ·) a0 (h.comb c1').first))
  have a2 : cAt (V7 V) c 2 c2'.isLt (ix2 0 0) = _ := (congrFun (cAt_next (V7 V) c c2' (by decide) (by decide)) (ix2 0 0)).trans
    ((cNext_apply _ _ _ _ _ _ _ _ _ _ _ _ _ _).trans (congrArg₂ (· + ·) a1 (h.comb c2').first))
  have a3 : cAt (V7 V) c 3 c3'.isLt (ix2 0 0) = _ := (congrFun (cAt_last (V7 V) c c3' rfl) (ix2 0 0)).trans
    ((k3_pay3_apply _).trans (congrArg (· * ((1 / 1024 : ℝ) : EReal)) ((cNext_apply _ _ _ _ _ _ _ _ _ _ _ _ _ _).trans (congrArg₂ (· + ·) a2 (h.comb c3').first))))
  rw [e24, e23]
  refine Eq.trans (b := cAt (V7 V) c 3 c3'.isLt (ix2 0 0)) (by generalize cAt (V7 V) c 3 c3'.isLt = v; pointwise) (a3.trans ?_)
  rw [← EReal.coe_add, ← EReal.coe_add, ← EReal.coe_add, ← EReal.coe_mul, sum_rows (A := 4) (B := 256) (N := 1024) rfl]
  rw [Fin.sum_univ_four]
  rfl

end Cert.Proof
end
-- ==== Proof.RefScatter.lean ====
/-
  The reference's write of the batch into the memory bank: which update lands at an element, and the written bank as real numbers.
-/
module

public import proofs.«01_k».proof.Proof.KerAll
public import proofs.«01_k».proof.Proof.Gen.ReferenceIdeal.Run
public import Idealize.ShloMosaic.Lib.Routing.OpsSet
public import Idealize.ShloMosaic.Lib.Tactic.CleanTypes

@[expose] public section
set_option maxRecDepth 16384
noncomputable section
namespace Cert.Proof
open Idealize.ShloMosaic
open Cert.ReferenceIdeal Cert.ReferenceIdeal.Value in
abbrev scD : ScatterDims S1000x200x512 S1024x2 S1024x512 := scatter_S1000x200x512_S1024x2_S1024x512_1_01_01_1

/-! ## Where an update lands -/

section
variable (idx : IVec Cert.ReferenceIdeal.S1024x2 32) (j : Fin 1024) (k : Fin 512)
theorem win0 : scD.window (ix2 j k) 0 = 0 := rfl
theorem win1 : scD.window (ix2 j k) 1 = 0 := rfl
theorem win2 : scD.window (ix2 j k) 2 = k.val := rfl
theorem start2 : scD.start (ix2 j k) idx 2 = 0 := rfl
theorem si0 (q) (hq : q.val = 0) : scD.siIdx (ix2 j k) q = ix2 j 0 := by
  funext b
  match b with
  | ⟨0, _⟩ => rfl
  | ⟨1, _⟩ => exact Fin.ext hq
theorem si1 (q) (hq : q.val = 1) : scD.siIdx (ix2 j k) q = ix2 j 1 := by
  funext b
  match b with
  | ⟨0, _⟩ => rfl
  | ⟨1, _⟩ => exact Fin.ext hq
theorem start0 : scD.start (ix2 j k) idx 0 = (idx (ix2 j 0)).toInt := by
  unfold ScatterDims.start
  rw [dif_pos (by decide), si0 _ _ _ rfl]
theorem start1 : scD.start (ix2 j k) idx 1 = (idx (ix2 j 1)).toInt := by
  unfold ScatterDims.start
  rw [dif_pos (by decide), si1 _ _ _ rfl]

theorem lands (c : Fin 1000) (s : Fin 200) (l : Fin 512) : scD.resultIdx? (ix2 j k) idx = some (ix3 c s l)
    ↔ ((idx (ix2 j 0)).toInt = (c.val : Int) ∧ (idx (ix2 j 1)).toInt = (s.val : Int)) ∧ k = l := by
  rw [Idealize.ShloMosaic.Routing.resultIdx?_eq_some]
  constructor
  · intro h
    have h0 := h 0
    have h1 := h 1
    have h2 := h 2
    rw [start0, win0] at h0
    rw [start1, win1] at h1
    rw [start2, win2] at h2
    refine ⟨⟨?_, ?_⟩, Fin.ext ?_⟩
    · exact (add_zero _).symm.trans h0
    · exact (add_zero _).symm.trans h1
    · exact Int.ofNat.inj ((zero_add _).symm.trans h2)
  · rintro ⟨⟨h0, h1⟩, rfl⟩ a
    match a with
    | ⟨0, _⟩ => exact (congrArg₂ (· + ·) (start0 idx j k) (congrArg Nat.cast (win0 j k))).trans ((add_zero _).trans h0)
    | ⟨1, _⟩ => exact (congrArg₂ (· + ·) (start1 idx j k) (congrArg Nat.cast (win1 j k))).trans ((add_zero _).trans h1)
    | ⟨2, _⟩ => exact (congrArg₂ (· + ·) (start2 idx j k) (congrArg Nat.cast (win2 j k))).trans (zero_add _)
end

/-! ## The last writer's update stays -/

theorem foldl_noop {α : Type} {N : ℕ} (hit : Fin N → Prop) [DecidablePred hit] (val : Fin N → α) : ∀ (l : List (Fin N)) (a : α), (∀ n ∈ l, ¬ hit n) →
    l.foldl (fun a n => if hit n then val n else a) a = a
  | [], _, _ => rfl
  | n :: l, a, h => by
    rw [List.foldl_cons, if_neg (h n List.mem_cons_self)]
    exact foldl_noop hit val l a fun m hm => h m (List.mem_cons_of_mem _ hm)

theorem foldl_last {α : Type} {N : ℕ} (hit : Fin N → Prop) [DecidablePred hit] (val : Fin N → α) (a : α) (n : Fin N) (hn : hit n) (hl : ∀ m, n < m → ¬ hit m) :
    (List.finRange N).foldl (fun a n => if hit n then val n else a) a = val n := by
  obtain ⟨l1, l2, e⟩ := List.append_of_mem (List.mem_finRange n)
  have hp : (l1 ++ n :: l2).Pairwise (· < ·) := e ▸ List.pairwise_lt_finRange N
  rw [e, List.foldl_append, List.foldl_cons, if_pos hn]
  refine foldl_noop hit val l2 _ fun m hm => hl m ?_
  exact (List.pairwise_cons.mp (List.pairwise_append.mp hp).2.1).1 m hm

section
open Cert.ReferenceIdeal
variable {α : Type} (x0 : S1000x200x512.Idx → α) (idx : IVec S1024x2 32) (upd : S1024x512.Idx → α)

theorem scat_hit (j : Fin 1024) (c : Fin 1000) (s : Fin 200) (l : Fin 512)
    (hj : (idx (ix2 j 0)).toInt = (c.val : Int) ∧ (idx (ix2 j 1)).toInt = (s.val : Int))
    (hlast : ∀ j', j < j' → ¬((idx (ix2 j' 0)).toInt = (c.val : Int) ∧ (idx (ix2 j' 1)).toInt = (s.val : Int))) :
    Host.scatter scD (fun _ b => b) x0 idx upd (ix3 c s l) = upd (ix2 j l) := by
  rw [Idealize.ShloMosaic.Routing.scatter_at]
  refine (foldl_last (fun n => scD.resultIdx? (S1024x512.rowMajor.symm n) idx = some (ix3 c s l)) (fun n => upd (S1024x512.rowMajor.symm n)) _
    (S1024x512.rowMajor (ix2 j l)) ?_ ?_).trans ?_
  · rw [Equiv.symm_apply_apply]
    exact (lands idx j l c s l).mpr ⟨hj, rfl⟩
  · intro m hm hh
    obtain ⟨y, rfl⟩ := S1024x512.rowMajor.surjective m
    rw [Equiv.symm_apply_apply] at hh
    obtain ⟨j', l', rfl⟩ : ∃ (j' : Fin 1024) (l' : Fin 512), y = ix2 j' l' := ⟨y 0, y 1, eq_ix2 y⟩
    obtain ⟨h1, rfl⟩ := (lands idx j' l' c s l).mp hh
    refine hlast j' ?_ h1
    have hv : (S1024x512.rowMajor (ix2 j l')).val < (S1024x512.rowMajor (ix2 j' l')).val := hm
    rw [Shape.rowMajor_val_two, Shape.rowMajor_val_two] at hv
    have hv' : j.val * 512 + l'.val < j'.val * 512 + l'.val := hv
    exact Fin.lt_def.mpr (by omega)
  · show upd (S1024x512.rowMajor.symm (S1024x512.rowMajor (ix2 j l))) = _
    rw [Equiv.symm_apply_apply]

theorem scat_miss (c : Fin 1000) (s : Fin 200) (l : Fin 512)
    (h : ∀ j, ¬((idx (ix2 j 0)).toInt = (c.val : Int) ∧ (idx (ix2 j 1)).toInt = (s.val : Int))) :
    Host.scatter scD (fun _ b => b) x0 idx upd (ix3 c s l) = x0 (ix3 c s l) :=
  Idealize.ShloMosaic.Routing.scatter_set_miss _ _ _ _ _ fun y hy => by
    obtain ⟨j', l', rfl⟩ : ∃ (j' : Fin 1024) (l' : Fin 512), y = ix2 j' l' := ⟨y 0, y 1, eq_ix2 y⟩
    exact h j' ((lands idx j' l' c s l).mp hy).1
end

/-! ## The reference's words -/

section
open Cert.ReferenceIdeal Cert.ReferenceIdeal.Value Cert.ReferenceIdeal.Facts₀
variable {F : FTy → Type} [FloatOps F] (W : Valuation τ sig (Elt F))

/-- The labels. -/
abbrev rLab : Fin 1024 → BitVec 32 := labOf (W (Proc.devRef .tc main_arg1) : IVec S1024 32)

/-- Strictly earlier, as the reference compares. -/
theorem before_zero (x : ℕ) (hx : x < 2147483648) : IntOp.cmpi .sge (4294967295#32) (BitVec.ofNat 32 x) = 0#1 := by
  have e1 : (4294967295#32 : BitVec 32).toInt = -1 := by decide
  simp only [IntOp.cmpi, BitVec.sle_eq_decide, toInt_ofNat_small hx, e1]
  rw [decide_eq_false (by omega)]
  rfl
theorem before_succ (n : ℕ) (hn : n < 1024) : IntOp.addi (BitVec.ofNat 32 (n + 1)) 4294967295#32 = BitVec.ofNat 32 n := by
  show BitVec.ofNat 32 (n + 1) + 4294967295#32 = _
  rw [← BitVec.ofNat_add]
  apply BitVec.eq_of_toNat_eq
  rw [BitVec.toNat_ofNat, BitVec.toNat_ofNat, show n + 1 + 4294967295 = n + 2 ^ 32 by ring, Nat.add_mod_right]
theorem before_bit (i x : Fin 1024) : IntOp.cmpi .sge (IntOp.addi (BitVec.ofNat 32 i.val) 4294967295#32) (BitVec.ofNat 32 x.val) = BitVec.ofBool (decide (x < i)) := by
  by_cases h : i.val = 0
  · rw [h, show IntOp.addi (BitVec.ofNat 32 0) 4294967295#32 = 4294967295#32 by decide, before_zero _ (by omega), decide_eq_false (by rw [Fin.lt_def]; omega)]
    rfl
  · obtain ⟨n, hn⟩ : ∃ n, i.val = n + 1 := ⟨i.val - 1, by omega⟩
    rw [hn, before_succ n (by omega), sge_small (by omega) (by omega)]
    exact bit_inj _ _ (by rw [Fin.lt_def]; omega)

/-- The reference's count of earlier occurrences, -/
theorem v12_apply (i : Fin 1024) : (res_main_v12 W : IVec S1024 32) (ix1 i) = BitVec.ofNat 32 (occN (rLab W) i) := by
  unfold res_main_v12 res_main_v9
  clean_types
  pointwise
  refine (Finset.fold_congr fun x _ => ?_).trans (fold_count _ fun x => rLab W i = rLab W x ∧ x < i)
  rw [before_bit, cmpi_eq_bit, select_bit]
  by_cases h1 : x < i <;> by_cases h2 : rLab W i = rLab W x <;> simp [h1, h2]

def modM : BitVec 32 := Scalar.select (IntOp.cmpi .eq 200#32 0#32) 1#32 200#32
def modR (r : BitVec 32) : BitVec 32 :=
  Scalar.select (IntOp.andi (IntOp.cmpi .ne (IntOp.cmpi .slt r 0#32) (IntOp.cmpi .slt modM 0#32)) (IntOp.cmpi .ne r 0#32)) (IntOp.addi r modM) r
theorem modR_eq : ∀ q : Fin 200, modR (BitVec.ofNat 32 q.val) = BitVec.ofNat 32 q.val := by decide +kernel

/-- and its slot. -/
theorem v13_apply (i : Fin 1024) : (res_main_v13 W : IVec S1024 32) (ix1 i) = BitVec.ofNat 32 (slotN (rLab W) i).val := by
  refine Eq.trans (b := modR (IntOp.remsi .host ((res_main_v12 W : IVec S1024 32) (ix1 i)) modM)) ?_ ?_
  · unfold res_main_v13 res_main_call2_v4 res_main_call2_v2 res_main_call2_v0
    generalize res_main_v12 W = v
    clean_types
    pointwise
    rfl
  · rw [v12_apply, show modM = 200#32 from by decide, remsi_small .host (by have := occN_lt (rLab W) i; omega)]
    exact modR_eq (slotN (rLab W) i)

/-- The words that say where each anchor's row goes. -/
def refIdx : IVec S1024x2 32 := (concatenate S1024x2 1 [⟨S1024x1, (broadcastInDim S1024x1 ![0] bcast_S1024_S1024x1_0 (select (cmpi .slt (W (Proc.devRef .tc main_arg1)) (broadcastInDim S1024 ![] bcast_S_S1024 (constantI S_ 32 0#32))) (addi (W (Proc.devRef .tc main_arg1)) (broadcastInDim S1024 ![] bcast_S_S1024 (constantI S_ 32 1000#32))) (W (Proc.devRef .tc main_arg1))))⟩, ⟨S1024x1, (broadcastInDim S1024x1 ![0] bcast_S1024_S1024x1_0 (select (cmpi .slt (res_main_v13 W) (broadcastInDim S1024 ![] bcast_S_S1024 (constantI S_ 32 0#32))) (addi (res_main_v13 W) (broadcastInDim S1024 ![] bcast_S_S1024 (constantI S_ 32 200#32))) (res_main_v13 W)))⟩] concatenates_S1024x1_S1024x1_S1024x2_d1)
theorem v27_eq : res_main_v27 W = Host.scatter scD (fun _ b => b) (W (Proc.devRef .tc main_arg2)) (refIdx W) (res_main_v4 W) := rfl

theorem toInt_small {w : BitVec 32} (h : w.toNat < 2147483648) : w.toInt = (w.toNat : Int) := by
  rw [BitVec.toInt_eq_toNat_cond, if_pos (by omega)]

theorem refIdx_0 (hlab : ∀ j, (rLab W j).toNat < 1000) (j : Fin 1024) : (refIdx W (ix2 j 0)).toInt = ((rLab W j).toNat : Int) := by
  have e : refIdx W (ix2 j 0) = rLab W j := by
    refine Eq.trans ?_ (Idealize.ShloMosaic.Routing.wrap_of_lt (rLab W j) (IntOp.addi (rLab W j) 1000#32) ((hlab j).trans (by decide)))
    unfold refIdx
    clean_types
    pointwise
  rw [e, toInt_small ((hlab j).trans (by decide))]
theorem refIdx_1 (j : Fin 1024) : (refIdx W (ix2 j 1)).toInt = ((slotN (rLab W) j).val : Int) := by
  have hs : (BitVec.ofNat 32 (slotN (rLab W) j).val).toNat = (slotN (rLab W) j).val := by
    rw [BitVec.toNat_ofNat]; exact Nat.mod_eq_of_lt ((slotN (rLab W) j).isLt.trans (by decide))
  have e : refIdx W (ix2 j 1) = BitVec.ofNat 32 (slotN (rLab W) j).val := by
    rw [← v13_apply W j]
    have hv : ((res_main_v13 W : IVec S1024 32) (ix1 j)).toNat < 2 ^ 31 := by
      rw [v13_apply, hs]; exact (slotN (rLab W) j).isLt.trans (by decide)
    refine Eq.trans ?_ (Idealize.ShloMosaic.Routing.wrap_of_lt ((res_main_v13 W : IVec S1024 32) (ix1 j)) (IntOp.addi ((res_main_v13 W : IVec S1024 32) (ix1 j)) 200#32) hv)
    unfold refIdx
    clean_types
    pointwise
  rw [e, toInt_small (by rw [hs]; exact (slotN (rLab W) j).isLt.trans (by decide)), hs]
end

/-! ## The written bank -/

section
open Cert.ReferenceIdeal Cert.ReferenceIdeal.Value Cert.ReferenceIdeal.Facts₀

/-- The reference's inputs are real: the unit rows `f` and the memory bank `bk`. -/
structure RefIn (W : Valuation τ sig (Elt Ideal)) (f : Fin 1024 → Fin 512 → ℝ) (bk : Fin 1000 → Fin 200 → Fin 512 → ℝ) : Prop where
  hlab : ∀ j, (rLab W j).toNat < 1000
  hf : ∀ j k, (res_main_v4 W : FVec Ideal S1024x512 .f32) (ix2 j k) = ((f j k : ℝ) : EReal)
  hb : ∀ (q : Fin 1000) (s : Fin 200) (k : Fin 512), (W (Proc.devRef .tc main_arg2) : FVec Ideal S1000x200x512 .f32) (ix3 q s k) = ((bk q s k : ℝ) : EReal)

/-- The written bank's real numbers. -/
def newBank (W : Valuation τ sig (Elt Ideal)) (c : Fin 1000) (s : Fin 200) (k : Fin 512) : ℝ := EReal.toReal ((res_main_v27 W : FVec Ideal S1000x200x512 .f32) (ix3 c s k))

variable {W : Valuation τ sig (Elt Ideal)} {f : Fin 1024 → Fin 512 → ℝ} {bk : Fin 1000 → Fin 200 → Fin 512 → ℝ} (h : RefIn W f bk)
include h

theorem RefIn.v27_hit (j : Fin 1024) (hj : act (rLab W) j) (k : Fin 512) :
    (res_main_v27 W : FVec Ideal S1000x200x512 .f32) (ix3 (cls (rLab W) h.hlab j) (slotN (rLab W) j) k) = ((f j k : ℝ) : EReal) := by
  rw [v27_eq, ← h.hf]
  refine scat_hit _ (refIdx W) _ j _ _ k ⟨refIdx_0 W h.hlab j, refIdx_1 W j⟩ fun j' hlt hh => ?_
  rw [refIdx_0 W h.hlab, refIdx_1] at hh
  exact (act_iff _ j).mp hj j' hlt (BitVec.eq_of_toNat_eq (Int.ofNat.inj hh.1).symm) (Fin.ext (Int.ofNat.inj hh.2))

theorem RefIn.v27_miss (c : Fin 1000) (s : Fin 200) (hm : ∀ j, ¬((rLab W j).toNat = c.val ∧ slotN (rLab W) j = s)) (k : Fin 512) :
    (res_main_v27 W : FVec Ideal S1000x200x512 .f32) (ix3 c s k) = ((bk c s k : ℝ) : EReal) := by
  rw [v27_eq, ← h.hb]
  refine scat_miss _ (refIdx W) _ c s k fun j hh => hm j ?_
  rw [refIdx_0 W h.hlab, refIdx_1] at hh
  exact ⟨Int.ofNat.inj hh.1, Fin.ext (Int.ofNat.inj hh.2)⟩

theorem RefIn.v27_real (c : Fin 1000) (s : Fin 200) (k : Fin 512) : (res_main_v27 W : FVec Ideal S1000x200x512 .f32) (ix3 c s k) = ((newBank W c s k : ℝ) : EReal) := by
  unfold newBank
  by_cases hm : ∃ j, (rLab W j).toNat = c.val ∧ slotN (rLab W) j = s
  · obtain ⟨j, h1, h2⟩ := hm
    obtain ⟨j', ha, hl, hs⟩ := exists_act (rLab W) j
    have e := h.v27_hit j' ha k
    have ec : cls (rLab W) h.hlab j' = c := Fin.ext (by show (rLab W j').toNat = c.val; rw [← hl, h1])
    rw [ec, ← hs, h2] at e
    rw [e, EReal.toReal_coe]
  · rw [h.v27_miss c s (fun j hj => hm ⟨j, hj⟩) k, EReal.toReal_coe]

theorem RefIn.written : Written (rLab W) h.hlab f bk (newBank W) where
  hit j hj k := by unfold newBank; rw [h.v27_hit j hj k, EReal.toReal_coe]
  miss c s hm k := by unfold newBank; rw [h.v27_miss c s hm k, EReal.toReal_coe]
end

end Cert.Proof
end
-- ==== Proof.RefVal.lean ====
/-
  The reference's terms as real numbers, over the written bank.
-/
module

public import proofs.«01_k».proof.Proof.RefScatter

@[expose] public section
set_option maxRecDepth 16384
noncomputable section
namespace Cert.Proof
open Idealize.ShloMosaic
open Cert.ReferenceIdeal Cert.ReferenceIdeal.Value Cert.ReferenceIdeal.Facts₀

/-! ## Constants and scalars -/

theorem val_tau : Ideal.ofBits .f32 1032805417#32 = ((tau : ℝ) : EReal) := by
  simp [Ideal.ofBits, Ideal.ieee, -EReal.coe_mul, tau]; norm_num
theorem val_half : Ideal.ofBits .f32 1056964608#32 = ((1 / 2 : ℝ) : EReal) := by
  simp [Ideal.ofBits, Ideal.ieee, -EReal.coe_mul]; norm_num
theorem val_batch : Ideal.ofBits .f32 1149239296#32 = ((1024 : ℝ) : EReal) := by
  simp [Ideal.ofBits, Ideal.ieee, -EReal.coe_mul]; norm_num

theorem zero_fill : id (constant (F := Ideal) S_ .f32 0#32) ix0 = 0 := by
  show Ideal.ofBits .f32 0#32 = 0
  simp [Ideal.ofBits, Ideal.ieee]

theorem div_real (x y : ℝ) (h : y ≠ 0) : Ideal.div (x : EReal) (y : EReal) = ((x / y : ℝ) : EReal) := by
  rw [Ideal.div_coe h, ← EReal.coe_mul, mul_one_div]
theorem div_tau (x : ℝ) : Ideal.div (x : EReal) (Ideal.ofBits .f32 1032805417#32) = ((x * (1 / tau) : ℝ) : EReal) := by
  rw [val_tau, Ideal.div_coe tau_pos.ne', ← EReal.coe_mul]

/-- A count's word, read as a number. -/
theorem sitofp_small {n : ℕ} (h : n < 2147483648) : FloatOps.sitofp (F := Ideal) FTy.f32 (BitVec.ofNat 32 n) = ((n : ℝ) : EReal) := by
  show (((BitVec.ofNat 32 n).toInt : ℝ) : EReal) = _
  rw [toInt_ofNat_small h, Int.cast_natCast]
theorem maxsi_one {n : ℕ} (h : n < 2147483648) : IntOp.maxsi (BitVec.ofNat 32 n) 1#32 = BitVec.ofNat 32 (max n 1) := by
  have h1 : (1#32 : BitVec 32).toInt = 1 := by decide
  unfold IntOp.maxsi
  simp only [BitVec.slt_eq_decide, toInt_ofNat_small h, h1]
  by_cases hn : 1 < n
  · rw [if_pos (by simpa using hn), max_eq_left hn.le]
  · rw [if_neg (by simpa using hn), max_eq_right (by omega)]

/-! ## The gathered rows -/

abbrev gaD : GatherDims S1000x200x512 S1024x2 S1024x50x512 := gather_S1000x200x512_S1024x2_S1024x50x512_12_0_n_n_01_1_150512

section
variable (idx : IVec S1024x2 32) (i : Fin 1024) (a : Fin 50) (k : Fin 512)
theorem gsi0 (q) (hq : q.val = 0) : gaD.siIdx (ix3 i a k) q = ix2 i 0 := by
  funext b
  match b with
  | ⟨0, _⟩ => rfl
  | ⟨1, _⟩ => exact Fin.ext hq
theorem gsi1 (q) (hq : q.val = 1) : gaD.siIdx (ix3 i a k) q = ix2 i 1 := by
  funext b
  match b with
  | ⟨0, _⟩ => rfl
  | ⟨1, _⟩ => exact Fin.ext hq
theorem gstart0 : gaD.start (ix3 i a k) idx 0 = min (idx (ix2 i 0)).toInt.toNat 999 := by
  unfold GatherDims.start
  rw [dif_pos (by decide), gsi0 _ _ _ _ rfl]
  rfl
theorem gstart1 : gaD.start (ix3 i a k) idx 1 = min (idx (ix2 i 1)).toInt.toNat 150 := by
  unfold GatherDims.start
  rw [dif_pos (by decide), gsi1 _ _ _ _ rfl]
  rfl
theorem gather_at {α : Type} (x : S1000x200x512.Idx → α) (c : Fin 1000) (h0 : (idx (ix2 i 0)).toInt = (c.val : Int)) (h1 : (idx (ix2 i 1)).toInt = 0) :
    Host.gather gaD x idx (ix3 i a k) = x (ix3 c (a.castLE (by decide)) k) := by
  refine congrArg x (funext fun b => Fin.ext ?_)
  match b with
  | ⟨0, _⟩ =>
    refine (congrArg₂ (· + ·) (congrArg₂ (· + ·) (gstart0 idx i a k) (show gaD.batchCoord (ix3 i a k) 0 = 0 from rfl)) (show gaD.offCoord (ix3 i a k) 0 = 0 from rfl)).trans ?_
    rw [h0]
    show min (Int.toNat (c.val : Int)) 999 + 0 + 0 = c.val
    rw [Int.toNat_natCast]; omega
  | ⟨1, _⟩ =>
    refine (congrArg₂ (· + ·) (congrArg₂ (· + ·) (gstart1 idx i a k) (show gaD.batchCoord (ix3 i a k) 1 = 0 from rfl)) (show gaD.offCoord (ix3 i a k) 1 = a.val from rfl)).trans ?_
    rw [h1]
    show min (Int.toNat 0) 150 + 0 + a.val = a.val
    simp
  | ⟨2, _⟩ =>
    refine (congrArg₂ (· + ·) (congrArg₂ (· + ·) (show gaD.start (ix3 i a k) idx 2 = 0 from rfl) (show gaD.batchCoord (ix3 i a k) 2 = 0 from rfl)) (show gaD.offCoord (ix3 i a k) 2 = k.val from rfl)).trans ?_
    show 0 + 0 + k.val = k.val
    omega
end

/-! ## The terms -/

section
variable (W : Valuation τ sig (Elt Ideal))

def posTerm (m : IVec S1024x1024 1) (u : FVec Ideal S1024x512 .f32) : FVec Ideal S1024 .f32 := Host.reduceAdd (select m (Host.divf (Host.dotGeneral dot_S1024x512_S512x1024_S1024x1024_1_0_0_1_n_n none u (transpose S512x1024 [1, 0] u transposes_S1024x512_S512x1024_1_0)) (broadcastInDim S1024x1024 ![] bcast_S_S1024x1024 (constant S_ .f32 0x3D8F5C29#32))) (broadcastInDim S1024x1024 ![] bcast_S_S1024x1024 (id (constant S_ .f32 0x00000000#32)))) (constant S_ .f32 0x00000000#32) reducesTo_S1024x1024_S1024_d1 h_S_
def gatIdx : IVec S1024x2 32 := concatenate S1024x2 1 [⟨S1024x1, (broadcastInDim S1024x1 ![0] bcast_S1024_S1024x1_0 (select (cmpi .slt (W (Proc.devRef .tc main_arg1)) (broadcastInDim S1024 ![] bcast_S_S1024 (constantI S_ 32 0#32))) (addi (W (Proc.devRef .tc main_arg1)) (broadcastInDim S1024 ![] bcast_S_S1024 (constantI S_ 32 1000#32))) (W (Proc.devRef .tc main_arg1))))⟩, ⟨S1024x1, (broadcastInDim S1024x1 ![] bcast_S_S1024x1 (constantI S_ 32 0#32))⟩] concatenates_S1024x1_S1024x1_S1024x2_d1
def memTerm (u : FVec Ideal S1024x512 .f32) (g : FVec Ideal S1024x50x512 .f32) : FVec Ideal S1024 .f32 := (Host.reduceAdd (Host.divf (Host.dotGeneral dot_S1024x512_S1024x50x512_S1024x50_1_2_n_1_0_0 none u g) (broadcastInDim S1024x50 ![] bcast_S_S1024x50 (constant S_ .f32 0x3D8F5C29#32))) (constant S_ .f32 0x00000000#32) reducesTo_S1024x50_S1024_d1 h_S_)
def cntTerm (m : IVec S1024x1024 1) : IVec S1024 32 := (Host.reduce IntOp.addi (extui 32 m natLt_1_32) (constantI S_ 32 0#32) reducesTo_S1024x1024_S1024_d1 h_S_)
def colTerm (m : IVec S1024x20000 1) (z : FVec Ideal S1024x20000 .f32) : FVec Ideal S1024 .f32 := (Host.reduceAdd (select m z (broadcastInDim S1024x20000 ![] bcast_S_S1024x20000 (id (constant S_ .f32 0x00000000#32)))) (constant S_ .f32 0x00000000#32) reducesTo_S1024x20000_S1024_d1 h_S_)
def meanOf (p m : FVec Ideal S1024 .f32) (n nh : IVec S1024 32) (sh sv : FVec Ideal S1024 .f32) : FVec Ideal S_ .f32 :=
  Host.divf (Host.reduceAdd (addf (Host.divf (Host.negf (addf p m)) (sitofp .f32 (addi n (broadcastInDim S1024 ![] bcast_S_S1024 (constantI S_ 32 50#32))))) (select (cmpi .sgt nh (broadcastInDim S1024 ![] bcast_S_S1024 (constantI S_ 32 0#32))) (Host.divf sh (sitofp .f32 (maxsi nh (broadcastInDim S1024 ![] bcast_S_S1024 (constantI S_ 32 1#32))))) (Host.divf sv (broadcastInDim S1024 ![] bcast_S_S1024 (constant S_ .f32 0x469C1800#32))))) (constant S_ .f32 0x00000000#32) reducesTo_S1024_S_d0 h_S_) (constant S_ .f32 0x44800000#32)
/-- The reference's result. -/
def refOut : FVec Ideal S_ .f32 := meanOf (posTerm (res_main_v44 W) (res_main_v4 W)) (memTerm (res_main_v4 W) (Host.gather gaD (res_main_v27 W) (gatIdx W)))
  (cntTerm (res_main_v44 W)) (res_main_v90 W) (colTerm (res_main_v88 W) (res_main_v77 W)) (colTerm (res_main_v85 W) (res_main_v77 W))

theorem posTerm_apply (m u) (i : Fin 1024) : posTerm m u (ix1 i) = ∑ j : Fin 1024, Scalar.select (m (ix2 i j)) (Ideal.div (∑ k : Fin 512, u (ix2 i k) * u (ix2 j k)) (Ideal.ofBits .f32 1032805417#32)) 0 := by
  unfold posTerm
  clean_types
  pointwise
  rw [zero_fill]
theorem memTerm_apply (u g) (i : Fin 1024) : memTerm u g (ix1 i) = ∑ a : Fin 50, Ideal.div (∑ k : Fin 512, u (ix2 i k) * g (ix3 i a k)) (Ideal.ofBits .f32 1032805417#32) := by
  unfold memTerm
  clean_types
  pointwise
theorem cntTerm_apply (m) (i : Fin 1024) : cntTerm m (ix1 i) = Finset.fold IntOp.addi 0#32 (fun j : Fin 1024 => BitVec.setWidth 32 (m (ix2 i j))) Finset.univ := by
  unfold cntTerm
  clean_types
  pointwise
theorem colTerm_apply (m z) (i : Fin 1024) : colTerm m z (ix1 i) = ∑ x : Fin 20000, Scalar.select (m (ix2 i x)) (z (ix2 i x)) 0 := by
  unfold colTerm
  clean_types
  pointwise
  rw [zero_fill]
theorem meanOf_apply (p m n nh sh sv) : meanOf p m n nh sh sv ix0 = Ideal.div (∑ i : Fin 1024,
    (Ideal.div (-(p (ix1 i) + m (ix1 i))) (FloatOps.sitofp (F := Ideal) .f32 (IntOp.addi (n (ix1 i)) 50#32))
      + Scalar.select (IntOp.cmpi .sgt (nh (ix1 i)) 0#32) (Ideal.div (sh (ix1 i)) (FloatOps.sitofp (F := Ideal) .f32 (IntOp.maxsi (nh (ix1 i)) 1#32)))
        (Ideal.div (sv (ix1 i)) (Ideal.ofBits .f32 1184634880#32)))) (Ideal.ofBits .f32 1149239296#32) := by
  unfold meanOf
  clean_types
  pointwise
end

/-- A count of the places that the bits mark. -/
theorem fold_bits {n : ℕ} (w : Fin n → BitVec 1) (P : Fin n → Prop) [DecidablePred P] (hw : ∀ x, w x = BitVec.ofBool (decide (P x))) :
    Finset.fold IntOp.addi 0#32 (fun x => BitVec.setWidth 32 (w x)) Finset.univ = BitVec.ofNat 32 (Finset.univ.filter P).card := by
  refine (Finset.fold_congr fun x _ => ?_).trans (fold_count _ P)
  rw [hw, setWidth_bit]
theorem card_real {n : ℕ} (P : Fin n → Prop) [DecidablePred P] : (((Finset.univ.filter P).card : ℕ) : ℝ) = ∑ x, if P x then (1 : ℝ) else 0 :=
  (Finset.sum_boole _ _).symm
theorem card_small {n : ℕ} (P : Fin n → Prop) [DecidablePred P] : (Finset.univ.filter P).card ≤ n := by
  simpa using Finset.card_filter_le (Finset.univ : Finset (Fin n)) P

section
variable {W : Valuation τ sig (Elt Ideal)} {f : Fin 1024 → Fin 512 → ℝ} {bk : Fin 1000 → Fin 200 → Fin 512 → ℝ} (h : RefIn W f bk)

theorem v44_apply (i j : Fin 1024) : (res_main_v44 W : IVec S1024x1024 1) (ix2 i j) = BitVec.ofBool (decide (inc (rLab W) i j)) := by
  refine Eq.trans ?_ (inc_word (rLab W) i j)
  rw [← v12_apply W j]
  unfold res_main_v44 res_main_v9
  generalize res_main_v12 W = v
  clean_types
  pointwise
  refine congrArg₂ IntOp.andi (congrArg₂ IntOp.andi rfl (congrArg (fun q => IntOp.cmpi .sgt q 1#32) (fold_bits _ (fun x => rLab W i = rLab W x) fun x => cmpi_eq_bit _ _))) rfl

theorem v85_apply (i : Fin 1024) (x : Fin 20000) : (res_main_v85 W : IVec S1024x20000 1) (ix2 i x) = BitVec.ofBool (decide (x.val / 20 ≠ (rLab W i).toNat)) := by
  refine Eq.trans (b := IntOp.cmpi .ne (BitVec.ofNat 32 (x.val / 20)) (rLab W i)) ?_ ?_
  · unfold res_main_v85
    clean_types
    pointwise
  · rw [cmpi_ne_bit]
    have hx : (BitVec.ofNat 32 (x.val / 20)).toNat = x.val / 20 := by
      rw [BitVec.toNat_ofNat]; exact Nat.mod_eq_of_lt (by have := x.isLt; simp only [Nat.reducePow]; omega)
    refine bit_inj _ _ (not_congr ⟨fun e => ?_, fun e => ?_⟩)
    · rw [← e, hx]
    · exact BitVec.eq_of_toNat_eq (hx.trans e)

/-- A place among the 20000 rows of the bank that the reference compares with, as class and slot. -/
def rowC (x : Fin 20000) : Fin 1000 := ⟨x.val / 20, by have := x.isLt; omega⟩
def rowS (x : Fin 20000) : Fin 20 := ⟨x.val % 20, Nat.mod_lt _ (by decide)⟩
def simX (f : Fin 1024 → Fin 512 → ℝ) (bn : Fin 1000 → Fin 200 → Fin 512 → ℝ) (i : Fin 1024) (x : Fin 20000) : ℝ := sim f bn i (rowC x) ((rowS x).castLE (by decide))

/-- The sum over the places is the sum over classes and slots. -/
theorem rCol_eq (lab : Fin 1024 → BitVec 32) (bn : Fin 1000 → Fin 200 → Fin 512 → ℝ) (φ : ℝ → ℝ) (i : Fin 1024) :
    (∑ x : Fin 20000, if x.val / 20 ≠ (lab i).toNat then φ (simX f bn i x) else 0) = rCol lab f bn φ i := by
  rw [sum_rows (A := 1000) (B := 20) (by decide)]
  refine Finset.sum_congr rfl fun a _ => Finset.sum_congr rfl fun s _ => ?_
  have hs := s.isLt
  have e1 : (a.val * 20 + s.val) / 20 = a.val := by omega
  have e2 : (a.val * 20 + s.val) % 20 = s.val := by omega
  have ec : ∀ q, rowC ⟨a.val * 20 + s.val, q⟩ = a := fun q => Fin.ext e1
  have es : ∀ q, rowS ⟨a.val * 20 + s.val, q⟩ = s := fun q => Fin.ext e2
  unfold simX
  simp only [e1, ec, es]

include h
theorem RefIn.v77 (i : Fin 1024) (x : Fin 20000) : (res_main_v77 W : FVec Ideal S1024x20000 .f32) (ix2 i x) = ((simX f (newBank W) i x * (1 / tau) : ℝ) : EReal) := by
  have hd := dot_coe _ _ _ _ (h.hf i) (h.v27_real (rowC x) ((rowS x).castLE (by decide)))
  refine Eq.trans ?_ ((congrArg (fun q => Ideal.div q (Ideal.ofBits .f32 1032805417#32)) hd).trans (div_tau _))
  unfold res_main_v77
  generalize res_main_v27 W = v
  generalize res_main_v4 W = u
  clean_types
  pointwise
  rfl

theorem RefIn.v88 (i : Fin 1024) (x : Fin 20000) : (res_main_v88 W : IVec S1024x20000 1) (ix2 i x)
    = BitVec.ofBool (decide (x.val / 20 ≠ (rLab W i).toNat ∧ tau / 2 < simX f (newBank W) i x)) := by
  refine Eq.trans (b := IntOp.andi ((res_main_v85 W : IVec S1024x20000 1) (ix2 i x)) (BitVec.ofBool (decide (Ideal.ofBits .f32 1056964608#32 < (res_main_v77 W : FVec Ideal S1024x20000 .f32) (ix2 i x))))) ?_ ?_
  · unfold res_main_v88
    generalize res_main_v85 W = v
    generalize res_main_v77 W = u
    clean_types
    pointwise
  · rw [v85_apply, h.v77, val_half, andi_bit]
    refine bit_inj _ _ (and_congr_right fun _ => ?_)
    rw [EReal.coe_lt_coe_iff, mul_one_div, lt_div_iff₀ tau_pos, div_mul_eq_mul_div, one_mul]

theorem RefIn.pos (i : Fin 1024) : posTerm (res_main_v44 W) (res_main_v4 W) (ix1 i) = ((posSum (rLab W) f i * (1 / tau) : ℝ) : EReal) := by
  rw [posTerm_apply]
  refine (sum_select _ (fun j => inc (rLab W) i j) _ (fun j => prd f i j * (1 / tau)) (fun j => v44_apply i j) fun j => ?_).trans (congrArg _ ?_)
  · exact (congrArg (fun q => Ideal.div q (Ideal.ofBits .f32 1032805417#32)) (dot_coe _ _ _ _ (h.hf i) (h.hf j))).trans (div_tau _)
  · unfold posSum
    rw [Finset.sum_mul]
    refine Finset.sum_congr rfl fun j _ => ?_
    rw [ite_mul, zero_mul]

theorem RefIn.gath (i : Fin 1024) (a : Fin 50) (k : Fin 512) : Host.gather gaD (res_main_v27 W : FVec Ideal S1000x200x512 .f32) (gatIdx W) (ix3 i a k)
    = ((newBank W (cls (rLab W) h.hlab i) (a.castLE (by decide)) k : ℝ) : EReal) := by
  refine (gather_at (gatIdx W) i a k (res_main_v27 W : FVec Ideal S1000x200x512 .f32) (cls (rLab W) h.hlab i) ?_ ?_).trans (h.v27_real _ _ k)
  · have e : gatIdx W (ix2 i 0) = rLab W i := by
      refine Eq.trans ?_ (Idealize.ShloMosaic.Routing.wrap_of_lt (rLab W i) (IntOp.addi (rLab W i) 1000#32) ((h.hlab i).trans (by decide)))
      unfold gatIdx
      clean_types
      pointwise
    rw [e, toInt_small ((h.hlab i).trans (by decide))]
  · have e : gatIdx W (ix2 i 1) = 0#32 := by
      unfold gatIdx
      clean_types
      pointwise
    rw [e]
    rfl

theorem RefIn.mem (i : Fin 1024) : memTerm (res_main_v4 W) (Host.gather gaD (res_main_v27 W) (gatIdx W)) (ix1 i)
    = ((rMem (rLab W) h.hlab f (newBank W) i * (1 / tau) : ℝ) : EReal) := by
  rw [memTerm_apply]
  unfold rMem
  rw [Finset.sum_mul, ← coe_sum]
  refine Finset.sum_congr rfl fun a _ => ?_
  exact (congrArg (fun q => Ideal.div q (Ideal.ofBits .f32 1032805417#32)) (dot_coe _ _ _ _ (h.hf i) (h.gath i a))).trans (div_tau _)

omit h in
theorem rcnt_apply (i : Fin 1024) : cntTerm (res_main_v44 W) (ix1 i) = BitVec.ofNat 32 (Finset.univ.filter fun j => inc (rLab W) i j).card := by
  rw [cntTerm_apply]
  exact fold_bits _ _ fun j => v44_apply i j

theorem RefIn.v90 (i : Fin 1024) : (res_main_v90 W : IVec S1024 32) (ix1 i)
    = BitVec.ofNat 32 (Finset.univ.filter fun x : Fin 20000 => x.val / 20 ≠ (rLab W i).toNat ∧ tau / 2 < simX f (newBank W) i x).card := by
  refine Eq.trans ?_ (fold_bits _ _ fun x => h.v88 i x)
  unfold res_main_v90
  generalize res_main_v88 W = v
  clean_types
  pointwise

theorem RefIn.sv (i : Fin 1024) : colTerm (res_main_v85 W) (res_main_v77 W) (ix1 i) = ((rCol (rLab W) f (newBank W) id i * (1 / tau) : ℝ) : EReal) := by
  rw [colTerm_apply, ← rCol_eq, Finset.sum_mul]
  refine (sum_select _ _ _ _ (fun x => v85_apply i x) (fun x => h.v77 i x)).trans (congrArg _ (Finset.sum_congr rfl fun x _ => ?_))
  rw [ite_mul, zero_mul]
  rfl

theorem RefIn.sh (i : Fin 1024) : colTerm (res_main_v88 W) (res_main_v77 W) (ix1 i) = ((rCol (rLab W) f (newBank W) phiH i * (1 / tau) : ℝ) : EReal) := by
  rw [colTerm_apply, ← rCol_eq, Finset.sum_mul]
  refine (sum_select _ _ _ _ (fun x => h.v88 i x) (fun x => h.v77 i x)).trans (congrArg _ (Finset.sum_congr rfl fun x _ => ?_))
  unfold phiH
  by_cases h1 : x.val / 20 ≠ (rLab W i).toNat <;> by_cases h2 : tau / 2 < simX f (newBank W) i x <;> simp [h1, h2]

theorem RefIn.nh (i : Fin 1024) : (((Finset.univ.filter fun x : Fin 20000 => x.val / 20 ≠ (rLab W i).toNat ∧ tau / 2 < simX f (newBank W) i x).card : ℕ) : ℝ)
    = rCol (rLab W) f (newBank W) phiN i := by
  rw [card_real, ← rCol_eq]
  refine Finset.sum_congr rfl fun x _ => ?_
  unfold phiN
  by_cases h1 : x.val / 20 ≠ (rLab W i).toNat <;> by_cases h2 : tau / 2 < simX f (newBank W) i x <;> simp [h1, h2]
omit h

/-- An anchor's loss, from its sums and counts. -/
theorem loss_apply (ps mem sv sh : ℝ) (np nh : ℕ) (hp : np ≤ 1024) (hn : nh ≤ 20000) :
    Ideal.div (-(((ps * (1 / tau) : ℝ) : EReal) + ((mem * (1 / tau) : ℝ) : EReal))) (FloatOps.sitofp (F := Ideal) .f32 (IntOp.addi (BitVec.ofNat 32 np) 50#32))
      + Scalar.select (IntOp.cmpi .sgt (BitVec.ofNat 32 nh) 0#32) (Ideal.div ((sh * (1 / tau) : ℝ) : EReal) (FloatOps.sitofp (F := Ideal) .f32 (IntOp.maxsi (BitVec.ofNat 32 nh) 1#32)))
        (Ideal.div ((sv * (1 / tau) : ℝ) : EReal) (Ideal.ofBits .f32 1184634880#32))
      = ((lossOf ps np mem sv sh nh : ℝ) : EReal) := by
  have e1 : IntOp.addi (BitVec.ofNat 32 np) 50#32 = BitVec.ofNat 32 (np + 50) := (BitVec.ofNat_add _ _).symm
  rw [e1, maxsi_one (by omega), sitofp_small (by omega), sitofp_small (by omega), val_nvalid, show (0#32) = BitVec.ofNat 32 0 from rfl,
    sgt_small (by omega) (by omega), select_bit, ← EReal.coe_add, ← EReal.coe_neg,
    div_real _ _ (by positivity), div_real _ _ (by have : 0 < max nh 1 := by omega
                                                   exact_mod_cast this.ne'), div_real _ _ (by norm_num), coe_ite, ← EReal.coe_add]
  unfold lossOf
  rw [zero_sub]
  simp only [Nat.cast_add, Nat.cast_ofNat, Nat.cast_max, Nat.cast_one, Nat.cast_pos]

include h
/-- **The reference's result**: the mean of the anchors' losses over the written bank. -/
theorem RefIn.result : refOut W ix0 = (((∑ i : Fin 1024, lossR (rLab W) h.hlab f (newBank W) i) * (1 / 1024) : ℝ) : EReal) := by
  unfold refOut
  rw [meanOf_apply, val_batch]
  refine (congrArg (fun q => Ideal.div q ((1024 : ℝ) : EReal)) ((Finset.sum_congr rfl fun i _ => ?_).trans (coe_sum _ _))).trans ((div_real _ _ (by norm_num)).trans (congrArg _ (mul_one_div _ _).symm))
  rw [h.pos, h.mem, rcnt_apply, h.v90, h.sv, h.sh]
  refine (loss_apply _ _ _ _ _ _ (card_small _) (card_small _)).trans (congrArg _ ?_)
  rw [h.nh, card_real]
  rfl
end

end Cert.Proof
end
-- ==== Proof.Run.lean ====
/-
  The program's run: @main on the TensorCore through the four calls, the launch's ghost state, and what the memory holds at the end —
  every unscoped buffer of the TensorCore at the last valuation.
-/
module

public import proofs.«01_k».proof.Proof.Vals

@[expose] public section

noncomputable section

namespace Cert.Proof

open Cert.KernelIdeal Cert.KernelIdeal.Gen

open Idealize.ShloMosaic Idealize.ShloMosaic.TcCoe Idealize.ShloMosaic.StableHlo
open Idealize.ShloMosaic.SparseCore.Cfg (HIx Pay)
open Idealize.ShloMosaic.Pipeline (Dat RegionSeg pin arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The pipelines' rounds: the left half of the second component. -/
def EP : Emb UP (MT nD τ sig (HIx 1) (Elt F) ℕ UU ℕ) :=
  (Emb.inl : Emb UP (UP × Counters)).trans embR

instance EP_landsIn : (EP : Emb UP 𝕄).LandsIn (upEmb : UEmb _ 𝕄) := by unfold EP; infer_instance

variable (V : Dev nD → Valuation τ sig (Elt F))

/-! ## One TensorCore call -/

/-- A TensorCore call of @main, from the state before its segment to the state after. -/
theorem wp_region [∀ e, Nonempty (Elt F e)] {p : Fin 3} (R : RegionSeg (pcfgs (F := F)) adm (pdats V) none defs₀ 𝒱₀ (K (F := F)).L (K (F := F)).lev p) (c : Dev nD)
    {β : Type} (k : PUnit → Prog (TpuEff nD τ sig (Elt F) (SparseCore.Sig (ΛP (F := F)) 1) .tc) β) (Q : β → sProp 𝕄) :
    iprop((iprop(boundary (c.tc : Thread nD τ) ∗ R.post c) -∗ wp frame (wpE ((K (F := F)).defs (D (F := F))) 𝒱 (c.tc : Thread nD τ) none) Set.univ (k ⟨⟩) Q)
        ∗ boundary (c.tc : Thread nD τ) ∗ R.pre c ∗ levAts (K (F := F)).L (K (F := F)).lev
        ∗ Pipeline.cellsGhost (pin (pcfgs (F := F)) adm) EP p c ∗ Pipeline.toksInit (pin (pcfgs (F := F)) adm) EP p c)
      ⊢ wp frame (wpE ((K (F := F)).defs (D (F := F))) 𝒱 (c.tc : Thread nD τ) none) Set.univ
          (Prog.lift (.customCall (SparseCore.inner (Pipeline.entry p)) ()) >>= k) Q := by
  rw [wp_bind]
  iintro ⟨Hk, H⟩
  iapply ((K (F := F)).wp_liftProg (D (F := F)) 𝒱 (c.tc : Thread nD τ) Set.univ none (Prog.lift (.customCall (Pipeline.entry p) ())) _)
  iapply (RegionSeg.wp (pcfgs (F := F)) adm (pdats V) none cellOf_inj EP defs₀ 𝒱₀ (K (F := F)).L (K (F := F)).lev R c none (fun _ h => nomatch h)
    (fun x => (Prog.ret x : Prog (TpuEff nD τ sig (Elt F) (ΛP (F := F)) .tc) PUnit)) _)
  isplitl [Hk]
  · iintro H
    rw [wp_ret]
    imodintro
    iapply Hk; iexact H
  iexact H

/-! ## A stretch of the host's operations -/

/-- A stretch of host operations, over every unscoped buffer. -/
theorem wp_ops [∀ e, Nonempty (Elt F e)] (ops : List (HloOp τ sig (Elt F))) (hsub : ops.Forall fun op => op.bufs ⊆ StableHlo.tcRefs τ sig)
    (hfresh : ops.Forall fun op => op.fresh = ∅) (d : Dev nD) (W : Valuation τ sig (Elt F)) {β : Type}
    (k : PUnit → Prog (TpuEff nD τ sig (Elt F) (SparseCore.Sig (ΛP (F := F)) 1) .tc) β) (Q : β → sProp 𝕄) :
    iprop(boundary (d.tc : Thread nD τ) ∗ held (d.tc : Thread nD τ) (Pipeline.ucRefs τ sig) W
        ∗ (iprop(boundary (d.tc : Thread nD τ) ∗ held (d.tc : Thread nD τ) (Pipeline.ucRefs τ sig) (after ops W))
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ (StableHlo.seq ops >>= k) Q := by
  iintro ⟨Hb, Hh, Hk⟩
  iapply (StableHlo.wp_seq (defs := (K (F := F)).defs (D (F := F))) (𝒱 := 𝒱) (bd := none) (E := Set.univ) d (Pipeline.ucRefs τ sig) k ops
    (fun op hop => Pipeline.sub_ucRefs op ((List.forall_iff_forall_mem.mp hsub) op hop)) (List.forall_iff_forall_mem.mp hfresh) W) $$ [Hb Hh]
  · isplitl [Hb] <;> iassumption
  iexact Hk

/-! ## @main -/

/-- The rest of the TensorCore's state before call `n`. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(owedAt (F := F) n d ∗ tcRest d n) := rfl

/-- The pipelines' ghost state on device `d`. -/
def G (d : Dev nD) : sProp 𝕄 :=
  iprop((Pipeline.cellsGhost (pin (pcfgs (F := F)) adm) EP 0 d ∗ Pipeline.toksInit (pin (pcfgs (F := F)) adm) EP 0 d)
    ∗ (Pipeline.cellsGhost (pin (pcfgs (F := F)) adm) EP 1 d ∗ Pipeline.toksInit (pin (pcfgs (F := F)) adm) EP 1 d)
    ∗ (Pipeline.cellsGhost (pin (pcfgs (F := F)) adm) EP 2 d ∗ Pipeline.toksInit (pin (pcfgs (F := F)) adm) EP 2 d))

/-- The three buffers of the gather. -/
abbrev gBufs : Finset (DevRef τ sig) := {Proc.devRef .tc main_v11, Proc.devRef .tc main_v3, Proc.devRef .tc main_v12}

theorem gBufs_sub : gBufs ⊆ Pipeline.ucRefs τ sig := by decide

theorem held_gBufs (d : Dev nD) (W : Valuation τ sig (Elt F)) :
    (held (d.tc : Thread nD τ) gBufs W : sProp 𝕄)
      = iprop((iLoc d ↦{fullShare} W (Proc.devRef .tc main_v11)) ∗ (tLoc d ↦{fullShare} W (Proc.devRef .tc main_v3)) ∗ oLoc d ↦{fullShare} W (Proc.devRef .tc main_v12)) := by
  unfold held
  rw [SparseCore.bigSep_insert' (by decide), SparseCore.bigSep_insert' (by decide), bigSep_singleton]

/-- The buffers besides the gather's are as they were. -/
theorem held_rest (d : Dev nD) :
    (held (d.tc : Thread nD τ) (Pipeline.ucRefs τ sig \ gBufs) (V4 V d) : sProp 𝕄) = held (d.tc : Thread nD τ) (Pipeline.ucRefs τ sig \ gBufs) (V3 V d) :=
  StableHlo.held_congr _ fun b hb => Function.update_of_ne (fun h => (Finset.mem_sdiff.mp hb).2 (by rw [h]; decide)) _ _

/-- What the gather takes out of every buffer. -/
theorem held_V3 (d : Dev nD) : (held (d.tc : Thread nD τ) (Pipeline.ucRefs τ sig) (V3 V d) : sProp 𝕄)
    = iprop(((iLoc d ↦{fullShare} ixOf V d) ∗ (tLoc d ↦{fullShare} tbOf V d) ∗ oLoc d ↦{fullShare} oOf V d)
        ∗ held (d.tc : Thread nD τ) (Pipeline.ucRefs τ sig \ gBufs) (V3 V d)) := by
  rw [StableHlo.held_sub_split (d.tc : Thread nD τ) gBufs_sub (V3 V d), held_gBufs]

/-- What the gather gives back, with the rest, is every buffer at the next valuation. -/
theorem held_V4 (d : Dev nD) : (held (d.tc : Thread nD τ) (Pipeline.ucRefs τ sig) (V4 V d) : sProp 𝕄)
    = iprop(((iLoc d ↦{fullShare} ixOf V d) ∗ (tLoc d ↦{fullShare} tbOf V d) ∗ oLoc d ↦{fullShare} gOut (tbOf V) (ixOf V) d)
        ∗ held (d.tc : Thread nD τ) (Pipeline.ucRefs τ sig \ gBufs) (V3 V d)) := by
  rw [StableHlo.held_sub_split (d.tc : Thread nD τ) gBufs_sub (V4 V d), held_rest, held_gBufs,
    show V4 V d (Proc.devRef .tc main_v11) = ixOf V d from Function.update_of_ne (StableHlo.devRef_ne_of_ne (by decide)) _ _,
    show V4 V d (Proc.devRef .tc main_v3) = tbOf V d from Function.update_of_ne (StableHlo.devRef_ne_of_ne (by decide)) _ _,
    show V4 V d (Proc.devRef .tc main_v12) = gOut (tbOf V) (ixOf V) d from Function.update_self ..]

/-- The gather's payload, at what it finds. -/
abbrev Pv : (K (F := F)).Pay (nD := nD) (Val := Elt F) (Name := ℕ) (U := UU) := P (tbOf V) (ixOf V) (oOf V)

/-- What the thread ends with: every unscoped buffer at the last valuation. -/
abbrev FIN (d : Dev nD) : sProp 𝕄 := held (d.tc : Thread nD τ) (Pipeline.ucRefs τ sig) (V9 V d)

variable (m : (ℓ : Loc nD τ sig) → Buf (Elt F) ℓ) (ρ : Dev nD → PrngReg)

/-- The launch memory, as the TensorCore's valuation. -/
abbrev V0 (c : Dev nD) : Valuation τ sig (Elt F) := fun b => m (c, b)

set_option maxHeartbeats 1000000 in
theorem hmain [∀ e, Nonempty (Elt F e)] (κ : GSem nD τ sig → ℕ) (d : Dev nD) :
    iprop((K (F := F)).ctx EH (Pv (V0 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN (V0 m) d ∗ (K (F := F)).tcEnd d) := by
  unfold SparseCore.Cfg.tcRes SparseCore.Cfg.tcEnd G
  rw [show (unscopedBufs d (fun b => m ((SparseCore.T d : Thread nD τ).loc b)) : sProp 𝕄) = held (d.tc : Thread nD τ) (Pipeline.ucRefs τ sig) (V0 m d) from
    Pipeline.unscopedBufs_held d (V0 m d), tcSt_eq, tcSt_eq, main_chain]
  simp only [Pipeline.chain_cons]
  iintro ⟨#Hctx, ⟨HO, Hst⟩, ⟨Hb, Hh, Hts, -⟩, ⟨⟨Hc0, Ht0⟩, ⟨Hc1, Ht1⟩, ⟨Hc2, Ht2⟩⟩⟩
  ihave #Hlev := (SparseCore.Cfg.ctx_levAts κ) $$ Hctx
  -- before the first call
  iapply (wp_ops ops0 ops0_sub ⟨rfl, rfl⟩ d (V0 m d) _ _)
  isplitl [Hb]; · iexact Hb
  isplitl [Hh]; · iexact Hh
  iintro ⟨Hb, Hh⟩
  iapply (wp_region (V0 m) (seg0 (V0 m)) d _ _)
  isplitr [Hb Hh HO Hc0 Ht0]
  swap
  · isplitl [Hb]; · iexact Hb
    isplitl [Hh HO]
    · iapply (Entails.of_eq (show (tcAt 0 (V1 (V0 m)) d : sProp 𝕄) = (seg0 (V0 m)).pre d from rfl))
      unfold tcAt
      isplitl [Hh] <;> iassumption
    isplitr; · iexact Hlev
    isplitl [Hc0] <;> iassumption
  iintro ⟨Hb, Hp⟩
  ihave Hp' := (Entails.of_eq (show (seg0 (V0 m)).post d = (tcAt 0 (V2 (V0 m)) d : sProp 𝕄) from rfl)) $$ Hp
  unfold tcAt
  icases Hp' with ⟨Hh, HO⟩
  -- up to the gather
  iapply (wp_ops ops1 ops1_sub ⟨rfl, rfl, rfl, rfl, rfl, rfl, rfl, rfl, rfl, rfl⟩ d (V2 (V0 m) d) _ _)
  isplitl [Hb]; · iexact Hb
  isplitl [Hh]; · iexact Hh
  iintro ⟨Hb, Hh⟩
  ihave Hs := (Entails.of_eq (held_V3 (V0 m) d)) $$ Hh
  icases Hs with ⟨⟨Hi, Ht, Ho⟩, Hh⟩
  rw [wp_bind]
  iapply ((K (F := F)).wp_run (D (F := F)) 𝒱 (EH := EH) (P := Pv (V0 m)) κ d 0)
  isplitr; · iexact Hctx
  isplitl [HO Hst]
  · iapply (Entails.of_eq (show iprop(owedAt (F := F) 0 d ∗ tcRest d 0) = ((K (F := F)).tcSt EH d (0 : Fin 1).val : sProp 𝕄) from rfl))
    isplitl [HO] <;> iassumption
  isplitl [Hi Ht Ho]
  · rw [st_eq]
    isplitl [Hi]; · iexact Hi
    isplitl [Ht]; · iexact Ht
    iexact Ho
  iintro ⟨HS, Hdn⟩
  ihave Hdn' := (Entails.of_eq (dn_eq (tbOf (V0 m)) (ixOf (V0 m)) (oOf (V0 m)) d)) $$ Hdn
  icases Hdn' with ⟨Hi, Ht, Ho⟩
  ihave HS' := (Entails.of_eq (show ((K (F := F)).tcSt EH d ((0 : Fin 1).val + 1) : sProp 𝕄) = iprop(owedAt (F := F) 1 d ∗ tcRest d 1) from rfl)) $$ HS
  icases HS' with ⟨HO, Hst⟩
  ihave Hh' := (Entails.of_eq (held_V4 (V0 m) d).symm) $$ [Hi Ht Ho Hh]
  · isplitr [Hh]
    · isplitl [Hi]; · iexact Hi
      isplitl [Ht]; · iexact Ht
      iexact Ho
    iexact Hh
  iapply (wp_ops ops2a ops2a_sub ⟨rfl, rfl, rfl, rfl⟩ d (V4 (V0 m) d) _ _)
  isplitl [Hb]; · iexact Hb
  isplitl [Hh']; · iexact Hh'
  iintro ⟨Hb, Hh⟩
  iapply (wp_ops ops2b ops2b_sub ⟨rfl, rfl, rfl, rfl, rfl, rfl, rfl, rfl, rfl, rfl, rfl, rfl, rfl, rfl, rfl, rfl, rfl⟩ d (after ops2a (V4 (V0 m) d)) _ _)
  isplitl [Hb]; · iexact Hb
  isplitl [Hh]; · iexact Hh
  iintro ⟨Hb, Hh⟩
  iapply (wp_ops ops2c ops2c_sub rfl d (after ops2b (after ops2a (V4 (V0 m) d))) _ _)
  isplitl [Hb]; · iexact Hb
  isplitl [Hh]; · iexact Hh
  iintro ⟨Hb, Hh⟩
  -- the main pass
  iapply (wp_region (V0 m) (seg1 (V0 m)) d _ _)
  isplitr [Hb Hh HO Hc1 Ht1]
  swap
  · isplitl [Hb]; · iexact Hb
    isplitl [Hh HO]
    · iapply (Entails.of_eq (show (tcAt 1 (V5 (V0 m)) d : sProp 𝕄) = (seg1 (V0 m)).pre d from rfl))
      unfold tcAt
      isplitl [Hh] <;> iassumption
    isplitr; · iexact Hlev
    isplitl [Hc1] <;> iassumption
  iintro ⟨Hb, Hp⟩
  ihave Hp' := (Entails.of_eq (show (seg1 (V0 m)).post d = (tcAt 1 (V6 (V0 m)) d : sProp 𝕄) from rfl)) $$ Hp
  unfold tcAt
  icases Hp' with ⟨Hh, HO⟩
  iapply (wp_ops ops3 ops3_sub ⟨rfl, rfl, rfl, rfl⟩ d (V6 (V0 m) d) _ _)
  isplitl [Hb]; · iexact Hb
  isplitl [Hh]; · iexact Hh
  iintro ⟨Hb, Hh⟩
  -- the last call
  iapply (wp_region (V0 m) (seg2 (V0 m)) d _ _)
  isplitr [Hb Hh HO Hc2 Ht2]
  swap
  · isplitl [Hb]; · iexact Hb
    isplitl [Hh HO]
    · iapply (Entails.of_eq (show (tcAt 1 (V7 (V0 m)) d : sProp 𝕄) = (seg2 (V0 m)).pre d from rfl))
      unfold tcAt
      isplitl [Hh] <;> iassumption
    isplitr; · iexact Hlev
    isplitl [Hc2] <;> iassumption
  iintro ⟨Hb, Hp⟩
  ihave Hp' := (Entails.of_eq (show (seg2 (V0 m)).post d = (tcAt 1 (V8 (V0 m)) d : sProp 𝕄) from rfl)) $$ Hp
  unfold tcAt
  icases Hp' with ⟨Hh, HO⟩
  iapply (wp_ops ops4 ops4_sub rfl d (V8 (V0 m) d) _ _)
  isplitl [Hb]; · iexact Hb
  isplitl [Hh]; · iexact Hh
  iintro ⟨Hb, Hh⟩
  rw [Pipeline.chain_nil, wp_pure]
  imodintro
  isplitl [HO Hst]
  · isplitl [HO] <;> iassumption
  isplitl [Hh]; · iexact Hh
  isplitl [Hb] <;> iassumption

/-! ## The launch's ghost state -/

/-- The launch element: the handshakes' rounds, the pipelines' rounds, no counters. -/
def u₀ : UU := (initOf (K (F := F)).hsCells (K (F := F)).hsToks,
  (initOf (Pipeline.cells (nD := nD) (pin (pcfgs (F := F)) adm) cellOf_inj) (Pipeline.launchToks (pin (pcfgs (F := F)) adm) cellOf_inj), 1))

theorem G_intro : (iprop((bigSep Finset.univ fun c : Dev nD => bigSep Finset.univ fun p => Pipeline.cellsGhost (pin (pcfgs (F := F)) adm) EP p c)
      ∗ bigSep Finset.univ fun c : Dev nD => bigSep Finset.univ fun p => Pipeline.toksInit (pin (pcfgs (F := F)) adm) EP p c) : sProp 𝕄)
    = bigSep Finset.univ fun d => G (F := F) d := by
  rw [← bigSep_sep']
  refine bigSep_congr fun d _ => ?_
  rw [← bigSep_sep']
  exact bigSep_univ_eq_bigSepL [(0 : Fin 3), (1 : Fin 3), (2 : Fin 3)] (by decide) (by decide) _

theorem own_EP (a : UP) (b : Counters) : (BI.own ((embR (A := UH) (B := UP × Counters) : Emb (UP × Counters) 𝕄) (a, b)) : sProp 𝕄) ⊢ BI.own (EP (F := F) a) := by
  unfold EP
  exact (own_pair_emb _ _ _).trans sep_elim_left

theorem emps (PP : (K (F := F)).Pay (nD := nD) (Val := Elt F) (Name := ℕ) (U := UU)) (hPP : ∀ q thr, PP.x q thr = iprop(emp)) :
    (bigSep Finset.univ fun thr : Thread nD τ => bigSep Finset.univ fun q : Fin 1 => PP.x q thr) = (iprop(emp) : sProp 𝕄) :=
  (bigSep_congr fun thr _ => (bigSep_univ_of_subsingleton (0 : Fin 1)).trans (hPP 0 thr)).trans (bigSep_emp_const _)

theorem hu₀ (PP : (K (F := F)).Pay (nD := nD) (Val := Elt F) (Name := ℕ) (U := UU)) (hPP : ∀ q thr, PP.x q thr = iprop(emp)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => PP.x q thr) := by
  unfold u₀
  iintro Hu
  ihave H := (ownU_pair (initOf (K (F := F)).hsCells (K (F := F)).hsToks) _) $$ Hu
  icases H with ⟨HH, HR⟩
  ihave HP := (own_EP _ _) $$ HR
  imod (Pipeline.fund_ghost (pin (pcfgs (F := F)) adm) EP cellOf_inj) $$ HP with HG
  imodintro
  isplitl [HH]; · iexact HH
  isplitl [HG]
  · iapply (Entails.of_eq G_intro); iexact HG
  iapply (Entails.of_eq (emps PP hPP).symm)
  iempintro

/-! ## The end -/

/-- What the memory holds at the end on device `d`. -/
def fq (d : Dev nD) (s' : Phys nD τ sig (Elt F)) : Prop := ∀ b ∈ Pipeline.ucRefs τ sig, s'.mem.mem (d, b) = V9 (V0 m) d b

theorem hfin (d : Dev nD) (s' : Phys nD τ sig (Elt F)) : iprop(FIN (V0 m) d ∗ SI s') ⊢ (⌜fq m d s'⌝ : sProp 𝕄) :=
  (pointsTo_read_all (Pipeline.ucRefs τ sig) (fun b => (d, b)) (V9 (V0 m) d) s').trans sep_elim_left

/-- The end state: every unscoped buffer of each TensorCore at the last valuation, and the semaphores at zero. -/
def QC : PUnit × MemSt nD τ sig (Elt F) → Prop :=
  fun r => (∀ c : Dev nD, ∀ b ∈ Pipeline.ucRefs τ sig, r.2.mem (c, b) = V9 (V0 m) c b) ∧ r.2.sem = fun _ => 0

/-- THE RUN. From any launch memory whose index list names rows of the table, the program runs to the end state. -/
theorem run_main [∀ e, Nonempty (Elt F e)] (hok : IxOK (ixOf (V0 m))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pv (V0 m)) (A := ∅) facts v₀
    (fun q hq => match q with | 0 => nomatch hq)
    (fun q _ => match q with | 0 => tileObl (tbOf (V0 m)) (ixOf (V0 m)) (oOf (V0 m)) facts hok)
    (fun q _ => match q with | 0 => SparseCore.Cfg.VecSplit.of_plain (vecSplit (tbOf (V0 m)) (ixOf (V0 m)) (oOf (V0 m))))
    m ρ main (fun d => G (F := F) d) (FIN (V0 m)) (u₀ (F := F)) (sep_elim_left.trans (hu₀ (Pv (V0 m)) fun _ _ => rfl)) (hmain m ρ) (fq m) (hfin m) (QC m) (fun _ h hz => ⟨h, hz⟩)

end Cert.Proof

end
-- ==== Proof.Frames.lean ====
/-
  The frames: each program runs, and leaves its arguments and the counters as they were.
-/
module

public import proofs.«01_k».proof.Defs
public import proofs.«01_k».proof.Proof.Run
public import proofs.«01_k».proof.Proof.Ints
public import proofs.«01_k».proof.Proof.BitsNamed
public import proofs.«01_k».proof.Proof.Gen.ReferenceIdeal
public import proofs.«01_k».proof.Proof.Gen.ReferenceIdeal.Run
public import proofs.«01_k».proof.Proof.Gen.Pre_labels_in_range

@[expose] public section

noncomputable section

namespace Cert.Proof

open Idealize.ShloMosaic Idealize.ShloMosaic.TcCoe Idealize.SL.Sem

/-- A word from 0 to 999, read as the precondition reads it. -/
theorem lt_of_pre (v : BitVec 32) (e : IntOp.andi (IntOp.cmpi .sge v 0#32) (IntOp.cmpi .slt v 1000#32) = 1#1) : v.toNat < 1000 := by
  have key : ∀ p q : Bool, IntOp.andi (BitVec.ofBool p) (BitVec.ofBool q) = 1#1 → p = true ∧ q = true := by decide
  have ⟨h0, h1⟩ := key _ _ e
  simp only [BitVec.sle_eq_decide, BitVec.slt_eq_decide, decide_eq_true_eq, BitVec.toInt_eq_toNat_cond, BitVec.toNat_ofNat, Nat.reducePow, Nat.reduceMod] at h0 h1
  omega

section
variable {F : FTy → Type} [FloatOps F]
open Cert.KernelIdeal

theorem labOK_of_fn (m : (ℓ : Loc nD τ sig) → Buf (Elt F) ℓ)
    (h : ∀ c : Dev nD, Cert.Pre_labels_in_range.fn (F := F) (m ((c.tc : Thread nD τ).loc main_arg0)) (m ((c.tc : Thread nD τ).loc main_arg1)) (m ((c.tc : Thread nD τ).loc main_arg2)) = fun _ => 1#1) :
    LabOK (V0 m) := fun c i => lt_of_pre _ (by
  have e := congrFun (h c) (ix1 i)
  simp only [Cert.Pre_labels_in_range.fn, andi, cmpi, broadcastInDim, constantI] at e
  exact e)

theorem uc_arg0 : (Proc.devRef .tc main_arg0 : DevRef τ sig) ∈ Pipeline.ucRefs τ sig := Finset.mem_filter.mpr ⟨StableHlo.devRef_mem_tcRefs _, by decide⟩
theorem uc_arg1 : (Proc.devRef .tc main_arg1 : DevRef τ sig) ∈ Pipeline.ucRefs τ sig := Finset.mem_filter.mpr ⟨StableHlo.devRef_mem_tcRefs _, by decide⟩
theorem uc_arg2 : (Proc.devRef .tc main_arg2 : DevRef τ sig) ∈ Pipeline.ucRefs τ sig := Finset.mem_filter.mpr ⟨StableHlo.devRef_mem_tcRefs _, by decide⟩

variable [Named F]

/-- The arguments and the counters after the run. -/
theorem frame_of (m : (ℓ : Loc nD τ sig) → Buf (Elt F) ℓ) (ρ : Dev nD → PrngReg) [∀ e, Nonempty (Elt F e)] (h : LabOK (V0 m)) :
    θ_run (defs (F := F)) (threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun _ hr => ⟨fun c =>
    ⟨(hr.1 c (Proc.devRef .tc main_arg0) (uc_arg0)).trans (V9_arg0 (V0 m) c),
      (hr.1 c (Proc.devRef .tc main_arg1) (uc_arg1)).trans (V9_arg1 (V0 m) c),
      (hr.1 c (Proc.devRef .tc main_arg2) (uc_arg2)).trans (V9_arg2 (V0 m) c)⟩, hr.2⟩)
    (run_main m ρ (ixOK_of_lab _ h))

end

set_option maxHeartbeats 4000000 in
/-- The kernel as printed, on machine floats. -/
theorem frame_kernel : Cert.quiescent_Kernel := by
  intro m ρ hpre
  have hl := labOK_of_fn (F := Bits) m hpre
  have key := frame_of (F := Bits) m ρ hl
  have e := congrArg₂ (fun d t => θ_run d t ⟨m, fun _ => 0, ρ⟩ fun r =>
      (∀ c : Dev Cert.Kernel.nD, r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
        ∧ r.2.sem = fun _ => 0) defs_eq threads_eq
  exact e.mpr key

/-- Its idealization, on the extended reals. -/
theorem frame_ideal : Cert.quiescent_KernelIdeal := fun m ρ hpre =>
  frame_of (F := Ideal) m ρ (labOK_of_fn m hpre)

/-- The reference. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is the literal's value at machine floats and the reciprocal of the temperature at the extended reals. -/
theorem preserves : Cert.preserves_Kernel_KernelIdeal :=
  IdealRules.named_const.statement Cert.KernelIdeal.κ "inv_t" .f32 0x41649249#32 ((134217728 / 9395241 : ℝ) : EReal) rfl

end Cert.Proof

end
-- ==== Proof.FramesFin.lean ====
/-
  The frames under the precondition of the value claim: the labels name classes, and the memory bank is finite.
-/
module

public import proofs.«01_k».proof.Proof.Frames
public import proofs.«01_k».proof.Proof.Gen.Pre_labels_in_range_bank_finite

@[expose] public section

noncomputable section

namespace Cert.Proof

open Idealize.ShloMosaic Idealize.ShloMosaic.TcCoe Idealize.SL.Sem

/-- The precondition with a finite bank says that the labels name classes. -/
theorem labOK_of_fin (m : (ℓ : Loc Cert.KernelIdeal.nD Cert.KernelIdeal.τ Cert.KernelIdeal.sig) → Buf (Elt Ideal) ℓ)
    (hpre : Cert.Pre_KernelIdeal_labels_in_range_bank_finite m) : LabOK (V0 m) := fun c i => lt_of_pre _ (by
  have e := congrFun (hpre c).1 (ix1 i)
  simp only [Cert.Pre_labels_in_range_bank_finite.fn, andi, cmpi, broadcastInDim, constantI] at e
  exact e)

theorem frame_ideal_fin : Cert.quiescent_KernelIdeal_pre_labels_in_range_bank_finite := fun m ρ hpre =>
  frame_of (F := Ideal) m ρ (labOK_of_fin m hpre)

theorem frame_ref_fin : Cert.quiescent_ReferenceIdeal_pre_labels_in_range_bank_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Final.lean ====
/-
  The value claim: the kernel's result is the reference's.
-/
module

public import proofs.«01_k».proof.Proof.RefVal
public import proofs.«01_k».proof.Proof.FramesFin

@[expose] public section
set_option maxRecDepth 16384
noncomputable section
namespace Cert.Proof
open Idealize.ShloMosaic Idealize.ShloMosaic.TcCoe Idealize.SL.Sem

/-! ## The unit rows are real -/

theorem val_eps : ∃ e : ℝ, 0 < e ∧ Ideal.ofBits .f32 730643660#32 = ((e : ℝ) : EReal) := by
  refine ⟨9223372 * (2 : ℝ) ^ (-63 : ℤ), by positivity, ?_⟩
  simp [Ideal.ofBits, Ideal.ieee, -EReal.coe_mul]

theorem sq_nonneg_ereal (x : EReal) : 0 ≤ x * x := by
  induction x with
  | bot => simp
  | top => simp
  | coe r => rw [← EReal.coe_mul]; exact EReal.coe_nonneg.mpr (mul_self_nonneg r)

/-- A row's entry divided by the row's length, held at least `ε`, is real, whatever the row holds. -/
theorem unit_real {n : ℕ} (x : Fin n → EReal) (k : Fin n) (e : ℝ) (he : 0 < e) :
    ∃ r : ℝ, Ideal.div (x k) (max (Ideal.sqrt (∑ i, x i * x i)) (e : EReal)) = ((r : ℝ) : EReal) := by
  have hk : x k * x k ≤ ∑ i, x i * x i := Finset.single_le_sum (f := fun i => x i * x i) (fun i _ => sq_nonneg_ereal _) (Finset.mem_univ k)
  have h0 : 0 ≤ ∑ i, x i * x i := Finset.sum_nonneg fun i _ => sq_nonneg_ereal _
  generalize (∑ i, x i * x i) = S at hk h0
  generalize x k = y at hk
  induction S with
  | bot => exact absurd h0 (by simp)
  | top =>
    refine ⟨0, ?_⟩
    rw [Ideal.sqrt_top, max_eq_left le_top]
    unfold Ideal.div
    simp
  | coe s =>
    have hs : 0 ≤ s := EReal.coe_nonneg.mp h0
    induction y with
    | bot => exact absurd hk (by simp)
    | top => exact absurd hk (by simp)
    | coe y =>
      refine ⟨y / max (Real.sqrt s) e, ?_⟩
      rw [Ideal.sqrt_coe, if_neg (not_lt.mpr hs), ← EReal.coe_strictMono.monotone.map_max]
      exact div_real _ _ (lt_of_lt_of_le he (le_max_right _ _)).ne'

theorem k0_apply (a : FVec Ideal Cert.KernelIdeal.S1024x512 .f32) (i : Fin 1024) (k : Fin 512) :
    Cert.KernelIdeal.Gen.k0_pay2 (F := Ideal) a (ix2 i k) = Ideal.div (a (ix2 i k)) (max (Ideal.sqrt (∑ x : Fin 512, a (ix2 i x) * a (ix2 i x))) (Ideal.ofBits .f32 730643660#32)) := by
  pointwise [Cert.KernelIdeal.Gen.k0_pay2]

section
open Cert.ReferenceIdeal Cert.ReferenceIdeal.Value Cert.ReferenceIdeal.Facts₀
theorem v4_apply (W : Valuation τ sig (Elt Ideal)) (i : Fin 1024) (k : Fin 512) : (res_main_v4 W : FVec Ideal S1024x512 .f32) (ix2 i k)
    = Cert.KernelIdeal.Gen.k0_pay2 (F := Ideal) (W (Proc.devRef .tc main_arg0) : FVec Ideal S1024x512 .f32) (ix2 i k) := by
  rw [k0_apply]
  unfold res_main_v4
  clean_types
  pointwise
end

/-- The unit rows' real numbers. -/
def unitRow (a : FVec Ideal Cert.KernelIdeal.S1024x512 .f32) (j : Fin 1024) (k : Fin 512) : ℝ := EReal.toReal (Cert.KernelIdeal.Gen.k0_pay2 (F := Ideal) a (ix2 j k))
theorem unitRow_eq (a : FVec Ideal Cert.KernelIdeal.S1024x512 .f32) (j : Fin 1024) (k : Fin 512) :
    Cert.KernelIdeal.Gen.k0_pay2 (F := Ideal) a (ix2 j k) = ((unitRow a j k : ℝ) : EReal) := by
  obtain ⟨e, he, hv⟩ := val_eps
  obtain ⟨r, hr⟩ := unit_real (fun i => a (ix2 j i)) k e he
  have h : Cert.KernelIdeal.Gen.k0_pay2 (F := Ideal) a (ix2 j k) = ((r : ℝ) : EReal) := by rw [k0_apply, hv]; exact hr
  unfold unitRow
  rw [h, EReal.toReal_coe]

/-! ## The bank is real -/

theorem fold_and_one {ι : Type} (s : Finset ι) (p : ι → Prop) [DecidablePred p] (h : Finset.fold IntOp.andi 1#1 (fun x => BitVec.ofBool (decide (p x))) s = 1#1) :
    ∀ x ∈ s, p x := by
  classical
  induction s using Finset.induction_on with
  | empty => simp
  | insert a s ha ih =>
    rw [Finset.fold_insert ha] at h
    have key : ∀ (b : Bool) (w : BitVec 1), IntOp.andi (BitVec.ofBool b) w = 1#1 → b = true ∧ w = 1#1 := by decide
    have ⟨h1, h2⟩ := key _ _ h
    intro x hx
    rcases Finset.mem_insert.mp hx with rfl | hx
    · exact of_decide_eq_true h1
    · exact ih h2 x hx

theorem val_inf : Ideal.ofBits .f32 2139095040#32 = ⊤ := by
  simp [Ideal.ofBits, Ideal.ieee]

/-- The bank's real numbers. -/
def bankOf (a : FVec Ideal Cert.KernelIdeal.S1000x200x512 .f32) (q : Fin 1000) (s : Fin 200) (k : Fin 512) : ℝ := EReal.toReal (a (ix3 q s k))
theorem bankOf_eq (a0 a1) (a : FVec Ideal Cert.KernelIdeal.S1000x200x512 .f32) (h : (Cert.Pre_labels_in_range_bank_finite.fn a0 a1 a).2 = fun _ => 1#1)
    (q : Fin 1000) (s : Fin 200) (k : Fin 512) : a (ix3 q s k) = ((bankOf a q s k : ℝ) : EReal) := by
  have e : (Cert.Pre_labels_in_range_bank_finite.fn a0 a1 a).2 ix0 = Finset.fold IntOp.andi (1#1)
      (fun k : Fin 1000 × Fin 200 × Fin 512 => BitVec.ofBool (decide (max (a (ix3 k.1 k.2.1 k.2.2)) (-(a (ix3 k.1 k.2.1 k.2.2))) < Ideal.ofBits FTy.f32 2139095040#32))) Finset.univ := by
    pointwise [Cert.Pre_labels_in_range_bank_finite.fn]
    rfl
  have hx := fold_and_one _ _ (e.symm.trans (congrFun h ix0)) (q, s, k) (Finset.mem_univ _)
  rw [val_inf] at hx
  unfold bankOf
  refine (EReal.coe_toReal (fun ht => ?_) fun hb => ?_).symm
  · rw [show a (ix3 q s k) = ⊤ from ht] at hx; simp at hx
  · rw [show a (ix3 q s k) = ⊥ from hb] at hx; simp at hx

/-! ## The claim -/

theorem uc_v24 : (Proc.devRef .tc Cert.KernelIdeal.main_v24 : DevRef Cert.KernelIdeal.τ Cert.KernelIdeal.sig) ∈ Pipeline.ucRefs Cert.KernelIdeal.τ Cert.KernelIdeal.sig :=
  Finset.mem_filter.mpr ⟨StableHlo.devRef_mem_tcRefs _, by decide⟩

/-- **The kernel and the reference compute the same result** on the extended reals, when the labels name classes and the bank is finite. -/
theorem algebraic : Cert.algebraic_KernelIdeal_ReferenceIdeal_pre_labels_in_range_bank_finite := by
  intro m g m' g' hpre hargs
  have hl : LabOK (V0 m) := labOK_of_fin m hpre
  refine ⟨fun c => V9 (V0 m) c (Proc.devRef .tc Cert.KernelIdeal.main_v24), ?_, ?_⟩
  · exact (θ_run Cert.KernelIdeal.defs _ _).mono (fun _ hr c =>
      ⟨hr.1 c (Proc.devRef .tc Cert.KernelIdeal.main_v24) uc_v24,
        (hr.1 c (Proc.devRef .tc Cert.KernelIdeal.main_arg0) uc_arg0).trans (V9_arg0 (V0 m) c),
        (hr.1 c (Proc.devRef .tc Cert.KernelIdeal.main_arg1) uc_arg1).trans (V9_arg1 (V0 m) c),
        (hr.1 c (Proc.devRef .tc Cert.KernelIdeal.main_arg2) uc_arg2).trans (V9_arg2 (V0 m) c)⟩)
      (run_main m g (ixOK_of_lab _ hl))
  · refine (θ_run Cert.ReferenceIdeal.defs _ _).mono (fun r hr c => ⟨(hr c).1.trans ?_, (hr c).2⟩) (Cert.ReferenceIdeal.Value.run (F := Ideal) m' g')
    have e0 := (hargs c).1
    have e1 := (hargs c).2.1
    have e2 := (hargs c).2.2
    let W : Valuation Cert.ReferenceIdeal.τ Cert.ReferenceIdeal.sig (Elt Ideal) := StableHlo.launchContents m' c
    let f := unitRow (m ((c.tc : Thread Cert.KernelIdeal.nD Cert.KernelIdeal.τ).loc Cert.KernelIdeal.main_arg0))
    let bk := bankOf (m ((c.tc : Thread Cert.KernelIdeal.nD Cert.KernelIdeal.τ).loc Cert.KernelIdeal.main_arg2))
    have hK : RealIn (V0 m) c f bk := ⟨hl, fun j k => unitRow_eq _ j k, fun q s k => bankOf_eq _ _ _ (hpre c).2 q s k⟩
    have eL : rLab W = labOf (xLab (V0 m) c) := congrArg labOf e1
    have hR : RefIn W f bk := ⟨fun j => by rw [eL]; exact hl c j,
      fun j k => (v4_apply W j k).trans ((congrArg (fun a => Cert.KernelIdeal.Gen.k0_pay2 (F := Ideal) a (ix2 j k)) e0).trans (unitRow_eq _ j k)),
      fun q s k => (congrFun e2 (ix3 q s k)).trans (bankOf_eq _ _ _ (hpre c).2 q s k)⟩
    refine Eq.trans (b := refOut W) rfl (funext fun j => ?_)
    rw [show j = ix0 from funext fun a => a.elim0]
    refine hR.result.trans (Eq.trans ?_ hK.result.symm)
    congr 2
    refine Finset.sum_congr rfl fun i _ => ?_
    rw [← hR.written.loss i]
    congr 1
end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_labels_in_range
public import proofs.«01_k».proof.Proof.Gen.Pre_labels_in_range_bank_finite
public import Idealize.ShloMosaic.Adequacy
public import Idealize.ShloMosaic.Init
public import proofs.«01_k».proof.Proof.BitsNamed
public import proofs.«01_k».proof.Proof.Final

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_labels_in_range.Gen.facts, Cert.Pre_labels_in_range_bank_finite.Gen.facts,
  frame_kernel, frame_ideal, frame_ideal_fin, frame_ref, frame_ref_fin, preserves, algebraic⟩

end Cert.Proof

end
